-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x1024x92 : Shape := ⟨3, ![256, 1024, 92]⟩
abbrev S256 : Shape := ⟨1, ![256]⟩
abbrev S_ : Shape := ⟨0, ![]⟩

class Facts : Prop where
  bcast_S_S256x1024x92 : S_.BroadcastsInDim S256x1024x92 (![] : Fin 0 → Fin S256x1024x92.rank)

variable [Facts]

def fn {F : FTy → Type} [FloatOps F] (main_arg0 : FVec F S256x1024x92 .f32) (main_arg1 : IVec S256 32) : IVec S256x1024x92 1 :=
  let main_v0 : FVec F S256x1024x92 .f32 := Host.absf main_arg0
  let main_cst : FVec F S_ .f32 := constant S_ .f32 0x7F800000#32
  let main_v1 : FVec F S256x1024x92 .f32 := broadcastInDim S256x1024x92 ![] bcast_S_S256x1024x92 main_cst
  let main_v2 : IVec S256x1024x92 1 := cmpf .olt main_v0 main_v1
  main_v2
-- ==== Kernel.lean ====
abbrev S256x1024x92 : Shape := ⟨3, ![256, 1024, 92]⟩
abbrev S256 : Shape := ⟨1, ![256]⟩
abbrev S_ : Shape := ⟨0, ![]⟩
abbrev S256x1024 : Shape := ⟨2, ![256, 1024]⟩
abbrev S256x1024x1 : Shape := ⟨3, ![256, 1024, 1]⟩
abbrev S1024x256x92 : Shape := ⟨3, ![1024, 256, 92]⟩
abbrev S2x1x128 : Shape := ⟨3, ![2, 1, 128]⟩
abbrev S1024x256 : Shape := ⟨2, ![1024, 256]⟩
abbrev S1x1x128 : Shape := ⟨3, ![1, 1, 128]⟩
abbrev S128x128x92 : Shape := ⟨3, ![128, 128, 92]⟩
abbrev S1024x128 : Shape := ⟨2, ![1024, 128]⟩
abbrev S10x128 : Shape := ⟨2, ![10, 128]⟩
abbrev S1024x10x128 : Shape := ⟨3, ![1024, 10, 128]⟩
abbrev S1x128 : Shape := ⟨2, ![1, 128]⟩
abbrev S10x128x92 : Shape := ⟨3, ![10, 128, 92]⟩
abbrev S1x128x92 : Shape := ⟨3, ![1, 128, 92]⟩
abbrev S128x92 : Shape := ⟨2, ![128, 92]⟩
abbrev S10x128x1 : Shape := ⟨3, ![10, 128, 1]⟩
abbrev S128x1 : Shape := ⟨2, ![128, 1]⟩
abbrev S1x128x1 : Shape := ⟨3, ![1, 128, 1]⟩
abbrev S128 : Shape := ⟨1, ![128]⟩
abbrev S1x10x128 : Shape := ⟨3, ![1, 10, 128]⟩

abbrev nBuf : Space → Nat
  | .hbm => 25
  | .vmem => 16
  | .smem => 0
  | _ => 0

abbrev bufTy : (tb : Table) → Fin (tcTables nBuf tb) → BufTy
  | .hbm, ⟨0, _⟩ => ⟨S256x1024x92, .f32⟩
  | .hbm, ⟨1, _⟩ => ⟨S256, .i32⟩
  | .hbm, ⟨2, _⟩ => ⟨S_, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S256x1024x1, .f32⟩
  | .hbm, ⟨8, _⟩ => ⟨S256x1024x92, .f32⟩
  | .hbm, ⟨9, _⟩ => ⟨S256x1024x92, .f32⟩
  | .hbm, ⟨10, _⟩ => ⟨S256x1024x92, .f32⟩
  | .hbm, ⟨11, _⟩ => ⟨S_, .f32⟩
  | .hbm, ⟨12, _⟩ => ⟨S256x1024, .f32⟩
  | .hbm, ⟨13, _⟩ => ⟨S256x1024x1, .f32⟩
  | .hbm, ⟨14, _⟩ => ⟨S256x1024x1, .f32⟩
  | .hbm, ⟨15, _⟩ => ⟨S256x1024x92, .f32⟩
  | .hbm, ⟨16, _⟩ => ⟨S256x1024x92, .f32⟩
  | .hbm, ⟨17, _⟩ => ⟨S1024x256x92, .f32⟩
  | .hbm, ⟨18, _⟩ => ⟨S2x1x128, .i32⟩
  | .hbm, ⟨19, _⟩ => ⟨S1024x256, .i32⟩
  | .hbm, ⟨20, _⟩ => ⟨S2x1x128, .i32⟩
  | .hbm, ⟨21, _⟩ => ⟨S2x1x128, .f32⟩
  | .hbm, ⟨22, _⟩ => ⟨S256x1024, .i32⟩
  | .hbm, ⟨23, _⟩ => ⟨S256, .i32⟩
  | .hbm, ⟨24, _⟩ => ⟨S256, .f32⟩
  | .local _ .vmem, ⟨0, _⟩ => ⟨S1x1x128, .i32⟩
  | .local _ .vmem, ⟨1, _⟩ => ⟨S1x1x128, .i32⟩
  | .local _ .vmem, ⟨2, _⟩ => ⟨S128x128x92, .f32⟩
  | .local _ .vmem, ⟨3, _⟩ => ⟨S128x128x92, .f32⟩
  | .local _ .vmem, ⟨4, _⟩ => ⟨S1024x128, .i32⟩
  | .local _ .vmem, ⟨5, _⟩ => ⟨S1024x128, .i32⟩
  | .local _ .vmem, ⟨6, _⟩ => ⟨S1x1x128, .i32⟩
  | .local _ .vmem, ⟨7, _⟩ => ⟨S1x1x128, .i32⟩
  | .local _ .vmem, ⟨8, _⟩ => ⟨S1x1x128, .f32⟩
  | .local _ .vmem, ⟨9, _⟩ => ⟨S1x1x128, .f32⟩
  | .local _ .vmem, ⟨10, _⟩ => ⟨S10x128, .f32⟩
  | .local _ .vmem, ⟨11, _⟩ => ⟨S10x128, .i32⟩
  | .local _ .vmem, ⟨12, _⟩ => ⟨S10x128, .i32⟩
  | .local _ .vmem, ⟨13, _⟩ => ⟨S10x128, .i32⟩
  | .local _ .vmem, ⟨14, _⟩ => ⟨S10x128, .i32⟩
  | .local _ .vmem, ⟨15, _⟩ => ⟨S1024x10x128, .i32⟩
  | _, _ => ⟨S256x1024x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_3 : BitVec 32 := 0#32
  let c128_i32 : BitVec 32 := 128#32
  let v7 : BitVec 32 := Scalar.addi c0_i32_3 c128_i32
  let c1_i32 : BitVec 32 := 1#32
  ⟨c0_i32_3, v7, c1_i32⟩
def k0_off1 (k0_t1 : Fin k0_t1_loop.trips) : Fin 3 → Nat :=
  let c0_i32_3 : BitVec 32 := 0#32
  let c1_i32 : BitVec 32 := 1#32
  let arg13 : BitVec 32 := Scf.iv c0_i32_3 c1_i32 k0_t1
  let v13 : Index := Scalar.indexCast arg13
  let c0_7 : Index := 0#32
  let c0_8 : Index := 0#32
  ![v13.toNat, 0, 0]
def k0_off2 (i : grid0.Coords) (k0_t1 : Fin k0_t1_loop.trips) : Fin 3 → Nat :=
  let arg1 : BitVec 32 := BitVec.ofNat 32 (i 1).val
  let c128_i32_6 : BitVec 32 := 128#32
  let v11 : BitVec 32 := Scalar.muli arg1 c128_i32_6
  let c0_i32_3 : BitVec 32 := 0#32
  let c1_i32 : BitVec 32 := 1#32
  let arg13 : BitVec 32 := Scf.iv c0_i32_3 c1_i32 k0_t1
  let v12 : BitVec 32 := Scalar.addi v11 arg13
  let v1237 : Index := Scalar.indexCast v12
  let c0_292 : Index := 0#32
  let c0_293 : Index := 0#32
  ![v1237.toNat, 0, 0]
def k0_cond2 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_5 : BitVec 32 := 0#32
  let v10 : BitVec 1 := Scalar.cmpi .ne v9 c0_i32_5
  v10

@[reducible] def k0_t2_loop : Scf.Loop 32 :=
  let c0_i32_15 : BitVec 32 := 0#32
  let c1024_i32 : BitVec 32 := 1024#32
  let v30 : BitVec 32 := Scalar.addi c0_i32_15 c1024_i32
  let c1_i32_16 : BitVec 32 := 1#32
  ⟨c0_i32_15, v30, c1_i32_16⟩
def k0_off3 (k0_t2 : Fin k0_t2_loop.trips) : Fin 3 → Nat :=
  let c1023_i32 : BitVec 32 := 1023#32
  let c0_i32_15 : BitVec 32 := 0#32
  let c1_i32_16 : BitVec 32 := 1#32
  let arg13 : BitVec 32 := Scf.iv c0_i32_15 c1_i32_16 k0_t2
  let v38 : BitVec 32 := Scalar.subi c1023_i32 arg13
  let v39 : Index := Scalar.indexCast v38
  let c0_24 : Index := 0#32
  let c0_25 : Index := 0#32
  ![v39.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128x92 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S256x1024x92 : Shape := ⟨3, ![256, 1024, 92]⟩
abbrev S256 : Shape := ⟨1, ![256]⟩
abbrev S_ : Shape := ⟨0, ![]⟩
abbrev S256x1024 : Shape := ⟨2, ![256, 1024]⟩
abbrev S256x1024x1 : Shape := ⟨3, ![256, 1024, 1]⟩
abbrev S256x10x92 : Shape := ⟨3, ![256, 10, 92]⟩
abbrev S256x10 : Shape := ⟨2, ![256, 10]⟩
abbrev S256x10x1024 : Shape := ⟨3, ![256, 10, 1024]⟩
abbrev S256x920 : Shape := ⟨2, ![256, 920]⟩
abbrev S1024x256x92 : Shape := ⟨3, ![1024, 256, 92]⟩
abbrev S1x256x92 : Shape := ⟨3, ![1, 256, 92]⟩
abbrev S256x92 : Shape := ⟨2, ![256, 92]⟩
abbrev S256x1x92 : Shape := ⟨3, ![256, 1, 92]⟩
abbrev S256x10x1 : Shape := ⟨3, ![256, 10, 1]⟩
abbrev S256x10x92x1 : Shape := ⟨4, ![256, 10, 92, 1]⟩
abbrev S256x10x92x10 : Shape := ⟨4, ![256, 10, 92, 10]⟩
abbrev S256x1x1x10 : Shape := ⟨4, ![256, 1, 1, 10]⟩
abbrev S256x10x10 : Shape := ⟨3, ![256, 10, 10]⟩
abbrev S256x10x10x1 : Shape := ⟨4, ![256, 10, 10, 1]⟩
abbrev S256x10x10x1024 : Shape := ⟨4, ![256, 10, 10, 1024]⟩
abbrev S256x1x10x1024 : Shape := ⟨4, ![256, 1, 10, 1024]⟩
abbrev S256x1x10 : Shape := ⟨3, ![256, 1, 10]⟩
abbrev S256x1 : Shape := ⟨2, ![256, 1]⟩
abbrev S256x1x1 : Shape := ⟨3, ![256, 1, 1]⟩
abbrev S256x1x1024 : Shape := ⟨3, ![256, 1, 1024]⟩

abbrev nBuf : Space → Nat
  | .hbm => 248
  | .vmem => 0
  | .smem => 0
  | _ => 0

abbrev hbmTy0_0 (i : Nat) : BufTy := match i % 128 with
  | 0 => ⟨S256x1024x92, .f32⟩
  | 1 => ⟨S256, .i32⟩
  | 2 => ⟨S_, .f32⟩
  | 3 => ⟨S256x1024, .f32⟩
  | 4 => ⟨S_, .f32⟩
  | 5 => ⟨S256x1024, .f32⟩
  | 6 => ⟨S256x1024, .f32⟩
  | 7 => ⟨S256x1024x1, .f32⟩
  | 8 => ⟨S256x1024x92, .f32⟩
  | 9 => ⟨S256x1024x92, .f32⟩
  | 10 => ⟨S256x1024x92, .f32⟩
  | 11 => ⟨S_, .f32⟩
  | 12 => ⟨S256x1024, .f32⟩
  | 13 => ⟨S256x1024x1, .f32⟩
  | 14 => ⟨S256x1024x1, .f32⟩
  | 15 => ⟨S256x1024x92, .f32⟩
  | 16 => ⟨S256x1024x92, .f32⟩
  | 17 => ⟨S256x10x92, .i32⟩
  | 18 => ⟨S256x10x92, .i32⟩
  | 19 => ⟨S_, .i32⟩
  | 20 => ⟨S256x10x92, .i32⟩
  | 21 => ⟨S256x10x92, .i32⟩
  | 22 => ⟨S256x10, .i32⟩
  | 23 => ⟨S256x10x1024, .i32⟩
  | 24 => ⟨S256x920, .i32⟩
  | 25 => ⟨S1024x256x92, .f32⟩
  | 26 => ⟨S_, .i32⟩
  | 27 => ⟨S256x10x1024, .i32⟩
  | 28 => ⟨S_, .i32⟩
  | 29 => ⟨S256x10, .i32⟩
  | 30 => ⟨S_, .i32⟩
  | 31 => ⟨S256x10, .i32⟩
  | 32 => ⟨S256x10, .i1⟩
  | 33 => ⟨S_, .f32⟩
  | 34 => ⟨S256x10, .f32⟩
  | 35 => ⟨S_, .f32⟩
  | 36 => ⟨S256x10, .f32⟩
  | 37 => ⟨S256x10, .f32⟩
  | 38 => ⟨S_, .i32⟩
  | 39 => ⟨S256x10, .i32⟩
  | 40 => ⟨S_, .i32⟩
  | 41 => ⟨S_, .i32⟩
  | 42 => ⟨S1024x256x92, .f32⟩
  | 43 => ⟨S256x10x1024, .i32⟩
  | 44 => ⟨S256x10x92, .i32⟩
  | 45 => ⟨S256x10x92, .i32⟩
  | 46 => ⟨S256x920, .i32⟩
  | 47 => ⟨S256, .i32⟩
  | 48 => ⟨S_, .i32⟩
  | 49 => ⟨S_, .i32⟩
  | 50 => ⟨S256x10x1024, .i32⟩
  | 51 => ⟨S256x10, .i32⟩
  | 52 => ⟨S256x10, .f32⟩
  | 53 => ⟨S256x10, .i32⟩
  | 54 => ⟨S256x10, .i32⟩
  | 55 => ⟨S_, .i32⟩
  | 56 => ⟨S_, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S1x256x92, .f32⟩
  | 68 => ⟨S256x92, .f32⟩
  | 69 => ⟨S256x1x92, .f32⟩
  | 70 => ⟨S256x10x92, .f32⟩
  | 71 => ⟨S_, .f32⟩
  | 72 => ⟨S256x10x92, .f32⟩
  | 73 => ⟨S_, .i32⟩
  | 74 => ⟨S256x10, .i32⟩
  | 75 => ⟨S256x10, .i32⟩
  | 76 => ⟨S256x10x1, .i32⟩
  | 77 => ⟨S256x10x1024, .i32⟩
  | 78 => ⟨S256x10x1024, .i1⟩
  | 79 => ⟨S_, .i32⟩
  | 80 => ⟨S256x10x1024, .i32⟩
  | 81 => ⟨S256x10x1024, .i32⟩
  | 82 => ⟨S_, .i32⟩
  | 83 => ⟨S256x10, .i32⟩
  | 84 => ⟨S256x10x1, .i32⟩
  | 85 => ⟨S256x10x92, .i32⟩
  | 86 => ⟨S_, .i32⟩
  | 87 => ⟨S256x10x92, .i32⟩
  | 88 => ⟨S256x10x92, .i1⟩
  | 89 => ⟨S256x10x1, .i32⟩
  | 90 => ⟨S256x10x92, .i32⟩
  | 91 => ⟨S256x10x92, .i1⟩
  | 92 => ⟨S256x10x92, .i1⟩
  | 93 => ⟨S_, .i32⟩
  | 94 => ⟨S256x10x92, .i32⟩
  | 95 => ⟨S256x10x92, .i1⟩
  | 96 => ⟨S256x10x92, .i1⟩
  | 97 => ⟨S256x10x92, .i1⟩
  | 98 => ⟨S256x10x1, .f32⟩
  | 99 => ⟨S256x10x92, .f32⟩
  | 100 => ⟨S256x10x92, .f32⟩
  | 101 => ⟨S256x10x92, .f32⟩
  | 102 => ⟨S_, .f32⟩
  | 103 => ⟨S256x10, .f32⟩
  | 104 => ⟨S256x10x1, .i32⟩
  | 105 => ⟨S256x10x92, .i32⟩
  | 106 => ⟨S_, .i32⟩
  | 107 => ⟨S256x10x92, .i32⟩
  | 108 => ⟨S256x10x92, .i32⟩
  | 109 => ⟨S256x10x92, .i32⟩
  | 110 => ⟨S256x10x1, .i32⟩
  | 111 => ⟨S256x10x92, .i32⟩
  | 112 => ⟨S256x10x92, .i32⟩
  | 113 => ⟨S256x10x1, .i32⟩
  | 114 => ⟨S256x10x92, .i32⟩
  | 115 => ⟨S_, .i32⟩
  | 116 => ⟨S256x10x92, .i32⟩
  | 117 => ⟨S256x10x92, .i32⟩
  | 118 => ⟨S_, .i32⟩
  | 119 => ⟨S256x10x92, .i32⟩
  | 120 => ⟨S256x10x92, .i32⟩
  | 121 => ⟨S256x10x92, .i32⟩
  | 122 => ⟨S256x10x1, .i32⟩
  | 123 => ⟨S256x10x92, .i32⟩
  | 124 => ⟨S256x10x92, .i32⟩
  | 125 => ⟨S256x10x92x1, .i1⟩
  | 126 => ⟨S256x10x92x10, .i1⟩
  | 127 => ⟨S256x10x92x1, .i32⟩
  | _ => ⟨S256x1024x92, .f32⟩

abbrev hbmTy0_1 (i : Nat) : BufTy := match i % 128 with
  | 0 => ⟨S256x10x92x10, .i32⟩
  | 1 => ⟨S256x1x1x10, .i32⟩
  | 2 => ⟨S256x10x92x10, .i32⟩
  | 3 => ⟨S256x10x92x10, .i1⟩
  | 4 => ⟨S256x10x92x10, .i1⟩
  | 5 => ⟨S256x10x92x1, .i32⟩
  | 6 => ⟨S256x10x92x10, .i32⟩
  | 7 => ⟨S256x1x1x10, .i32⟩
  | 8 => ⟨S256x10x92x10, .i32⟩
  | 9 => ⟨S256x10x92x10, .i1⟩
  | 10 => ⟨S256x10x92x10, .i1⟩
  | 11 => ⟨S256x1x1x10, .f32⟩
  | 12 => ⟨S256x10x92x10, .f32⟩
  | 13 => ⟨S_, .f32⟩
  | 14 => ⟨S256x10x92x10, .f32⟩
  | 15 => ⟨S256x10x92x10, .f32⟩
  | 16 => ⟨S_, .f32⟩
  | 17 => ⟨S256x10x92, .f32⟩
  | 18 => ⟨S_, .i1⟩
  | 19 => ⟨S256x10, .i1⟩
  | 20 => ⟨S_, .f32⟩
  | 21 => ⟨S256x10, .f32⟩
  | 22 => ⟨S256x10, .f32⟩
  | 23 => ⟨S256x10x92, .f32⟩
  | 24 => ⟨S_, .i32⟩
  | 25 => ⟨S256x10x92, .i32⟩
  | 26 => ⟨S256x10x92, .i1⟩
  | 27 => ⟨S256x10x1, .f32⟩
  | 28 => ⟨S256x10x92, .f32⟩
  | 29 => ⟨S256x10x92, .f32⟩
  | 30 => ⟨S256x10x92, .f32⟩
  | 31 => ⟨S256x920, .f32⟩
  | 32 => ⟨S256x920, .f32⟩
  | 33 => ⟨S256x920, .i32⟩
  | 34 => ⟨S256x920, .i32⟩
  | 35 => ⟨S256x920, .i32⟩
  | 36 => ⟨S256x920, .f32⟩
  | 37 => ⟨S256x920, .i32⟩
  | 38 => ⟨S256x920, .i32⟩
  | 39 => ⟨S256x920, .i32⟩
  | 40 => ⟨S256x10, .f32⟩
  | 41 => ⟨S256x10, .f32⟩
  | 42 => ⟨S256x10, .i32⟩
  | 43 => ⟨S256x10, .i32⟩
  | 44 => ⟨S256x10, .i32⟩
  | 45 => ⟨S256x10, .i32⟩
  | 46 => ⟨S_, .i32⟩
  | 47 => ⟨S256x10, .i32⟩
  | 48 => ⟨S256x10, .i32⟩
  | 49 => ⟨S_, .i32⟩
  | 50 => ⟨S256x10, .i32⟩
  | 51 => ⟨S256x10, .i32⟩
  | 52 => ⟨S256x10x1, .i32⟩
  | 53 => ⟨S256x10x10, .i32⟩
  | 54 => ⟨S256x10x10, .i32⟩
  | 55 => ⟨S256x10x10, .i1⟩
  | 56 => ⟨S256x10x10x1, .i1⟩
  | 57 => ⟨S256x10x10x1024, .i1⟩
  | 58 => ⟨S256x1x10x1024, .i32⟩
  | 59 => ⟨S256x10x10x1024, .i32⟩
  | 60 => ⟨S_, .i32⟩
  | 61 => ⟨S256x10x10x1024, .i32⟩
  | 62 => ⟨S256x10x10x1024, .i32⟩
  | 63 => ⟨S_, .i32⟩
  | 64 => ⟨S256x10x1024, .i32⟩
  | 65 => ⟨S256x10x1, .i32⟩
  | 66 => ⟨S256x10x10, .i32⟩
  | 67 => ⟨S256x10x10, .i32⟩
  | 68 => ⟨S256x10x10, .i1⟩
  | 69 => ⟨S256x1x10, .i32⟩
  | 70 => ⟨S256x10x10, .i32⟩
  | 71 => ⟨S_, .i32⟩
  | 72 => ⟨S256x10x10, .i32⟩
  | 73 => ⟨S256x10x10, .i32⟩
  | 74 => ⟨S_, .i32⟩
  | 75 => ⟨S256x10, .i32⟩
  | 76 => ⟨S_, .i32⟩
  | 77 => ⟨S256x10, .i32⟩
  | 78 => ⟨S256x10, .i1⟩
  | 79 => ⟨S256x10x1, .i1⟩
  | 80 => ⟨S256x10x1, .i32⟩
  | 81 => ⟨S256x10x1024, .i32⟩
  | 82 => ⟨S256x10x1024, .i1⟩
  | 83 => ⟨S256x10x1024, .i1⟩
  | 84 => ⟨S256x10x1024, .i1⟩
  | 85 => ⟨S256x10x1, .i32⟩
  | 86 => ⟨S256x10x1024, .i32⟩
  | 87 => ⟨S256x10x1024, .i32⟩
  | 88 => ⟨S_, .i32⟩
  | 89 => ⟨S256x10, .i32⟩
  | 90 => ⟨S256x10, .i1⟩
  | 91 => ⟨S256x10, .i32⟩
  | 92 => ⟨S256x10, .i32⟩
  | 93 => ⟨S_, .i32⟩
  | 94 => ⟨S256, .i32⟩
  | 95 => ⟨S256, .i1⟩
  | 96 => ⟨S256x1, .i1⟩
  | 97 => ⟨S256x10, .i1⟩
  | 98 => ⟨S256x1x1, .i1⟩
  | 99 => ⟨S256x10x1024, .i1⟩
  | 100 => ⟨S256x10x1024, .i32⟩
  | 101 => ⟨S256x10, .i32⟩
  | 102 => ⟨S256x10, .f32⟩
  | 103 => ⟨S256x10, .i32⟩
  | 104 => ⟨S256x10, .i32⟩
  | 105 => ⟨S_, .i32⟩
  | 106 => ⟨S_, .i32⟩
  | 107 => ⟨S256x1x1024, .i32⟩
  | 108 => ⟨S256x1024, .i32⟩
  | 109 => ⟨S256x1, .i32⟩
  | 110 => ⟨S256, .i32⟩
  | 111 => ⟨S256x1, .f32⟩
  | 112 => ⟨S256, .f32⟩
  | 113 => ⟨S256x1024, .i32⟩
  | 114 => ⟨S256x1, .i32⟩
  | 115 => ⟨S256x1024, .i32⟩
  | 116 => ⟨S256x1024, .i1⟩
  | 117 => ⟨S_, .i32⟩
  | 118 => ⟨S256x1024, .i32⟩
  | 119 => ⟨S256x1024, .i32⟩
  | _ => ⟨S256x1024x92, .f32⟩

abbrev hbmTy (i : Nat) : BufTy := match i / 128 with
  | 0 => hbmTy0_0 i
  | 1 => hbmTy0_1 i
  | _ => ⟨S256x1024x92, .f32⟩

abbrev bufTy : (tb : Table) → Fin (tcTables nBuf tb) → BufTy
  | .hbm, ⟨i, _⟩ => hbmTy i
  | _, _ => ⟨S256x1024x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_c_5 : Ref sig .tc := ⟨.hbm, 40, rfl⟩
abbrev main_c_6 : Ref sig .tc := ⟨.hbm, 41, rfl⟩
abbrev main_v17_0 : Ref sig .tc := ⟨.hbm, 42, rfl⟩
abbrev main_v17_1 : Ref sig .tc := ⟨.hbm, 43, rfl⟩
abbrev main_v17_2 : Ref sig .tc := ⟨.hbm, 44, rfl⟩
abbrev main_v17_3 : Ref sig .tc := ⟨.hbm, 45, rfl⟩
abbrev main_v17_4 : Ref sig .tc := ⟨.hbm, 46, rfl⟩
abbrev main_v17_5 : Ref sig .tc := ⟨.hbm, 47, rfl⟩
abbrev main_v17_6 : Ref sig .tc := ⟨.hbm, 48, rfl⟩
abbrev main_v17_7 : Ref sig .tc := ⟨.hbm, 49, rfl⟩
abbrev main_v17_8 : Ref sig .tc := ⟨.hbm, 50, rfl⟩
abbrev main_v17_9 : Ref sig .tc := ⟨.hbm, 51, rfl⟩
abbrev main_v17_10 : Ref sig .tc := ⟨.hbm, 52, rfl⟩
abbrev main_v17_11 : Ref sig .tc := ⟨.hbm, 53, rfl⟩
abbrev main_v17_12 : Ref sig .tc := ⟨.hbm, 54, rfl⟩
abbrev main_while0c_c_20 : Ref sig .tc := ⟨.hbm, 55, rfl⟩
abbrev main_while0c_v30 : Ref sig .tc := ⟨.hbm, 56, rfl⟩
abbrev main_while0b_c_20 : Ref sig .tc := ⟨.hbm, 57, rfl⟩
abbrev main_while0b_v30 : Ref sig .tc := ⟨.hbm, 58, rfl⟩
abbrev main_while0b_call1_c : Ref sig .tc := ⟨.hbm, 59, rfl⟩
abbrev main_while0b_call1_v0 : Ref sig .tc := ⟨.hbm, 60, rfl⟩
abbrev main_while0b_call1_v1 : Ref sig .tc := ⟨.hbm, 61, rfl⟩
abbrev main_while0b_call1_c_0 : Ref sig .tc := ⟨.hbm, 62, rfl⟩
abbrev main_while0b_call1_v2 : Ref sig .tc := ⟨.hbm, 63, rfl⟩
abbrev main_while0b_call1_v3 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_v4 : Ref sig .tc := ⟨.hbm, 67, rfl⟩
abbrev main_while0b_v31 : Ref sig .tc := ⟨.hbm, 68, rfl⟩
abbrev main_while0b_v32 : Ref sig .tc := ⟨.hbm, 69, rfl⟩
abbrev main_while0b_v33 : Ref sig .tc := ⟨.hbm, 70, rfl⟩
abbrev main_while0b_cst_21 : Ref sig .tc := ⟨.hbm, 71, rfl⟩
abbrev main_while0b_v34 : Ref sig .tc := ⟨.hbm, 72, rfl⟩
abbrev main_while0b_c_22 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_v38 : Ref sig .tc := ⟨.hbm, 77, rfl⟩
abbrev main_while0b_v39 : Ref sig .tc := ⟨.hbm, 78, rfl⟩
abbrev main_while0b_c_23 : Ref sig .tc := ⟨.hbm, 79, rfl⟩
abbrev main_while0b_v40 : Ref sig .tc := ⟨.hbm, 80, rfl⟩
abbrev main_while0b_v41 : Ref sig .tc := ⟨.hbm, 81, rfl⟩
abbrev main_while0b_c_24 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_c_25 : Ref sig .tc := ⟨.hbm, 86, rfl⟩
abbrev main_while0b_v45 : Ref sig .tc := ⟨.hbm, 87, rfl⟩
abbrev main_while0b_v46 : Ref sig .tc := ⟨.hbm, 88, rfl⟩
abbrev main_while0b_v47 : Ref sig .tc := ⟨.hbm, 89, rfl⟩
abbrev main_while0b_v48 : Ref sig .tc := ⟨.hbm, 90, rfl⟩
abbrev main_while0b_v49 : Ref sig .tc := ⟨.hbm, 91, rfl⟩
abbrev main_while0b_v50 : Ref sig .tc := ⟨.hbm, 92, rfl⟩
abbrev main_while0b_c_26 : Ref sig .tc := ⟨.hbm, 93, rfl⟩
abbrev main_while0b_v51 : Ref sig .tc := ⟨.hbm, 94, rfl⟩
abbrev main_while0b_v52 : Ref sig .tc := ⟨.hbm, 95, rfl⟩
abbrev main_while0b_v53 : Ref sig .tc := ⟨.hbm, 96, rfl⟩
abbrev main_while0b_v54 : Ref sig .tc := ⟨.hbm, 97, rfl⟩
abbrev main_while0b_v55 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_cst_27 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_c_28 : Ref sig .tc := ⟨.hbm, 106, rfl⟩
abbrev main_while0b_v62 : Ref sig .tc := ⟨.hbm, 107, rfl⟩
abbrev main_while0b_v63 : Ref sig .tc := ⟨.hbm, 108, rfl⟩
abbrev main_while0b_v64 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_c_29 : Ref sig .tc := ⟨.hbm, 115, rfl⟩
abbrev main_while0b_v70 : Ref sig .tc := ⟨.hbm, 116, rfl⟩
abbrev main_while0b_v71 : Ref sig .tc := ⟨.hbm, 117, rfl⟩
abbrev main_while0b_c_30 : Ref sig .tc := ⟨.hbm, 118, rfl⟩
abbrev main_while0b_v72 : Ref sig .tc := ⟨.hbm, 119, rfl⟩
abbrev main_while0b_v73 : Ref sig .tc := ⟨.hbm, 120, rfl⟩
abbrev main_while0b_v74 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_v90 : Ref sig .tc := ⟨.hbm, 137, rfl⟩
abbrev main_while0b_v91 : Ref sig .tc := ⟨.hbm, 138, rfl⟩
abbrev main_while0b_v92 : Ref sig .tc := ⟨.hbm, 139, rfl⟩
abbrev main_while0b_v93 : Ref sig .tc := ⟨.hbm, 140, rfl⟩
abbrev main_while0b_cst_31 : Ref sig .tc := ⟨.hbm, 141, rfl⟩
abbrev main_while0b_v94 : Ref sig .tc := ⟨.hbm, 142, rfl⟩
abbrev main_while0b_v95 : Ref sig .tc := ⟨.hbm, 143, rfl⟩
abbrev main_while0b_cst_32 : Ref sig .tc := ⟨.hbm, 144, rfl⟩
abbrev main_while0b_v96 : Ref sig .tc := ⟨.hbm, 145, rfl⟩
abbrev main_while0b_c_33 : Ref sig .tc := ⟨.hbm, 146, rfl⟩
abbrev main_while0b_v97 : Ref sig .tc := ⟨.hbm, 147, rfl⟩
abbrev main_while0b_cst_34 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_c_35 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_v112_0 : Ref sig .tc := ⟨.hbm, 164, rfl⟩
abbrev main_while0b_v112_1 : Ref sig .tc := ⟨.hbm, 165, rfl⟩
abbrev main_while0b_v112_2 : Ref sig .tc := ⟨.hbm, 166, rfl⟩
abbrev main_while0b_v112_3 : Ref sig .tc := ⟨.hbm, 167, rfl⟩
abbrev main_while0b_v113 : Ref sig .tc := ⟨.hbm, 168, rfl⟩
abbrev main_while0b_v114 : Ref sig .tc := ⟨.hbm, 169, rfl⟩
abbrev main_while0b_v115 : Ref sig .tc := ⟨.hbm, 170, rfl⟩
abbrev main_while0b_v116 : Ref sig .tc := ⟨.hbm, 171, rfl⟩
abbrev main_while0b_v117 : Ref sig .tc := ⟨.hbm, 172, rfl⟩
abbrev main_while0b_v118 : Ref sig .tc := ⟨.hbm, 173, rfl⟩
abbrev main_while0b_c_36 : Ref sig .tc := ⟨.hbm, 174, rfl⟩
abbrev main_while0b_v119 : Ref sig .tc := ⟨.hbm, 175, rfl⟩
abbrev main_while0b_v120 : Ref sig .tc := ⟨.hbm, 176, rfl⟩
abbrev main_while0b_c_37 : Ref sig .tc := ⟨.hbm, 177, rfl⟩
abbrev main_while0b_v121 : Ref sig .tc := ⟨.hbm, 178, rfl⟩
abbrev main_while0b_v122 : Ref sig .tc := ⟨.hbm, 179, rfl⟩
abbrev main_while0b_v123 : Ref sig .tc := ⟨.hbm, 180, rfl⟩
abbrev main_while0b_v124 : Ref sig .tc := ⟨.hbm, 181, rfl⟩
abbrev main_while0b_v125 : Ref sig .tc := ⟨.hbm, 182, rfl⟩
abbrev main_while0b_v126 : Ref sig .tc := ⟨.hbm, 183, rfl⟩
abbrev main_while0b_v127 : Ref sig .tc := ⟨.hbm, 184, rfl⟩
abbrev main_while0b_v128 : Ref sig .tc := ⟨.hbm, 185, rfl⟩
abbrev main_while0b_v129 : Ref sig .tc := ⟨.hbm, 186, rfl⟩
abbrev main_while0b_v130 : Ref sig .tc := ⟨.hbm, 187, rfl⟩
abbrev main_while0b_c_38 : Ref sig .tc := ⟨.hbm, 188, rfl⟩
abbrev main_while0b_v131 : Ref sig .tc := ⟨.hbm, 189, rfl⟩
abbrev main_while0b_v132 : Ref sig .tc := ⟨.hbm, 190, rfl⟩
abbrev main_while0b_c_39 : Ref sig .tc := ⟨.hbm, 191, rfl⟩
abbrev main_while0b_v133 : Ref sig .tc := ⟨.hbm, 192, rfl⟩
abbrev main_while0b_v134 : Ref sig .tc := ⟨.hbm, 193, rfl⟩
abbrev main_while0b_v135 : Ref sig .tc := ⟨.hbm, 194, rfl⟩
abbrev main_while0b_v136 : Ref sig .tc := ⟨.hbm, 195, rfl⟩
abbrev main_while0b_v137 : Ref sig .tc := ⟨.hbm, 196, rfl⟩
abbrev main_while0b_v138 : Ref sig .tc := ⟨.hbm, 197, rfl⟩
abbrev main_while0b_v139 : Ref sig .tc := ⟨.hbm, 198, rfl⟩
abbrev main_while0b_c_40 : Ref sig .tc := ⟨.hbm, 199, rfl⟩
abbrev main_while0b_v140 : Ref sig .tc := ⟨.hbm, 200, rfl⟩
abbrev main_while0b_v141 : Ref sig .tc := ⟨.hbm, 201, rfl⟩
abbrev main_while0b_c_41 : Ref sig .tc := ⟨.hbm, 202, rfl⟩
abbrev main_while0b_v142 : Ref sig .tc := ⟨.hbm, 203, rfl⟩
abbrev main_while0b_c_42 : Ref sig .tc := ⟨.hbm, 204, rfl⟩
abbrev main_while0b_v143 : Ref sig .tc := ⟨.hbm, 205, rfl⟩
abbrev main_while0b_v144 : Ref sig .tc := ⟨.hbm, 206, rfl⟩
abbrev main_while0b_v145 : Ref sig .tc := ⟨.hbm, 207, rfl⟩
abbrev main_while0b_v146 : Ref sig .tc := ⟨.hbm, 208, rfl⟩
abbrev main_while0b_v147 : Ref sig .tc := ⟨.hbm, 209, rfl⟩
abbrev main_while0b_v148 : Ref sig .tc := ⟨.hbm, 210, rfl⟩
abbrev main_while0b_v149 : Ref sig .tc := ⟨.hbm, 211, rfl⟩
abbrev main_while0b_v150 : Ref sig .tc := ⟨.hbm, 212, rfl⟩
abbrev main_while0b_v151 : Ref sig .tc := ⟨.hbm, 213, rfl⟩
abbrev main_while0b_v152 : Ref sig .tc := ⟨.hbm, 214, rfl⟩
abbrev main_while0b_v153 : Ref sig .tc := ⟨.hbm, 215, rfl⟩
abbrev main_while0b_c_43 : Ref sig .tc := ⟨.hbm, 216, rfl⟩
abbrev main_while0b_v154 : Ref sig .tc := ⟨.hbm, 217, rfl⟩
abbrev main_while0b_v155 : Ref sig .tc := ⟨.hbm, 218, rfl⟩
abbrev main_while0b_v156 : Ref sig .tc := ⟨.hbm, 219, rfl⟩
abbrev main_while0b_v157 : Ref sig .tc := ⟨.hbm, 220, rfl⟩
abbrev main_while0b_v158 : Ref sig .tc := ⟨.hbm, 221, rfl⟩
abbrev main_while0b_v159 : Ref sig .tc := ⟨.hbm, 222, rfl⟩
abbrev main_while0b_v160 : Ref sig .tc := ⟨.hbm, 223, rfl⟩
abbrev main_while0b_v161 : Ref sig .tc := ⟨.hbm, 224, rfl⟩
abbrev main_while0b_v162 : Ref sig .tc := ⟨.hbm, 225, rfl⟩
abbrev main_while0b_v163 : Ref sig .tc := ⟨.hbm, 226, rfl⟩
abbrev main_while0b_v164 : Ref sig .tc := ⟨.hbm, 227, rfl⟩
abbrev main_while0b_v165 : Ref sig .tc := ⟨.hbm, 228, rfl⟩
abbrev main_while0b_v166 : Ref sig .tc := ⟨.hbm, 229, rfl⟩
abbrev main_while0b_v167 : Ref sig .tc := ⟨.hbm, 230, rfl⟩
abbrev main_while0b_v168 : Ref sig .tc := ⟨.hbm, 231, rfl⟩
abbrev main_while0b_v169 : Ref sig .tc := ⟨.hbm, 232, rfl⟩
abbrev main_while0b_c_44 : Ref sig .tc := ⟨.hbm, 233, rfl⟩
abbrev main_while0b_v170 : Ref sig .tc := ⟨.hbm, 234, rfl⟩
abbrev main_v18 : Ref sig .tc := ⟨.hbm, 235, rfl⟩
abbrev main_v19 : Ref sig .tc := ⟨.hbm, 236, rfl⟩
abbrev main_v20 : Ref sig .tc := ⟨.hbm, 237, rfl⟩
abbrev main_v21 : Ref sig .tc := ⟨.hbm, 238, rfl⟩
abbrev main_v22 : Ref sig .tc := ⟨.hbm, 239, rfl⟩
abbrev main_v23 : Ref sig .tc := ⟨.hbm, 240, rfl⟩
abbrev main_v24 : Ref sig .tc := ⟨.hbm, 241, rfl⟩
abbrev main_v25 : Ref sig .tc := ⟨.hbm, 242, rfl⟩
abbrev main_v26 : Ref sig .tc := ⟨.hbm, 243, rfl⟩
abbrev main_v27 : Ref sig .tc := ⟨.hbm, 244, rfl⟩
abbrev main_c_7 : Ref sig .tc := ⟨.hbm, 245, rfl⟩
abbrev main_v28 : Ref sig .tc := ⟨.hbm, 246, rfl⟩
abbrev main_v29 : Ref sig .tc := ⟨.hbm, 247, rfl⟩

abbrev nD : Nat := 1
abbrev τ : Topo := Topo.v7x

variable {F : FTy → Type} [FloatOps F]

def κ : String → Option EReal := fun
  | "mask" => some ⊥
  | _ => none

abbrev main_while0_count : Scf.Loop 32 := ⟨0#32, 1024#32, 1#32⟩
-- ==== Proof.KernelIdeal.Trip.lean ====
/-
  The loop over the frames of one block: one trip run at a symbolic frame (`trip_t1`), the contents of the six scratch
  buffers before each trip as a recursion over the trips (`st_t1`), and the loop's invariant.
-/
module

public import proofs.«01_k».proof.Proof.Gen.KernelIdeal.Loops
public import Idealize.ShloMosaic.Lib.Tactic
public import Idealize.ShloMosaic.Lib.Pipeline.Kit

@[expose] public section

set_option maxRecDepth 65536
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a trip touches: the frames' block, read, and the six scratch buffers. -/
abbrev Trip_t1 (c : Dev nD) (arg3 : Memref sig .tc .vmem S128x128x92 .f32) (arg7 : Memref sig .tc .vmem S10x128 .f32) (arg8 : Memref sig .tc .vmem S10x128 .i32) (arg9 : Memref sig .tc .vmem S10x128 .i32) (arg10 : Memref sig .tc .vmem S10x128 .i32) (arg11 : Memref sig .tc .vmem S10x128 .i32) (arg12 : Memref sig .tc .vmem S1024x10x128 .i32) (X3 : BufTy.Contents (Elt F) arg3.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄 :=
  iprop((arg3.view.loc (c : Thread nD τ) ↦[arg3.view.set]{fullShare} X3) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- One trip at a symbolic frame: the pieces it writes into each scratch buffer, functions of what it finds in them. -/
@[irreducible] def trip_t1 (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec F S1x1x128 .i32) (v5 : IVec S10x128x92 32) (v6 : IVec S10x128 32) (X3 : BufTy.Contents (Elt F) arg3.view.ty) (k : Fin k0_t1_loop.trips) :
    Σ' (L7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S10x128 .f32)), Σ' (L8 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S10x128 .i32)), Σ' (L9 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S10x128 .i32)), Σ' (L10 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S10x128 .i32)), Σ' (L11 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S10x128 .i32)),
    { L12 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S1024x10x128 .i32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      Trip_t1 (F := F) c arg3 arg7 arg8 arg9 arg10 arg11 arg12 X3 f7 f8 f9 f10 f11 f12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 v3 v5 v6 k ())
          (fun _ => Trip_t1 (F := F) c arg3 arg7 arg8 arg9 arg10 arg11 arg12 X3 (arg7.view.writes (Elt F) f7 (L7 f7 f8 f9 f10 f11 f12)) (arg8.view.writes (Elt F) f8 (L8 f7 f8 f9 f10 f11 f12)) (arg9.view.writes (Elt F) f9 (L9 f7 f8 f9 f10 f11 f12)) (arg10.view.writes (Elt F) f10 (L10 f7 f8 f9 f10 f11 f12)) (arg11.view.writes (Elt F) f11 (L11 f7 f8 f9 f10 f11 f12)) (arg12.view.writes (Elt F) f12 (L12 f7 f8 f9 f10 f11 f12))) } := by
  have hk : k.val < 128 := Nat.lt_of_lt_of_le k.isLt k0_t1_abs.2.1
  refine ⟨?_, ?_, ?_, ?_, ?_, ?_, fun E f7 f8 f9 f10 f11 f12 => ?run⟩
  case run =>
    unfold k0_t1_body
    iintro ⟨HR, H7, H8, H9, H10, H11, H12⟩
    sl_exec
    sl_step
    sl_close

/-- The pieces written into the six scratch buffers by one more trip, before those already written; past the last trip,
    as they were. -/
@[irreducible] def st_t1Step (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec F S1x1x128 .i32) (v5 : IVec S10x128x92 32) (v6 : IVec S10x128 32) (X3 : BufTy.Contents (Elt F) arg3.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (k : ℕ) (p : (List (View.Piece (Elt F) S10x128 .f32) × List (View.Piece (Elt F) S10x128 .i32) × List (View.Piece (Elt F) S10x128 .i32) × List (View.Piece (Elt F) S10x128 .i32) × List (View.Piece (Elt F) S10x128 .i32) × List (View.Piece (Elt F) S1024x10x128 .i32))) : (List (View.Piece (Elt F) S10x128 .f32) × List (View.Piece (Elt F) S10x128 .i32) × List (View.Piece (Elt F) S10x128 .i32) × List (View.Piece (Elt F) S10x128 .i32) × List (View.Piece (Elt F) S10x128 .i32) × List (View.Piece (Elt F) S1024x10x128 .i32)) :=
  if h : k < k0_t1_loop.trips then
    ((trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 ⟨k, h⟩).1 (arg7.view.writes (Elt F) G7 p.1) (arg8.view.writes (Elt F) G8 p.2.1) (arg9.view.writes (Elt F) G9 p.2.2.1) (arg10.view.writes (Elt F) G10 p.2.2.2.1) (arg11.view.writes (Elt F) G11 p.2.2.2.2.1) (arg12.view.writes (Elt F) G12 p.2.2.2.2.2) ++ p.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 ⟨k, h⟩).2.1 (arg7.view.writes (Elt F) G7 p.1) (arg8.view.writes (Elt F) G8 p.2.1) (arg9.view.writes (Elt F) G9 p.2.2.1) (arg10.view.writes (Elt F) G10 p.2.2.2.1) (arg11.view.writes (Elt F) G11 p.2.2.2.2.1) (arg12.view.writes (Elt F) G12 p.2.2.2.2.2) ++ p.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 ⟨k, h⟩).2.2.1 (arg7.view.writes (Elt F) G7 p.1) (arg8.view.writes (Elt F) G8 p.2.1) (arg9.view.writes (Elt F) G9 p.2.2.1) (arg10.view.writes (Elt F) G10 p.2.2.2.1) (arg11.view.writes (Elt F) G11 p.2.2.2.2.1) (arg12.view.writes (Elt F) G12 p.2.2.2.2.2) ++ p.2.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 ⟨k, h⟩).2.2.2.1 (arg7.view.writes (Elt F) G7 p.1) (arg8.view.writes (Elt F) G8 p.2.1) (arg9.view.writes (Elt F) G9 p.2.2.1) (arg10.view.writes (Elt F) G10 p.2.2.2.1) (arg11.view.writes (Elt F) G11 p.2.2.2.2.1) (arg12.view.writes (Elt F) G12 p.2.2.2.2.2) ++ p.2.2.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 ⟨k, h⟩).2.2.2.2.1 (arg7.view.writes (Elt F) G7 p.1) (arg8.view.writes (Elt F) G8 p.2.1) (arg9.view.writes (Elt F) G9 p.2.2.1) (arg10.view.writes (Elt F) G10 p.2.2.2.1) (arg11.view.writes (Elt F) G11 p.2.2.2.2.1) (arg12.view.writes (Elt F) G12 p.2.2.2.2.2) ++ p.2.2.2.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 ⟨k, h⟩).2.2.2.2.2.1 (arg7.view.writes (Elt F) G7 p.1) (arg8.view.writes (Elt F) G8 p.2.1) (arg9.view.writes (Elt F) G9 p.2.2.1) (arg10.view.writes (Elt F) G10 p.2.2.2.1) (arg11.view.writes (Elt F) G11 p.2.2.2.2.1) (arg12.view.writes (Elt F) G12 p.2.2.2.2.2) ++ p.2.2.2.2.2)
  else p

/-- The pieces written into the six scratch buffers before trip `k`, over the contents at the loop's entry. -/
def st_t1 (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec F S1x1x128 .i32) (v5 : IVec S10x128x92 32) (v6 : IVec S10x128 32) (X3 : BufTy.Contents (Elt F) arg3.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) : ℕ → (List (View.Piece (Elt F) S10x128 .f32) × List (View.Piece (Elt F) S10x128 .i32) × List (View.Piece (Elt F) S10x128 .i32) × List (View.Piece (Elt F) S10x128 .i32) × List (View.Piece (Elt F) S10x128 .i32) × List (View.Piece (Elt F) S1024x10x128 .i32))
  | 0 => ([], [], [], [], [], [])
  | k + 1 => st_t1Step 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k (st_t1 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k)

theorem st_t1_succ (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec F S1x1x128 .i32) (v5 : IVec S10x128x92 32) (v6 : IVec S10x128 32) (X3 : BufTy.Contents (Elt F) arg3.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (k : Fin k0_t1_loop.trips) :
    st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1) =
      ((trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).1 (arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) ++ (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).2.1 (arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) ++ (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).2.2.1 (arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) ++ (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).2.2.2.1 (arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) ++ (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).2.2.2.2.1 (arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) ++ (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1, (trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).2.2.2.2.2.1 (arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) ++ (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2) := by
  rw [st_t1.eq_2]; unfold st_t1Step; exact dif_pos k.isLt

/-- Before trip `k`: the block as it was, each scratch buffer at the pieces written so far. -/
abbrev inv_t1 (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec F S1x1x128 .i32) (v5 : IVec S10x128x92 32) (v6 : IVec S10x128 32) (X3 : BufTy.Contents (Elt F) arg3.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (k : ℕ) (_ : Unit) : sProp 𝕄 :=
  iprop((arg3.view.loc (c : Thread nD τ) ↦[arg3.view.set]{fullShare} X3) ∗ (∃ f, (arg7.view.loc (c : Thread nD τ) ↦[arg7.view.set]{fullShare} f) ∗ ⌜f = arg7.view.writes (Elt F) G7 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k).1⌝) ∗ (∃ f, (arg8.view.loc (c : Thread nD τ) ↦[arg8.view.set]{fullShare} f) ∗ ⌜f = arg8.view.writes (Elt F) G8 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k).2.1⌝) ∗ (∃ f, (arg9.view.loc (c : Thread nD τ) ↦[arg9.view.set]{fullShare} f) ∗ ⌜f = arg9.view.writes (Elt F) G9 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k).2.2.1⌝) ∗ (∃ f, (arg10.view.loc (c : Thread nD τ) ↦[arg10.view.set]{fullShare} f) ∗ ⌜f = arg10.view.writes (Elt F) G10 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k).2.2.2.1⌝) ∗ (∃ f, (arg11.view.loc (c : Thread nD τ) ↦[arg11.view.set]{fullShare} f) ∗ ⌜f = arg11.view.writes (Elt F) G11 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k).2.2.2.2.1⌝) ∗ (∃ f, (arg12.view.loc (c : Thread nD τ) ↦[arg12.view.set]{fullShare} f) ∗ ⌜f = arg12.view.writes (Elt F) G12 (st_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k).2.2.2.2.2⌝))

set_option warn.classDefReducibility false in
/-- The loop by its invariant. -/
@[sl_loop] def loopInv_t1 (𝒱 : Variants) (c : Dev nD) (bd : Option 𝒱.V) (E : Set ℕ) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec F S1x1x128 .i32) (v5 : IVec S10x128x92 32) (v6 : IVec S10x128 32) (X3 : BufTy.Contents (Elt F) arg3.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v3 v5 v6 where
  inv := inv_t1 (F := F) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12
  step k acc := by
    iintro ⟨HR, ⟨%f7, H7, %h7⟩, ⟨%f8, H8, %h8⟩, ⟨%f9, H9, %h9⟩, ⟨%f10, H10, %h10⟩, ⟨%f11, H11, %h11⟩, ⟨%f12, H12, %h12⟩⟩
    iapply (wp_wand_r Idealize.ShloMosaic.frame (wpE (defs₀ (F := F)) 𝒱 (c : Thread nD τ) bd) E)
    isplitl [HR H7 H8 H9 H10 H11 H12]
    · iapply ((trip_t1 (F := F) 𝒱 c bd i arg2 harg2 arg3 harg3 arg4 harg4 arg5 harg5 arg6 harg6 arg7 harg7 arg8 harg8 arg9 harg9 arg10 harg10 arg11 harg11 arg12 harg12 arg1 v3 v5 v6 X3 k).2.2.2.2.2.2 E f7 f8 f9 f10 f11 f12)
      isplitl [HR]; · iexact HR
      isplitl [H7]; · iexact H7
      isplitl [H8]; · iexact H8
      isplitl [H9]; · iexact H9
      isplitl [H10]; · iexact H10
      isplitl [H11]; · iexact H11
      iexact H12
    · iintro %yld ⟨HR, H7, H8, H9, H10, H11, H12⟩
      isplitl [HR]; · iexact HR
      simp only [st_t1_succ]
      isplitl [H7]
      · iexists _; isplitl [H7]; · iexact H7
        ipureintro; rw [h7, h8, h9, h10, h11, h12, ← View.writes_append]
      isplitl [H8]
      · iexists _; isplitl [H8]; · iexact H8
        ipureintro; rw [h7, h8, h9, h10, h11, h12, ← View.writes_append]
      isplitl [H9]
      · iexists _; isplitl [H9]; · iexact H9
        ipureintro; rw [h7, h8, h9, h10, h11, h12, ← View.writes_append]
      isplitl [H10]
      · iexists _; isplitl [H10]; · iexact H10
        ipureintro; rw [h7, h8, h9, h10, h11, h12, ← View.writes_append]
      isplitl [H11]
      · iexists _; isplitl [H11]; · iexact H11
        ipureintro; rw [h7, h8, h9, h10, h11, h12, ← View.writes_append]
      iexists _; isplitl [H12]; · iexact H12
      ipureintro; rw [h7, h8, h9, h10, h11, h12, ← View.writes_append]

end Cert.Proof.KernelIdeal

end
-- ==== Proof.KernelIdeal.Run.lean ====
/-
  The kernel's body at one grid point, run on any whole staging memrefs, in its three cases: the first block of frames
  of a batch block (the scratch is set up first), a block in the middle, and the last one (the best hypothesis is read
  back afterwards).
-/
module

public import proofs.«01_k».proof.Proof.KernelIdeal.Trip
public import proofs.«01_k».proof.Proof.Gen.KernelIdeal.Frame

@[expose] public section

set_option maxRecDepth 65536
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- The first block of frames: what the body leaves in the scratch buffers, found by the run. -/
noncomputable def kernelRunA (c : Dev nD) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole)
    (h1 : (Scalar.cmpi .ne (Scalar.extui (Scalar.cmpi .eq (BitVec.ofNat 32 (i 1).val) 0#32) : BitVec 32) 0#32 = 1#1)) (h2 : ¬ (k0_cond2 i = 1#1))
    (x2 : Vec F S1x1x128 .i32) (x3 : Vec F S128x128x92 .f32) (x7 : Vec F S10x128 .f32) (x8 : Vec F S10x128 .i32) (x9 : Vec F S10x128 .i32) (x10 : Vec F S10x128 .i32) (x11 : Vec F S10x128 .i32) (x12 : Vec F S1024x10x128 .i32) :
     Σ' (Z7 : Vec F S10x128 .f32), Σ' (Z8 : Vec F S10x128 .i32), Σ' (Z9 : Vec F S10x128 .i32), Σ' (Z10 : Vec F S10x128 .i32), Σ' (Z11 : Vec F S10x128 .i32),
    { Z12 : Vec F S1024x10x128 .i32 // ∀ (E : Set ℕ) (K : PUnit → sProp 𝕄),
        iprop(owns (c : Thread nD τ) arg2 fullShare x2 ∗ owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg7 fullShare Z7 ∗ owns (c : Thread nD τ) arg8 fullShare Z8 ∗ owns (c : Thread nD τ) arg9 fullShare Z9 ∗ owns (c : Thread nD τ) arg10 fullShare Z10 ∗ owns (c : Thread nD τ) arg11 fullShare Z11 ∗ owns (c : Thread nD τ) arg12 fullShare Z12) -∗ K ⟨⟩))
          ⊢ wp frame (wpE (defs₀ (F := F)) 𝒱₀ c none) E (cc0_ctc_beam_decode i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    unfold owns
    iintro ⟨⟨%g2, %hg2, H2⟩, ⟨%g3, %hg3, H3⟩, ⟨%g7, %hg7, H7⟩, ⟨%g8, %hg8, H8⟩, ⟨%g9, %hg9, H9⟩, ⟨%g10, %hg10, H10⟩, ⟨%g11, %hg11, H11⟩, ⟨%g12, %hg12, H12⟩, Hk⟩
    obtain rfl := harg2.eq_unread hg2; obtain rfl := harg3.eq_unread hg3; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_unfold [cc0_ctc_beam_decode]
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl

/-- A block of frames in the middle. -/
noncomputable def kernelRunB (c : Dev nD) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole)
    (h1 : ¬ (Scalar.cmpi .ne (Scalar.extui (Scalar.cmpi .eq (BitVec.ofNat 32 (i 1).val) 0#32) : BitVec 32) 0#32 = 1#1)) (h2 : ¬ (k0_cond2 i = 1#1))
    (x2 : Vec F S1x1x128 .i32) (x3 : Vec F S128x128x92 .f32) (x7 : Vec F S10x128 .f32) (x8 : Vec F S10x128 .i32) (x9 : Vec F S10x128 .i32) (x10 : Vec F S10x128 .i32) (x11 : Vec F S10x128 .i32) (x12 : Vec F S1024x10x128 .i32) :
     Σ' (Z7 : Vec F S10x128 .f32), Σ' (Z8 : Vec F S10x128 .i32), Σ' (Z9 : Vec F S10x128 .i32), Σ' (Z10 : Vec F S10x128 .i32), Σ' (Z11 : Vec F S10x128 .i32),
    { Z12 : Vec F S1024x10x128 .i32 // ∀ (E : Set ℕ) (K : PUnit → sProp 𝕄),
        iprop(owns (c : Thread nD τ) arg2 fullShare x2 ∗ owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg7 fullShare Z7 ∗ owns (c : Thread nD τ) arg8 fullShare Z8 ∗ owns (c : Thread nD τ) arg9 fullShare Z9 ∗ owns (c : Thread nD τ) arg10 fullShare Z10 ∗ owns (c : Thread nD τ) arg11 fullShare Z11 ∗ owns (c : Thread nD τ) arg12 fullShare Z12) -∗ K ⟨⟩))
          ⊢ wp frame (wpE (defs₀ (F := F)) 𝒱₀ c none) E (cc0_ctc_beam_decode i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    unfold owns
    iintro ⟨⟨%g2, %hg2, H2⟩, ⟨%g3, %hg3, H3⟩, ⟨%g7, %hg7, H7⟩, ⟨%g8, %hg8, H8⟩, ⟨%g9, %hg9, H9⟩, ⟨%g10, %hg10, H10⟩, ⟨%g11, %hg11, H11⟩, ⟨%g12, %hg12, H12⟩, Hk⟩
    obtain rfl := harg2.eq_unread hg2; obtain rfl := harg3.eq_unread hg3; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_unfold [cc0_ctc_beam_decode]
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl

/-- The last block of frames: the results' blocks besides. -/
noncomputable def kernelRunC (c : Dev nD) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole)
    (h1 : ¬ (Scalar.cmpi .ne (Scalar.extui (Scalar.cmpi .eq (BitVec.ofNat 32 (i 1).val) 0#32) : BitVec 32) 0#32 = 1#1)) (h2 : (k0_cond2 i = 1#1))
    (x2 : Vec F S1x1x128 .i32) (x3 : Vec F S128x128x92 .f32) (x7 : Vec F S10x128 .f32) (x8 : Vec F S10x128 .i32) (x9 : Vec F S10x128 .i32) (x10 : Vec F S10x128 .i32) (x11 : Vec F S10x128 .i32) (x12 : Vec F S1024x10x128 .i32) :
    Σ' (Y4 : Vec F S1024x128 .i32), Σ' (Y5 : Vec F S1x1x128 .i32), Σ' (Y6 : Vec F S1x1x128 .f32), Σ' (Z7 : Vec F S10x128 .f32), Σ' (Z8 : Vec F S10x128 .i32), Σ' (Z9 : Vec F S10x128 .i32), Σ' (Z10 : Vec F S10x128 .i32), Σ' (Z11 : Vec F S10x128 .i32),
    { Z12 : Vec F S1024x10x128 .i32 // ∀ (E : Set ℕ) (K : PUnit → sProp 𝕄),
        iprop(owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg4 fullShare Y4 ∗ owns (c : Thread nD τ) arg5 fullShare Y5 ∗ owns (c : Thread nD τ) arg6 fullShare Y6 ∗ owns (c : Thread nD τ) arg7 fullShare Z7 ∗ owns (c : Thread nD τ) arg8 fullShare Z8 ∗ owns (c : Thread nD τ) arg9 fullShare Z9 ∗ owns (c : Thread nD τ) arg10 fullShare Z10 ∗ owns (c : Thread nD τ) arg11 fullShare Z11 ∗ owns (c : Thread nD τ) arg12 fullShare Z12) -∗ K ⟨⟩))
          ⊢ wp frame (wpE (defs₀ (F := F)) 𝒱₀ c none) E (cc0_ctc_beam_decode i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, fun E K => ?run⟩
  case run =>
    unfold owns
    iintro ⟨⟨%g2, %hg2, H2⟩, ⟨%g3, %hg3, H3⟩, ⟨%d4, %g4, -, H4⟩, ⟨%d5, %g5, -, H5⟩, ⟨%d6, %g6, -, H6⟩, ⟨%g7, %hg7, H7⟩, ⟨%g8, %hg8, H8⟩, ⟨%g9, %hg9, H9⟩, ⟨%g10, %hg10, H10⟩, ⟨%g11, %hg11, H11⟩, ⟨%g12, %hg12, H12⟩, Hk⟩
    obtain rfl := harg2.eq_unread hg2; obtain rfl := harg3.eq_unread hg3; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_unfold [cc0_ctc_beam_decode]
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl

end Cert.Proof.KernelIdeal

end
-- ==== Proof.KernelIdeal.Frame.lean ====
/-
  The frame of the kernel's run: whatever the values, @main runs to its end, its arguments as launched and every
  semaphore at zero. Nothing is said here of the results.
-/
module

public import proofs.«01_k».proof.Proof.KernelIdeal.Run
public import Idealize.ShloMosaic.Lib.Pipeline.FrameSuffix

@[expose] public section

set_option maxRecDepth 65536
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf ΦA)

variable {F : FTy → Type} [FloatOps F] [Named F]

local notation "𝕄" => MT nD τ sig Unit (Elt F) ℕ (UR sig nD τ) ℕ

/-- No block of frames is both the first and the last of its batch block. -/
theorem first_not_last (i : grid0.Coords) (h1 : Scalar.cmpi .ne (Scalar.extui (Scalar.cmpi .eq (BitVec.ofNat 32 (i 1).val) 0#32) : BitVec 32) 0#32 = 1#1) : ¬ (k0_cond2 i = 1#1) := by
  have key : ∀ a : Fin 8, Scalar.cmpi .ne (Scalar.extui (Scalar.cmpi .eq (BitVec.ofNat 32 a.val) 0#32) : BitVec 32) 0#32 = 1#1 →
      ¬ (Scalar.cmpi .ne (Scalar.extui (Scalar.cmpi .eq (BitVec.ofNat 32 a.val) 7#32) : BitVec 32) 0#32 = 1#1) := by decide
  exact key (i 1) h1

variable (m : (ℓ : Loc nD τ sig) → Buf (Elt F) ℓ) (ρ : Dev nD → PrngReg)

/-- The scratch buffers, each owned whole at some contents. -/
theorem scopedRest0_owns (c : Dev nD) :
    (Pipeline.scopedRest (Ix := Unit) (Name := ℕ) (U := UR sig nD τ) (Lvl := ℕ) (Val := Elt F) spec0 c : sProp 𝕄)
      = iprop((∃ f : Vec F S10x128 .f32, owns (c : Thread nD τ) (Memref.whole cc0_scratch0) fullShare f) ∗ (∃ f : Vec F S10x128 .i32, owns (c : Thread nD τ) (Memref.whole cc0_scratch1) fullShare f) ∗ (∃ f : Vec F S10x128 .i32, owns (c : Thread nD τ) (Memref.whole cc0_scratch2) fullShare f) ∗ (∃ f : Vec F S10x128 .i32, owns (c : Thread nD τ) (Memref.whole cc0_scratch3) fullShare f) ∗ (∃ f : Vec F S10x128 .i32, owns (c : Thread nD τ) (Memref.whole cc0_scratch4) fullShare f) ∗ (∃ f : Vec F S1024x10x128 .i32, owns (c : Thread nD τ) (Memref.whole cc0_scratch5) fullShare f)) := by
  rw [scopedRest0_eq]
  simp only [owns_whole]
  rfl

/-- The proof data of the frame: each input's block in place after the body, the results' blocks unnamed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed (cfg := cfg0) 2 t
    | ⟨3, _⟩ => Dat.unnamed (cfg := cfg0) 3 t
    | ⟨4, _⟩ => Dat.unnamed (cfg := cfg0) 4 t
  Φ _ := Pipeline.ΦA spec0 c
  q _ := fullShare
  owed _ := 0

/-- The results' windows, of which the frame says nothing. -/
def fgt0 : Fin cfg0.W → Bool := fun | 0 => false | 1 => false | _ => true

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem beforeF_0 (c : Dev nD) (t : Fin cfg0.N) (d) : (datsF m 0 c).before 0 t d = iblk m c 0 t :=
  before0_0_of m (datsF m 0 c) rfl (afterF_0 m c) t d
theorem beforeF_1 (c : Dev nD) (t : Fin cfg0.N) (d) : (datsF m 0 c).before 1 t d = iblk m c 1 t :=
  before0_1_of m (datsF m 0 c) rfl (afterF_1 m c) t d

/-- The body at each point, from and to any contents of the scratch buffers. -/
theorem body_obligationF (c : Dev nD) : BodyObligation (datsF (F := F) m 0 c) (defs₀ (F := F)) 𝒱₀ () Set.univ fgt0 := fun t => by
  rw [bigSep_W0, bigSep_W0]
  sl_whnfR [defs₀, Defs.onTc]
  simp only [beforeF_0, beforeF_1, fgt0]
  rw [show (datsF m 0 c).Φ t.succ = Pipeline.ΦA spec0 c from rfl, show (datsF m 0 c).Φ t.castSucc = Pipeline.ΦA spec0 c from rfl,
    show (datsF m 0 c).owesAt () t.succ = (datsF m 0 c).owesAt () t.castSucc from rfl, afterF_0, afterF_1]
  unfold Pipeline.ΦA
  rw [scopedRest0_owns]
  iintro ⟨⟨⟨⟨%s0, S0⟩, ⟨%s1, S1⟩, ⟨%s2, S2⟩, ⟨%s3, S3⟩, ⟨%s4, S4⟩, ⟨%s5, S5⟩⟩, Hp⟩, Ho, ⟨%d0, H2⟩, ⟨%d1, H3⟩, ⟨%d2, H4⟩, ⟨%d3, H5⟩, ⟨%d4, H6⟩⟩
  by_cases h1 : Scalar.cmpi .ne (Scalar.extui (Scalar.cmpi .eq (BitVec.ofNat 32 ((grid0.coords t) 1).val) 0#32) : BitVec 32) 0#32 = 1#1
  · have h2 := first_not_last (grid0.coords t) h1
    iapply ((kernelRunA (F := F) c (grid0.coords t) _ _ _ _ _ _ _ _ _ _ _ _ _ _ _ _ _ _ _ _ _ _ h1 h2 (iblk m c 0 t) (iblk m c 1 t) s0 s1 s2 s3 s4 s5).2.2.2.2.2.2 Set.univ _)
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    iintro ⟨H2, H3, S0, S1, S2, S3, S4, S5⟩
    isplitl [S0 S1 S2 S3 S4 S5 Hp]
    · isplitr [Hp]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hp
    isplitl [Ho]; · iexact Ho
    isplitl [H2]; · iexact H2
    isplitl [H3]; · iexact H3
    isplitl [H4]; · iexists _; iexact H4
    isplitl [H5]; · iexists _; iexact H5
    iexists _; iexact H6
  by_cases h2 : k0_cond2 (grid0.coords t) = 1#1
  ·
    iapply ((kernelRunC (F := F) c (grid0.coords t) _ _ _ _ _ _ _ _ _ _ _ _ _ _ _ _ _ _ _ _ _ _ h1 h2 (iblk m c 0 t) (iblk m c 1 t) s0 s1 s2 s3 s4 s5).2.2.2.2.2.2.2.2.2 Set.univ _)
    isplitl [H2]; · iexact H2
    isplitl [H3]; · iexact H3
    isplitl [H4]; · iexists _; iexact H4
    isplitl [H5]; · iexists _; iexact H5
    isplitl [H6]; · iexists _; iexact H6
    isplitl [S0]; · iexact S0
    isplitl [S1]; · iexact S1
    isplitl [S2]; · iexact S2
    isplitl [S3]; · iexact S3
    isplitl [S4]; · iexact S4
    isplitl [S5]; · iexact S5
    iintro ⟨H2, H3, H4, H5, H6, S0, S1, S2, S3, S4, S5⟩
    isplitl [S0 S1 S2 S3 S4 S5 Hp]
    · isplitr [Hp]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hp
    isplitl [Ho]; · iexact Ho
    isplitl [H2]; · iexact H2
    isplitl [H3]; · iexact H3
    isplitl [H4]; · iexists _; iexact H4
    isplitl [H5]; · iexists _; iexact H5
    iexists _; iexact H6
  ·
    iapply ((kernelRunB (F := F) c (grid0.coords t) _ _ _ _ _ _ _ _ _ _ _ _ _ _ _ _ _ _ _ _ _ _ h1 h2 (iblk m c 0 t) (iblk m c 1 t) s0 s1 s2 s3 s4 s5).2.2.2.2.2.2 Set.univ _)
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    iintro ⟨H2, H3, S0, S1, S2, S3, S4, S5⟩
    isplitl [S0 S1 S2 S3 S4 S5 Hp]
    · isplitr [Hp]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hp
    isplitl [Ho]; · iexact Ho
    isplitl [H2]; · iexact H2
    isplitl [H3]; · iexact H3
    isplitl [H4]; · iexists _; iexact H4
    isplitl [H5]; · iexists _; iexact H5
    iexists _; iexact H6

/-- What the host lines after the kernel write. -/
def tailT : Finset (Ref sig .tc) := {main_v4, main_v5, main_v6}

theorem sfx_T : ∀ ops ∈ ([hostOps1] : List (List (HloOp τ sig (Elt F)))), ∀ op ∈ ops,
    ∀ b : Ref sig .tc, Proc.devRef .tc b ∈ op.writes → b ∈ tailT := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, StableHlo.reshape_writes, Finset.mem_singleton] at hb
    have := Proc.devRef_injective .tc hb
    subst this; decide

set_option backward.isDefEq.respectTransparency.types false in
/-- Every fair execution ends, with every buffer the kernel and the later host lines leave alone as the region found it. -/
theorem run_mainF : θ_run defs (onTc (τ := τ) (main (F := F))) (s₀ m ρ)
    (fun r => RDat.FramePostR cfg0 (fun c => (datsF m 0 c).toRForget fgt0) tailT (fun c b => V0 m c (Proc.devRef .tc b)) r ∧ r.2.sem = fun _ => 0) :=
  Pipeline.θ_run_frame_around_T_forget (Q' := _) cfgs (datsF m) (0 : Fin 1) launch0 defs₀ 𝒱₀ fgt0 tailT m ρ main
    (hbody := fun c => (body_obligationF m c).loose) (hshare := fun c => (datsF m 0 c).share_full fun _ => rfl)
    (howed := fun _ _ => rfl) (V₀ := V0 m) (opss := [hostOps1]) sfx_sub sfx_fresh sfx_keeps sfx_T (hmain m 𝒱₀)
    (hA := fun _ _ => rfl) (hΦ := fun _ _ => rfl)

/-- The frame claim at any values: the arguments end as launched, the semaphores at zero. -/
theorem frameF : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c)⟩,
      h.2⟩) (run_mainF m ρ)

end Cert.Proof.KernelIdeal

end
-- ==== Proof.ReferenceIdeal.Frame.lean ====
/- The reference's frame: it runs to the end, leaves its arguments unchanged, and has no semaphore at all. -/
module

public import proofs.«01_k».proof.Proof.Gen.ReferenceIdeal
public import proofs.«01_k».proof.Proof.Gen.ReferenceIdeal.Run

@[expose] public section

noncomputable section

namespace Cert.Proof.ReferenceIdeal

open Cert.ReferenceIdeal
open Idealize.ShloMosaic Idealize.SL.Sem

variable {F : FTy → Type} [FloatOps F]

/-- The program has no semaphore, so any two states of the counters agree. -/
theorem sem_zero (f : GSem nD τ sig → Int) : f = fun _ => 0 := by
  funext s
  rcases s with ⟨_, s⟩
  rcases s with s | s <;> exact absurd s.2 (Nat.not_lt_zero _)

/-- The reference terminates, its two arguments unchanged and every counter at zero. -/
theorem frameF (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c).2.2.2.1, (h c).2.2.2.2⟩, sem_zero _⟩) (Cert.ReferenceIdeal.Value.run m ρ)

end Cert.Proof.ReferenceIdeal

end
-- ==== Proof.Beam.Spec.lean ====
/-
  One frame of the beam search for ONE batch row, in plain mathematics: ten hypotheses, each with a score, a pair of
  hashes, its last token and its length; 92 log-probabilities; the scores of the 920 candidates; the ten best of them in
  the order of the keys (best score, hash 2, hash 1, later candidate). Two readings of the candidates' scores are stated,
  the reference's (`score`) and the kernel's (`kgrid`), and proved equal.
-/
module

public import Idealize.ShloMosaic.Lib.SortFacts
public import Mathlib.Data.EReal.Operations
public import Mathlib.Data.Prod.Lex

@[expose] public section

noncomputable section

namespace Cert.Proof.Beam

open Idealize.ShloMosaic

/-- The ten hypotheses of one batch row. -/
structure Row where
  sc : Fin 10 → EReal
  h1 : Fin 10 → BitVec 32
  h2 : Fin 10 → BitVec 32
  lt : Fin 10 → BitVec 32
  ln : Fin 10 → BitVec 32

/-- A character as a word. -/
def ch (c : Fin 92) : BitVec 32 := BitVec.ofNat 32 c.val

theorem ch_toNat (c : Fin 92) : (ch c).toNat = c.val := by
  unfold ch; rw [BitVec.toNat_ofNat]; have := c.isLt; omega

theorem ch_inj {c d : Fin 92} (h : ch c = ch d) : c = d := by
  apply Fin.ext; rw [← ch_toNat c, ← ch_toNat d, h]

theorem ch_eq_91 (c : Fin 92) : ch c = 91#32 ↔ c = 91 :=
  ⟨fun h => ch_inj (h.trans rfl), fun h => by rw [h]; rfl⟩

theorem ch_toInt (c : Fin 92) : (ch c).toInt = c.val := by
  have h := ch_toNat c
  have := c.isLt
  rw [BitVec.toInt_eq_toNat_of_lt (by omega), h]

variable (S : Row) (lp : Fin 92 → EReal)

/-- Hypothesis `i` may be extended by the character `c`: not the blank, and not its last token again. -/
def app (i : Fin 10) (c : Fin 92) : Prop := c ≠ 91 ∧ (S.ln i = 0#32 ∨ ch c ≠ S.lt i)

instance (i : Fin 10) (c : Fin 92) : Decidable (app S i c) := by unfold app; infer_instance

/-- The first hash of a candidate. -/
def k1 (i : Fin 10) (c : Fin 92) : BitVec 32 :=
  if app S i c then S.h1 i * 1000003#32 + (ch c + 1#32) else S.h1 i

/-- The second hash of a candidate. -/
def k2 (i : Fin 10) (c : Fin 92) : BitVec 32 :=
  if app S i c then S.h2 i * 2654435761#32 + (ch c + 1#32) * 40503#32 else S.h2 i

/-- The score of hypothesis `i` kept as it is: the best of its candidates that append nothing. -/
def keep (i : Fin 10) : EReal := Finset.univ.sup fun c => if app S i c then ⊥ else S.sc i + lp c

/-- Hypothesis `i` extended by `c` is hypothesis `j`. -/
def same (i : Fin 10) (c : Fin 92) (j : Fin 10) : Prop := app S i c ∧ k1 S i c = S.h1 j ∧ k2 S i c = S.h2 j

instance (i : Fin 10) (c : Fin 92) (j : Fin 10) : Decidable (same S i c j) := by unfold same; infer_instance

/-- Hypothesis `j` is an extension of some hypothesis. -/
def gone (j : Fin 10) : Prop := ∃ i c, same S i c j

instance (j : Fin 10) : Decidable (gone S j) := by unfold gone; infer_instance

/-- The score of a candidate, after the merges. -/
def score (i : Fin 10) (c : Fin 92) : EReal :=
  if app S i c then max (S.sc i + lp c) (Finset.univ.sup fun j => if same S i c j then keep S lp j else ⊥)
  else if c = 91 then (if gone S i then ⊥ else keep S lp i) else ⊥

/-! ## The kernel's reading of the scores -/

/-- The kernel's score of a kept hypothesis. -/
def kstay (i : Fin 10) : EReal :=
  S.sc i + max (lp 91) (if 0 < (S.ln i).toInt then Finset.univ.sup (fun c => if ch c = S.lt i then lp c else ⊥) else ⊥)

/-- The word that, added to the hash of `i`, gives that of `j`. -/
def u1 (j i : Fin 10) : BitVec 32 := S.h1 j - S.h1 i * 1000003#32

/-- The kernel's test that hypothesis `j` extends hypothesis `i`. -/
def mj (j i : Fin 10) : Prop :=
  (S.h2 j = S.h2 i * 2654435761#32 + u1 S j i * 40503#32 ∧ 1 ≤ (u1 S j i).toInt ∧ (u1 S j i).toInt ≤ 91)
    ∧ (S.ln i = 0#32 ∨ u1 S j i - 1#32 ≠ S.lt i)

instance (j i : Fin 10) : Decidable (mj S j i) := by unfold mj; infer_instance

/-- One merge: the extensions that are hypothesis `j` take the better score. -/
def mstep (j : Fin 10) (g : Fin 10 → Fin 92 → EReal) : Fin 10 → Fin 92 → EReal :=
  fun i c => if mj S j i ∧ ch c = u1 S j i - 1#32 then max (g i c) (kstay S lp j) else g i c

/-- The candidates that append, before the merges. -/
def grid0 : Fin 10 → Fin 92 → EReal := fun i c => if app S i c then S.sc i + lp c else ⊥

/-- The kernel's scores of the candidates. -/
def kgrid : Fin 10 → Fin 92 → EReal := fun i c =>
  if c = 91 then (if ∃ k, mj S i k then ⊥ else kstay S lp i)
  else mstep S lp 9 (mstep S lp 8 (mstep S lp 7 (mstep S lp 6 (mstep S lp 5 (mstep S lp 4 (mstep S lp 3 (mstep S lp 2
    (mstep S lp 1 (mstep S lp 0 (grid0 S lp)))))))))) i c

theorem ereal_add_max (a b c : EReal) : a + max b c = max (a + b) (a + c) :=
  Monotone.map_max (f := fun x => a + x) fun _ _ h => add_le_add_right h a

theorem kstay_eq_keep (i : Fin 10) (h : 0 ≤ (S.ln i).toInt) : kstay S lp i = keep S lp i := by
  have hz : S.ln i = 0#32 ↔ ¬ 0 < (S.ln i).toInt := by
    constructor
    · intro e; rw [e]; decide
    · intro e
      have : (S.ln i).toInt = (0#32).toInt := by rw [show (0#32).toInt = 0 from by decide]; omega
      exact BitVec.eq_of_toInt_eq this
  have h91 : ¬ app S i 91 := fun e => e.1 rfl
  have hle : ∀ c, ¬ app S i c → S.sc i + lp c ≤ keep S lp i := fun c hc => by
    have := Finset.le_sup (f := fun c => if app S i c then ⊥ else S.sc i + lp c) (Finset.mem_univ c)
    rw [if_neg hc] at this
    exact this
  apply le_antisymm
  · unfold kstay
    rw [ereal_add_max]
    refine max_le (hle 91 h91) ?_
    split
    · rename_i hp
      by_cases hc : ∃ c, ch c = S.lt i
      · obtain ⟨c, hc⟩ := hc
        have hs : (Finset.univ.sup fun c => if ch c = S.lt i then lp c else ⊥) ≤ lp c := by
          refine Finset.sup_le fun d _ => ?_
          split
          · rename_i hd; rw [ch_inj (hd.trans hc.symm)]
          · exact bot_le
        refine le_trans (add_le_add_right hs _) (hle c fun ha => ?_)
        rcases ha.2 with h0 | h0
        · exact (hz.mp h0) hp
        · exact h0 hc
      · have hs : (Finset.univ.sup fun c => if ch c = S.lt i then lp c else ⊥) = ⊥ := by
          refine le_bot_iff.mp (Finset.sup_le fun d _ => ?_)
          rw [if_neg fun e => hc ⟨d, e⟩]
        rw [hs, EReal.add_bot]; exact bot_le
    · rw [EReal.add_bot]; exact bot_le
  · refine Finset.sup_le fun c _ => ?_
    split
    · exact bot_le
    · rename_i hc
      refine add_le_add_right ?_ _
      by_cases h9 : c = 91
      · rw [h9]; exact le_max_left _ _
      · refine le_trans ?_ (le_max_right _ _)
        unfold app at hc
        push Not at hc
        obtain ⟨h0, h1⟩ := hc h9
        rw [if_pos (by by_contra hn; exact h0 (hz.mpr hn))]
        have := Finset.le_sup (f := fun c => if ch c = S.lt i then lp c else ⊥) (Finset.mem_univ c)
        simpa only [if_pos h1] using this

theorem mstep_foldl (l : List (Fin 10)) (g : Fin 10 → Fin 92 → EReal) (i : Fin 10) (c : Fin 92) :
    (l.foldl (fun g j => mstep S lp j g) g) i c
      = max (g i c) (l.toFinset.sup fun j => if mj S j i ∧ ch c = u1 S j i - 1#32 then kstay S lp j else ⊥) := by
  induction l generalizing g with
  | nil => simp
  | cons j l ih =>
    rw [List.foldl_cons, ih, List.toFinset_cons, Finset.sup_insert]
    unfold mstep
    split
    · exact max_assoc _ _ _
    · rw [show (⊥ : EReal) ⊔ _ = _ from bot_sup_eq _]

theorem match_iff_same (i : Fin 10) (c : Fin 92) (j : Fin 10) :
    (mj S j i ∧ c ≠ 91 ∧ ch c = u1 S j i - 1#32) ↔ same S i c j := by
  unfold mj same k1 k2
  constructor
  · rintro ⟨⟨⟨h2, -, -⟩, hl⟩, h9, hc⟩
    have ha : app S i c := ⟨h9, by rw [hc]; exact hl⟩
    have hu : ch c + 1#32 = u1 S j i := by rw [hc]; exact BitVec.sub_add_cancel _ _
    refine ⟨ha, ?_, ?_⟩
    · rw [if_pos ha, hu]; unfold u1; rw [BitVec.add_comm, BitVec.sub_add_cancel]
    · rw [if_pos ha, hu, h2]
  · rintro ⟨ha, h1, h2⟩
    rw [if_pos ha] at h1 h2
    have hu : u1 S j i = ch c + 1#32 := by
      unfold u1; rw [← h1, BitVec.add_comm, BitVec.add_sub_cancel]
    have hn := ch_toNat c
    have hlt := c.isLt
    have h9 : c.val ≠ 91 := fun e => ha.1 (Fin.ext e)
    have hi : (ch c + 1#32).toInt = c.val + 1 := by
      have : (ch c + 1#32).toNat = c.val + 1 := by
        rw [BitVec.toNat_add, hn]; simp; omega
      rw [BitVec.toInt_eq_toNat_of_lt (by omega), this]; rfl
    have hc : ch c = u1 S j i - 1#32 := by rw [hu, BitVec.add_sub_cancel]
    refine ⟨⟨⟨by rw [hu, h2], ?_, ?_⟩, ?_⟩, ha.1, hc⟩
    · rw [hu, hi]; omega
    · rw [hu, hi]; omega
    · rw [← hc]; exact ha.2

theorem exists_mj_iff (j : Fin 10) : (∃ i, mj S j i) ↔ gone S j := by
  constructor
  · rintro ⟨i, h⟩
    have h1 := h.1.2.1
    have h2 := h.1.2.2
    have hnn : (u1 S j i).toInt = (u1 S j i).toNat := by
      rw [BitVec.toInt_eq_toNat_cond] at h1 ⊢
      split
      · rfl
      · rename_i hh
        rw [if_neg hh] at h1
        have := (u1 S j i).isLt
        omega
    have hb : (u1 S j i).toNat - 1 < 91 := by omega
    refine ⟨i, ⟨(u1 S j i).toNat - 1, by omega⟩, (match_iff_same S i _ j).mp ⟨h, ?_, ?_⟩⟩
    · intro e
      have := congrArg Fin.val e
      have e91 : ((91 : Fin 92) : ℕ) = 91 := rfl
      rw [e91] at this
      simp only at this
      omega
    · apply BitVec.eq_of_toNat_eq
      rw [ch_toNat, BitVec.toNat_sub]
      simp only [BitVec.toNat_ofNat]
      have := (u1 S j i).isLt
      omega
  · rintro ⟨i, c, h⟩
    exact ⟨i, ((match_iff_same S i c j).mpr h).1⟩

/-- The kernel's scores of the candidates are the reference's. -/
theorem kgrid_eq_score (h : ∀ i, 0 ≤ (S.ln i).toInt) : kgrid S lp = score S lp := by
  funext i c
  unfold kgrid score
  by_cases h9 : c = 91
  · have ha : ¬ app S i c := fun e => e.1 h9
    rw [if_pos h9, if_neg ha, if_pos h9, kstay_eq_keep S lp i (h i)]
    by_cases hg : gone S i
    · rw [if_pos hg, if_pos ((exists_mj_iff S i).mpr hg)]
    · rw [if_neg hg, if_neg fun e => hg ((exists_mj_iff S i).mp e)]
  · rw [if_neg h9]
    have hf := mstep_foldl S lp (List.finRange 10) (grid0 S lp) i c
    have hl : List.finRange 10 = [0, 1, 2, 3, 4, 5, 6, 7, 8, 9] := by decide
    rw [List.toFinset_finRange, hl] at hf
    refine hf.trans ?_
    have hs : (fun j => if mj S j i ∧ ch c = u1 S j i - 1#32 then kstay S lp j else ⊥)
        = fun j => if same S i c j then keep S lp j else ⊥ := by
      funext j
      rw [kstay_eq_keep S lp j (h j)]
      have := match_iff_same S i c j
      by_cases hj : same S i c j
      · rw [if_pos hj, if_pos ⟨(this.mpr hj).1, (this.mpr hj).2.2⟩]
      · rw [if_neg hj, if_neg fun e => hj (this.mp ⟨e.1, h9, e.2⟩)]
    rw [hs]
    unfold grid0
    by_cases ha : app S i c
    · rw [if_pos ha, if_pos ha]
    · rw [if_neg ha, if_neg ha, if_neg h9]
      have : (Finset.univ.sup fun j => if same S i c j then keep S lp j else ⊥) = ⊥ := by
        refine le_bot_iff.mp (Finset.sup_le fun j _ => ?_)
        rw [if_neg fun e : same S i c j => ha e.1]
      rw [this]; exact max_self _

/-! ## The order of the candidates -/

/-- The hypothesis of candidate `p`. -/
def slot (p : Fin 920) : Fin 10 := ⟨p.val / 92, by have := p.isLt; omega⟩

/-- The character of candidate `p`. -/
def chr (p : Fin 920) : Fin 92 := ⟨p.val % 92, Nat.mod_lt _ (by decide)⟩

/-- The candidate of a hypothesis and a character. -/
def cand (i : Fin 10) (c : Fin 92) : Fin 920 := ⟨i.val * 92 + c.val, by have := i.isLt; have := c.isLt; omega⟩

theorem slot_cand (i : Fin 10) (c : Fin 92) : slot (cand i c) = i := by
  apply Fin.ext; have := c.isLt; simp only [slot, cand]; omega

theorem chr_cand (i : Fin 10) (c : Fin 92) : chr (cand i c) = c := by
  apply Fin.ext; have := c.isLt; simp only [chr, cand]; omega

theorem cand_slot_chr (p : Fin 920) : cand (slot p) (chr p) = p := by
  apply Fin.ext; simp only [slot, cand, chr]; omega

/-- The key of a candidate. -/
abbrev Key := EReal ×ₗ (ℕ ×ₗ (ℕ ×ₗ ℕ))

/-- The best score first, then the smaller second hash, the smaller first hash, the later candidate. -/
def key (p : Fin 920) : Key :=
  toLex (-(score S lp (slot p) (chr p)),
    toLex ((k2 S (slot p) (chr p)).toNat, toLex ((k1 S (slot p) (chr p)).toNat, 919 - p.val)))

theorem key_injective : Function.Injective (key S lp) := by
  intro p q h
  have h1 := congrArg (fun x => (ofLex (ofLex (ofLex x).2).2).2) h
  have h2 : 919 - p.val = 919 - q.val := h1
  apply Fin.ext
  have := p.isLt
  have := q.isLt
  omega

/-- Candidate `p` comes before candidate `q`. -/
def before (p q : Fin 920) : Bool := decide (key S lp p < key S lp q)

/-- The candidates in order. -/
@[irreducible] def order : Fin 920 → Fin 920 := sortedFrom (before S lp)

theorem order_eq : order S lp = sortedFrom (before S lp) := by unfold order; rfl

theorem order_injective : Function.Injective (order S lp) := by rw [order_eq]; exact sortedFrom_injective _

theorem order_surjective : Function.Surjective (order S lp) := by rw [order_eq]; exact sortedFrom_surjective _

theorem order_mono {a b : Fin 920} (h : a ≤ b) : key S lp (order S lp a) ≤ key S lp (order S lp b) := by
  rcases eq_or_lt_of_le h with rfl | h
  · exact le_rfl
  · rw [order_eq]
    have := sortedFrom_noInversion (before S lp) (before S lp) ?_ ?_ ?_ a b h
    · exact not_lt.mp (of_decide_eq_false this)
    · intro p q hpq
      exact decide_eq_false (not_lt.mpr (le_of_lt (of_decide_eq_true hpq)))
    · intro p q hpq; exact hpq
    · intro p q r hpq hqr
      exact decide_eq_false (not_lt.mpr ((not_lt.mp (of_decide_eq_false hqr)).trans (not_lt.mp (of_decide_eq_false hpq))))

/-- The candidate that becomes slot `k`. -/
def pick (k : Fin 10) : Fin 920 := order S lp (k.castLE (by decide))

theorem pick_injective : Function.Injective (pick S lp) := by
  intro a b h
  exact Fin.castLE_injective _ (order_injective S lp h)

/-- A candidate not picked before has no smaller key. -/
theorem pick_le (k : Fin 10) (q : Fin 920) (hq : ∀ k' : Fin 10, k' < k → q ≠ pick S lp k') :
    key S lp (pick S lp k) ≤ key S lp q := by
  obtain ⟨r, rfl⟩ := order_surjective S lp q
  have hr : k.castLE (by decide) ≤ r := by
    by_contra hn
    have hlt : r.val < k.val := by simpa [Fin.lt_def] using not_le.mp hn
    refine hq ⟨r.val, by have := k.isLt; omega⟩ hlt ?_
    unfold pick
    rfl
  exact order_mono S lp hr

theorem score_ge_of_key_le {p q : Fin 920} (h : key S lp p ≤ key S lp q) :
    score S lp (slot q) (chr q) ≤ score S lp (slot p) (chr p) := by
  rcases Prod.Lex.le_iff.mp h with h | h
  · exact le_of_lt (EReal.neg_lt_neg_iff.mp h)
  · exact le_of_eq (neg_injective h.1).symm

theorem pick_score_ge (k : Fin 10) (q : Fin 920) (hq : ∀ k' : Fin 10, k' < k → q ≠ pick S lp k') :
    score S lp (slot q) (chr q) ≤ score S lp (slot (pick S lp k)) (chr (pick S lp k)) :=
  score_ge_of_key_le S lp (pick_le S lp k q hq)

/-- With the first hypothesis alive and all log-probabilities above minus infinity, all ten picks are alive. -/
theorem pick_alive (h0 : S.sc 0 ≠ ⊥) (hlp : ∀ c, lp c ≠ ⊥) (k : Fin 10) :
    score S lp (slot (pick S lp k)) (chr (pick S lp k)) ≠ ⊥ := by
  intro hk
  -- ten candidates of the first hypothesis that append
  let f : Fin 10 → Fin 92 := fun n => if (BitVec.ofNat 32 n.val).ult (S.lt 0) then ⟨n.val, by have := n.isLt; omega⟩
    else ⟨n.val + 1, by have := n.isLt; omega⟩
  have hf : Function.Injective f := by
    intro a b hab
    have hab' := congrArg Fin.val hab
    simp only [f] at hab'
    have ha := a.isLt
    have hb := b.isLt
    apply Fin.ext
    by_cases h1 : (BitVec.ofNat 32 a.val).ult (S.lt 0) <;> by_cases h2 : (BitVec.ofNat 32 b.val).ult (S.lt 0)
    · simpa [h1, h2] using hab'
    · simp only [h1, h2, if_true, if_false] at hab'
      simp only [BitVec.ult_eq_decide, BitVec.toNat_ofNat, decide_eq_true_eq] at h1 h2
      simp at hab'
      omega
    · simp only [h1, h2, if_true, if_false] at hab'
      simp only [BitVec.ult_eq_decide, BitVec.toNat_ofNat, decide_eq_true_eq] at h1 h2
      simp at hab'
      omega
    · simpa [h1, h2] using hab'
  have happ : ∀ n, app S 0 (f n) := by
    intro n
    have hn := n.isLt
    refine ⟨fun e => ?_, Or.inr fun e => ?_⟩
    · have e' := congrArg Fin.val e
      have e91 : ((91 : Fin 92) : ℕ) = 91 := rfl
      rw [e91] at e'
      simp only [f] at e'
      split at e' <;> simp at e' <;> omega
    · have e' := congrArg BitVec.toNat e
      rw [ch_toNat] at e'
      simp only [f] at e'
      split at e' <;> rename_i h1 <;>
        simp only [BitVec.ult_eq_decide, BitVec.toNat_ofNat, decide_eq_true_eq] at h1 e' <;> omega
  have halive : ∀ n, score S lp 0 (f n) ≠ ⊥ := by
    intro n e
    unfold score at e
    rw [if_pos (happ n)] at e
    have := le_bot_iff.mp ((le_max_left _ _).trans (le_of_eq e))
    rcases EReal.add_eq_bot_iff.mp this with h | h
    · exact h0 h
    · exact hlp _ h
  have hmem : ∀ n, ∃ k' : Fin 10, k' < k ∧ cand 0 (f n) = pick S lp k' := by
    intro n
    by_contra hc
    push Not at hc
    have := pick_score_ge S lp k (cand 0 (f n)) fun k' hk' => hc k' hk'
    rw [hk, slot_cand, chr_cand] at this
    exact halive n (le_bot_iff.mp this)
  choose g hg1 hg2 using hmem
  have hgi : Function.Injective g := by
    intro a b hab
    have : cand 0 (f a) = cand 0 (f b) := by rw [hg2, hg2, hab]
    have h2 := congrArg chr this
    rw [chr_cand, chr_cand] at h2
    exact hf h2
  have hsur := Finite.injective_iff_surjective.mp hgi
  obtain ⟨a, ha⟩ := hsur k
  exact absurd (hg1 a) (by rw [ha]; exact lt_irrefl k)

/-! ## One frame -/

/-- The parent of the new slot `k`. -/
def par (k : Fin 10) : Fin 10 := slot (pick S lp k)

/-- The character of the new slot `k`. -/
def tok (k : Fin 10) : Fin 92 := chr (pick S lp k)

/-- The ten hypotheses after one frame. -/
def step : Row where
  sc k := score S lp (par S lp k) (tok S lp k)
  h1 k := k1 S (par S lp k) (tok S lp k)
  h2 k := k2 S (par S lp k) (tok S lp k)
  lt k := if tok S lp k = 91 then S.lt (par S lp k) else ch (tok S lp k)
  ln k := S.ln (par S lp k) + (if tok S lp k = 91 then 0#32 else 1#32)

theorem step_sc_alive (h0 : S.sc 0 ≠ ⊥) (hlp : ∀ c, lp c ≠ ⊥) (k : Fin 10) : (step S lp).sc k ≠ ⊥ :=
  pick_alive S lp h0 hlp k

theorem step_sc_sorted (k : Fin 10) : (step S lp).sc k ≤ (step S lp).sc 0 := by
  refine pick_score_ge S lp 0 (pick S lp k) fun k' hk' => ?_
  exact absurd hk' (Fin.not_lt_zero k')

/-- A pick that is alive either appends or is the blank. -/
theorem app_of_alive {i : Fin 10} {c : Fin 92} (h : score S lp i c ≠ ⊥) (h9 : c ≠ 91) : app S i c := by
  by_contra hn
  apply h
  unfold score
  rw [if_neg hn, if_neg h9]

end Cert.Proof.Beam

end
-- ==== Proof.Beam.Pick.lean ====
/-
  The kernel's way to find the ten best candidates: ten times the largest score, ties narrowed to the smallest second
  hash, then the smallest first hash, then the largest index, and that candidate crossed out. It finds the candidates in
  their order, as long as the ten best are alive.
-/
module

public import proofs.«01_k».proof.Proof.Beam.Spec
public import Idealize.ShloMosaic.Lib.SortNet.Extract
public import Idealize.ShloMosaic.Lib.SortNet.Words

@[expose] public section

noncomputable section

namespace Cert.Proof.Beam

open Idealize.ShloMosaic

/-! ## Signed extrema over a table -/

variable {ι : Type}

theorem fold_minsi_le (b : BitVec 32) (f : ι → BitVec 32) (s : Finset ι) {x : ι} (hx : x ∈ s) :
    (s.fold IntOp.minsi b f).toInt ≤ (f x).toInt := by
  classical
  induction s using Finset.induction_on with
  | empty => exact absurd hx (Finset.notMem_empty x)
  | insert a s ha ih =>
    rw [Finset.fold_insert ha, SortNet.toInt_minsi]
    rcases Finset.mem_insert.mp hx with rfl | h
    · exact min_le_left _ _
    · exact (min_le_right _ _).trans (ih h)

theorem le_fold_minsi (b : BitVec 32) (f : ι → BitVec 32) (s : Finset ι) {m : ℤ} (hb : m ≤ b.toInt)
    (h : ∀ x, m ≤ (f x).toInt) : m ≤ (s.fold IntOp.minsi b f).toInt := by
  classical
  induction s using Finset.induction_on with
  | empty => exact hb
  | insert a s ha ih => rw [Finset.fold_insert ha, SortNet.toInt_minsi]; exact le_min (h a) ih

theorem le_fold_maxsi (b : BitVec 32) (f : ι → BitVec 32) (s : Finset ι) {x : ι} (hx : x ∈ s) :
    (f x).toInt ≤ (s.fold IntOp.maxsi b f).toInt := by
  classical
  induction s using Finset.induction_on with
  | empty => exact absurd hx (Finset.notMem_empty x)
  | insert a s ha ih =>
    rw [Finset.fold_insert ha, SortNet.toInt_maxsi]
    rcases Finset.mem_insert.mp hx with rfl | h
    · exact le_max_left _ _
    · exact (ih h).trans (le_max_right _ _)

theorem fold_maxsi_le (b : BitVec 32) (f : ι → BitVec 32) (s : Finset ι) {m : ℤ} (hb : b.toInt ≤ m)
    (h : ∀ x, (f x).toInt ≤ m) : (s.fold IntOp.maxsi b f).toInt ≤ m := by
  classical
  induction s using Finset.induction_on with
  | empty => exact hb
  | insert a s ha ih => rw [Finset.fold_insert ha, SortNet.toInt_maxsi]; exact max_le (h a) ih

open Classical in
/-- The smallest word of the table among the marked places. -/
def min2 (b : Fin 10 → Fin 92 → Prop) (v : Fin 10 → Fin 92 → BitVec 32) : BitVec 32 :=
  Finset.univ.fold IntOp.minsi 2147483647#32 fun i =>
    Finset.univ.fold IntOp.minsi 2147483647#32 fun c => if b i c then v i c else 2147483647#32

open Classical in
/-- The largest word of the table among the marked places. -/
def max2 (b : Fin 10 → Fin 92 → Prop) (v : Fin 10 → Fin 92 → BitVec 32) : BitVec 32 :=
  Finset.univ.fold IntOp.maxsi 2147483648#32 fun i =>
    Finset.univ.fold IntOp.maxsi 2147483648#32 fun c => if b i c then v i c else 4294967295#32

theorem min2_eq (b : Fin 10 → Fin 92 → Prop) (v : Fin 10 → Fin 92 → BitVec 32) (i : Fin 10) (c : Fin 92) (hb : b i c)
    (hm : ∀ i' c', b i' c' → (v i c).toInt ≤ (v i' c').toInt) : min2 b v = v i c := by
  have htop : ∀ x : BitVec 32, x.toInt ≤ (2147483647#32).toInt := fun x => by
    have := BitVec.toInt_lt (x := x)
    rw [show (2147483647#32).toInt = 2147483647 from by decide]; omega
  apply BitVec.eq_of_toInt_eq
  apply le_antisymm
  · refine (fold_minsi_le _ _ _ (Finset.mem_univ i)).trans ((fold_minsi_le _ _ _ (Finset.mem_univ c)).trans ?_)
    rw [if_pos hb]
  · refine le_fold_minsi _ _ _ (htop _) fun i' => le_fold_minsi _ _ _ (htop _) fun c' => ?_
    split
    · rename_i h; exact hm i' c' h
    · exact htop _

theorem max2_eq (b : Fin 10 → Fin 92 → Prop) (v : Fin 10 → Fin 92 → BitVec 32) (i : Fin 10) (c : Fin 92) (hb : b i c)
    (h0 : 0 ≤ (v i c).toInt) (hm : ∀ i' c', b i' c' → (v i' c').toInt ≤ (v i c).toInt) : max2 b v = v i c := by
  have hbot : (2147483648#32).toInt ≤ (v i c).toInt := by
    rw [show (2147483648#32).toInt = -2147483648 from by decide]; omega
  apply BitVec.eq_of_toInt_eq
  apply le_antisymm
  · refine fold_maxsi_le _ _ _ hbot fun i' => fold_maxsi_le _ _ _ hbot fun c' => ?_
    split
    · rename_i h; exact hm i' c' h
    · rw [show (4294967295#32).toInt = -1 from by decide]; omega
  · refine le_trans ?_ (le_fold_maxsi _ _ _ (Finset.mem_univ i))
    refine le_trans ?_ (le_fold_maxsi _ _ _ (Finset.mem_univ c))
    rw [if_pos hb]

/-! ## The kernel's pick -/

/-- The largest score. -/
def kcur (g : Fin 10 → Fin 92 → EReal) : EReal := Finset.univ.sup fun i => Finset.univ.sup fun c => g i c

/-- The index of the candidate picked at the score `cur`. -/
def ksel (g : Fin 10 → Fin 92 → EReal) (K1 K2 FID : Fin 10 → Fin 92 → BitVec 32) (cur : EReal) : BitVec 32 :=
  max2 (fun i c => (g i c = cur ∧ K2 i c = min2 (fun i c => g i c = cur) K2)
    ∧ K1 i c = min2 (fun i c => g i c = cur ∧ K2 i c = min2 (fun i c => g i c = cur) K2) K1) FID

/-- The kernel's index of a candidate. -/
def fid (i : Fin 10) (c : Fin 92) : BitVec 32 := (BitVec.ofNat 32 i.val <<< 7) ||| ch c

theorem fid_toNat (i : Fin 10) (c : Fin 92) : (fid i c).toNat = 128 * i.val + c.val := by
  revert i c
  unfold fid ch
  decide +kernel

theorem fid_par (i : Fin 10) (c : Fin 92) : fid i c >>> 7 = BitVec.ofNat 32 i.val := by
  revert i c
  unfold fid ch
  decide +kernel

theorem fid_tok (i : Fin 10) (c : Fin 92) : fid i c &&& 127#32 = ch c := by
  revert i c
  unfold fid ch
  decide +kernel

theorem fid_toInt (i : Fin 10) (c : Fin 92) : (fid i c).toInt = 128 * i.val + c.val := by
  have h := fid_toNat i c
  have := c.isLt
  have := i.isLt
  rw [BitVec.toInt_eq_toNat_of_lt (by omega), h]
  push_cast
  rfl

theorem fid_inj {i i' : Fin 10} {c c' : Fin 92} (h : fid i c = fid i' c') : i = i' ∧ c = c' := by
  have h' := congrArg BitVec.toNat h
  rw [fid_toNat, fid_toNat] at h'
  have := c.isLt
  have := c'.isLt
  exact ⟨Fin.ext (by omega), Fin.ext (by omega)⟩

/-- A word with its sign bit flipped, read as a signed number, orders like the word read as an unsigned one. -/
theorem flip_toInt (x : BitVec 32) : (x ^^^ 2147483648#32).toInt = (x.toNat : ℤ) - 2147483648 :=
  SortNet.toInt_flip (UInt32.ofBitVec x)

variable (S : Row) (lp : Fin 92 → EReal)

/-- The scores with the first `k` picks crossed out. -/
def crossed (k : ℕ) : Fin 10 → Fin 92 → EReal :=
  fun i c => if ∃ k' : Fin 10, k'.val < k ∧ cand i c = pick S lp k' then ⊥ else score S lp i c

theorem crossed_zero : crossed S lp 0 = score S lp := by
  funext i c
  unfold crossed
  rw [if_neg]
  rintro ⟨k', h, -⟩
  exact absurd h (Nat.not_lt_zero _)

theorem crossed_succ (k : Fin 10) (i : Fin 10) (c : Fin 92) : crossed S lp (k.val + 1) i c
    = if fid i c = fid (par S lp k) (tok S lp k) then ⊥ else crossed S lp k.val i c := by
  have hk : fid i c = fid (par S lp k) (tok S lp k) ↔ cand i c = pick S lp k := by
    constructor
    · intro h
      obtain ⟨h1, h2⟩ := fid_inj h
      rw [h1, h2]; exact cand_slot_chr _
    · intro h
      have h1 : i = par S lp k := by unfold par; rw [← h, slot_cand]
      have h2 : c = tok S lp k := by unfold tok; rw [← h, chr_cand]
      rw [← h1, ← h2]
  unfold crossed
  by_cases h : cand i c = pick S lp k
  · rw [if_pos ⟨k, Nat.lt_succ_self _, h⟩, if_pos (hk.mpr h)]
  · rw [if_neg fun e => h (hk.mp e)]
    have : (∃ k' : Fin 10, k'.val < k.val + 1 ∧ cand i c = pick S lp k')
        ↔ ∃ k' : Fin 10, k'.val < k.val ∧ cand i c = pick S lp k' := by
      constructor
      · rintro ⟨k', h1, h2⟩
        refine ⟨k', lt_of_le_of_ne (Nat.lt_succ_iff.mp h1) fun e => ?_, h2⟩
        exact h (h2.trans (by rw [Fin.ext e]))
      · rintro ⟨k', h1, h2⟩
        exact ⟨k', Nat.lt_succ_of_lt h1, h2⟩
    simp only [this]

theorem crossed_pick (k : Fin 10) :
    crossed S lp k.val (par S lp k) (tok S lp k) = score S lp (par S lp k) (tok S lp k) := by
  unfold crossed
  rw [if_neg]
  rintro ⟨k', h1, h2⟩
  rw [show cand (par S lp k) (tok S lp k) = pick S lp k from cand_slot_chr _] at h2
  rw [pick_injective S lp h2] at h1
  exact lt_irrefl _ h1

/-- What is not crossed out has no better key than the next pick. -/
theorem crossed_key (k : Fin 10) {i : Fin 10} {c : Fin 92}
    (hn : ¬ ∃ k' : Fin 10, k'.val < k.val ∧ cand i c = pick S lp k') :
    key S lp (pick S lp k) ≤ key S lp (cand i c) :=
  pick_le S lp k _ fun k' hk' e => hn ⟨k', hk', e⟩

theorem crossed_le (k : Fin 10) (i : Fin 10) (c : Fin 92) :
    crossed S lp k.val i c ≤ score S lp (par S lp k) (tok S lp k) := by
  by_cases hn : ∃ k' : Fin 10, k'.val < k.val ∧ cand i c = pick S lp k'
  · unfold crossed; rw [if_pos hn]; exact bot_le
  · have := score_ge_of_key_le S lp (crossed_key S lp k hn)
    rw [slot_cand, chr_cand] at this
    unfold crossed; rw [if_neg hn]; exact this

/-- The largest score left is the next pick's. -/
theorem kcur_crossed (k : Fin 10) : kcur (crossed S lp k.val) = score S lp (par S lp k) (tok S lp k) := by
  apply le_antisymm
  · exact Finset.sup_le fun i _ => Finset.sup_le fun c _ => crossed_le S lp k i c
  · rw [← crossed_pick S lp k]
    exact (Finset.le_sup (f := fun c => crossed S lp k.val (par S lp k) c) (Finset.mem_univ (tok S lp k))).trans
      (Finset.le_sup (f := fun i => Finset.univ.sup fun c => crossed S lp k.val i c) (Finset.mem_univ (par S lp k)))

/-- The kernel's pick at the largest score left is the next candidate in order. -/
theorem ksel_crossed (k : Fin 10) (ha : score S lp (par S lp k) (tok S lp k) ≠ ⊥) :
    ksel (crossed S lp k.val) (fun i c => k1 S i c ^^^ 2147483648#32) (fun i c => k2 S i c ^^^ 2147483648#32) fid
      (kcur (crossed S lp k.val)) = fid (par S lp k) (tok S lp k) := by
  rw [kcur_crossed]
  -- what ties with the pick comes after it in the order
  have hkey : ∀ i c, crossed S lp k.val i c = score S lp (par S lp k) (tok S lp k) →
      score S lp i c = score S lp (par S lp k) (tok S lp k) ∧ key S lp (pick S lp k) ≤ key S lp (cand i c) := by
    intro i c h
    by_cases hn : ∃ k' : Fin 10, k'.val < k.val ∧ cand i c = pick S lp k'
    · unfold crossed at h; rw [if_pos hn] at h; exact absurd h.symm ha
    · refine ⟨?_, crossed_key S lp k hn⟩
      unfold crossed at h; rw [if_neg hn] at h; exact h
  have hlex : ∀ i c, crossed S lp k.val i c = score S lp (par S lp k) (tok S lp k) →
      (k2 S (par S lp k) (tok S lp k)).toNat < (k2 S i c).toNat
      ∨ ((k2 S (par S lp k) (tok S lp k)).toNat = (k2 S i c).toNat
        ∧ ((k1 S (par S lp k) (tok S lp k)).toNat < (k1 S i c).toNat
        ∨ ((k1 S (par S lp k) (tok S lp k)).toNat = (k1 S i c).toNat
          ∧ 919 - (pick S lp k).val ≤ 919 - (cand i c).val))) := by
    intro i c h
    obtain ⟨hs, hle⟩ := hkey i c h
    unfold key at hle
    rw [slot_cand, chr_cand] at hle
    rcases Prod.Lex.le_iff.mp hle with h1 | ⟨-, h1⟩
    · exact absurd (EReal.neg_lt_neg_iff.mp h1) (by rw [hs]; exact lt_irrefl _)
    · rcases Prod.Lex.le_iff.mp h1 with h2 | ⟨h2, h3⟩
      · exact Or.inl h2
      · rcases Prod.Lex.le_iff.mp h3 with h4 | ⟨h4, h5⟩
        · exact Or.inr ⟨h2, Or.inl h4⟩
        · exact Or.inr ⟨h2, Or.inr ⟨h4, h5⟩⟩
  have hself := crossed_pick S lp k
  have e2 : min2 (fun i c => crossed S lp k.val i c = score S lp (par S lp k) (tok S lp k))
      (fun i c => k2 S i c ^^^ 2147483648#32) = k2 S (par S lp k) (tok S lp k) ^^^ 2147483648#32 := by
    refine min2_eq _ _ _ _ hself fun i c h => ?_
    rw [flip_toInt, flip_toInt]
    rcases hlex i c h with h1 | ⟨h1, -⟩ <;> omega
  have f2 : ∀ i c, (k2 S i c ^^^ 2147483648#32 = k2 S (par S lp k) (tok S lp k) ^^^ 2147483648#32) →
      (k2 S i c).toNat = (k2 S (par S lp k) (tok S lp k)).toNat := by
    intro i c h
    have := congrArg BitVec.toInt h
    rw [flip_toInt, flip_toInt] at this
    omega
  have f1 : ∀ i c, (k1 S i c ^^^ 2147483648#32 = k1 S (par S lp k) (tok S lp k) ^^^ 2147483648#32) →
      (k1 S i c).toNat = (k1 S (par S lp k) (tok S lp k)).toNat := by
    intro i c h
    have := congrArg BitVec.toInt h
    rw [flip_toInt, flip_toInt] at this
    omega
  unfold ksel
  rw [e2]
  have e1 : min2 (fun i c => crossed S lp k.val i c = score S lp (par S lp k) (tok S lp k)
        ∧ k2 S i c ^^^ 2147483648#32 = k2 S (par S lp k) (tok S lp k) ^^^ 2147483648#32)
      (fun i c => k1 S i c ^^^ 2147483648#32) = k1 S (par S lp k) (tok S lp k) ^^^ 2147483648#32 := by
    refine min2_eq _ _ _ _ ⟨hself, rfl⟩ fun i c h => ?_
    rw [flip_toInt, flip_toInt]
    have := f2 i c h.2
    rcases hlex i c h.1 with h1 | ⟨-, h1 | ⟨h1, -⟩⟩ <;> omega
  rw [e1]
  refine max2_eq _ _ _ _ ⟨⟨hself, rfl⟩, rfl⟩ (by rw [fid_toInt]; omega) fun i c h => ?_
  have g2 := f2 i c h.1.2
  have g1 := f1 i c h.2
  rw [fid_toInt, fid_toInt]
  have hc := c.isLt
  have hc' := (tok S lp k).isLt
  have hp : (pick S lp k).val = (par S lp k).val * 92 + (tok S lp k).val :=
    (congrArg Fin.val (cand_slot_chr (pick S lp k))).symm
  have hq : (cand i c).val = i.val * 92 + c.val := rfl
  have hb := (cand i c).isLt
  have hb' := (pick S lp k).isLt
  rcases hlex i c h.1.1 with h1 | ⟨-, h1 | ⟨-, h1⟩⟩ <;> omega

end Cert.Proof.Beam

end
-- ==== Proof.KernelIdeal.Grid.lean ====
/-
  The kernel's table of candidate scores, one frame, read lane by lane: at every lane it is the score table of the row of
  hypotheses of that lane.
-/
module

public import proofs.«01_k».proof.Proof.Gen.KernelIdeal.Skeleton
public import proofs.«01_k».proof.Proof.Beam.Pick
public import Idealize.ShloMosaic.Lib.Pointwise

@[expose] public section

noncomputable section

namespace Cert.Proof.KernelIdeal

open Cert.KernelIdeal Cert.KernelIdeal.Gen
open Idealize.ShloMosaic
open Cert.Proof.Beam

/-- The ten hypotheses of lane `b`. -/
def lane (sc : FVec Ideal S10x128 .f32) (h1 h2 lt ln : IVec S10x128 32) (b : Fin 128) : Row where
  sc i := sc (ix2 i b)
  h1 i := h1 (ix2 i b)
  h2 i := h2 (ix2 i b)
  lt i := lt (ix2 i b)
  ln i := ln (ix2 i b)

/-! ## Bits -/

theorem ofBool_and (p q : Prop) [Decidable p] [Decidable q] :
    IntOp.andi (BitVec.ofBool (decide p)) (BitVec.ofBool (decide q)) = BitVec.ofBool (decide (p ∧ q)) := by
  by_cases hp : p <;> by_cases hq : q <;> simp only [hp, hq] <;> rfl

theorem ofBool_or (p q : Prop) [Decidable p] [Decidable q] :
    IntOp.ori (BitVec.ofBool (decide p)) (BitVec.ofBool (decide q)) = BitVec.ofBool (decide (p ∨ q)) := by
  by_cases hp : p <;> by_cases hq : q <;> simp only [hp, hq] <;> rfl

theorem select_ofBool {α : Type} (p : Prop) [Decidable p] (x y : α) :
    Scalar.select (BitVec.ofBool (decide p)) x y = if p then x else y := by
  by_cases hp : p <;> simp only [hp] <;> rfl

theorem cmpi_eq_ofBool (x y : BitVec 32) : IntOp.cmpi .eq x y = BitVec.ofBool (decide (x = y)) := by
  by_cases h : x = y
  · subst h; simp [IntOp.cmpi]
  · rw [decide_eq_false h]; show BitVec.ofBool (x == y) = _; rw [beq_false_of_ne h]

theorem cmpi_ne_ofBool (x y : BitVec 32) : IntOp.cmpi .ne x y = BitVec.ofBool (decide (x ≠ y)) := by
  by_cases h : x = y
  · subst h; simp [IntOp.cmpi]
  · rw [decide_eq_true h]; show BitVec.ofBool (x != y) = _; rw [bne, beq_false_of_ne h]; rfl

theorem cmpi_sgt_ofBool (x y : BitVec 32) : IntOp.cmpi .sgt x y = BitVec.ofBool (decide (y.toInt < x.toInt)) := by
  unfold IntOp.cmpi; rfl

theorem cmpi_sge_ofBool (x y : BitVec 32) : IntOp.cmpi .sge x y = BitVec.ofBool (decide (y.toInt ≤ x.toInt)) := by
  unfold IntOp.cmpi; rfl

theorem cmpi_sle_ofBool (x y : BitVec 32) : IntOp.cmpi .sle x y = BitVec.ofBool (decide (x.toInt ≤ y.toInt)) := by
  unfold IntOp.cmpi; rfl

theorem cmpi_slt_ofBool (x y : BitVec 32) : IntOp.cmpi .slt x y = BitVec.ofBool (decide (x.toInt < y.toInt)) := by
  unfold IntOp.cmpi; rfl

theorem bit_pos (p : Prop) [Decidable p] : ((0#32).toInt < (BitVec.setWidth 32 (BitVec.ofBool (decide p))).toInt) ↔ p := by
  by_cases hp : p <;> simp only [hp] <;> decide

/-- The sum of few bits is positive when one of them is set. -/
theorem sum_bits_pos {n : ℕ} (p : Fin n → Prop) [DecidablePred p] (hn : n < 2147483648) :
    (0#32).toInt < (Finset.univ.fold IntOp.addi 0#32 fun i => BitVec.setWidth 32 (BitVec.ofBool (decide (p i)))).toInt
      ↔ ∃ i, p i := by
  have key : ∀ s : Finset (Fin n), (s.fold IntOp.addi 0#32 fun i =>
      BitVec.setWidth 32 (BitVec.ofBool (decide (p i)))).toNat = (s.filter p).card := by
    intro s
    induction s using Finset.induction_on with
    | empty => rfl
    | insert a s ha ih =>
      have hc : ((insert a s).filter p).card < 2147483648 :=
        lt_of_le_of_lt (Finset.card_le_univ _) (by rw [Fintype.card_fin]; exact hn)
      rw [Finset.fold_insert ha]
      show (_ + _ : BitVec 32).toNat = _
      rw [BitVec.toNat_add, ih]
      rw [Finset.filter_insert] at hc ⊢
      by_cases hp : p a
      · rw [if_pos hp] at hc ⊢
        rw [Finset.card_insert_of_notMem (fun h => ha (Finset.mem_filter.mp h).1)] at hc ⊢
        rw [decide_eq_true hp]
        show (1 + _) % 4294967296 = _
        rw [Nat.mod_eq_of_lt (by omega), Nat.add_comm]
      · rw [if_neg hp] at hc ⊢
        rw [decide_eq_false hp]
        show (0 + _) % 4294967296 = _
        rw [Nat.mod_eq_of_lt (by omega), Nat.zero_add]
  have hu := key Finset.univ
  have hlt : (Finset.univ.filter p).card < 2147483648 :=
    lt_of_le_of_lt (Finset.card_le_univ _) (by rw [Fintype.card_fin]; exact hn)
  rw [BitVec.toInt_eq_toNat_of_lt (x := Finset.univ.fold _ _ _) (by omega), hu]
  show (0 : ℤ) < _ ↔ _
  rw [Int.natCast_pos, Finset.card_pos]
  constructor
  · rintro ⟨i, hi⟩; exact ⟨i, (Finset.mem_filter.mp hi).2⟩
  · rintro ⟨i, hi⟩; exact ⟨i, Finset.mem_filter.mpr ⟨Finset.mem_univ _, hi⟩⟩

/-! ## One merge -/

section
variable (v5 : IVec S10x128x92 32) (h1 h2 lt ln : IVec S10x128 32)

def uV (r1 : IVec S1x128 32) : IVec S10x128 32 :=
  subi (broadcastTo S10x128 r1 broadcasts_S1x128_S10x128) (muli h1 (broadcast S10x128 1000003#32))

def mV (r1 r2 : IVec S1x128 32) : IVec S10x128 1 :=
  andi (andi (andi (cmpi .eq (broadcastTo S10x128 r2 broadcasts_S1x128_S10x128)
      (addi (muli h2 (broadcast S10x128 2654435761#32)) (muli (uV h1 r1) (broadcast S10x128 40503#32))))
    (cmpi .sge (uV h1 r1) (broadcast S10x128 1#32))) (cmpi .sle (uV h1 r1) (broadcast S10x128 91#32)))
    (ori (cmpi .eq ln (broadcast S10x128 0#32)) (cmpi .ne (subi (uV h1 r1) (broadcast S10x128 1#32)) lt))

def gV (g : FVec Ideal S10x128x92 .f32) (r1 r2 : IVec S1x128 32) (rs : FVec Ideal S1x128x1 .f32) :
    FVec Ideal S10x128x92 .f32 :=
  select (andi (broadcastTo S10x128x92 (cmpi .sgt (shapeCast S10x128x1 (extui 32 (mV h1 h2 lt ln r1 r2) natLt_1_32)
        shapeCasts_S10x128_S10x128x1) (broadcast S10x128x1 0#32)) broadcasts_S10x128x1_S10x128x92)
      (cmpi .eq v5 (broadcastTo S10x128x92 (shapeCast S10x128x1 (subi (uV h1 r1) (broadcast S10x128 1#32))
        shapeCasts_S10x128_S10x128x1) broadcasts_S10x128x1_S10x128x92)))
    (maximumf g (broadcastTo S10x128x92 rs broadcasts_S1x128x1_S10x128x92)) g

def sV (r1 r2 : IVec S1x128 32) : IVec S1x128 32 :=
  shapeCast S1x128 (multiReductionI .add [0] S128 (extui 32 (mV h1 h2 lt ln r1 r2) natLt_1_32) 0#32
    reduces_S10x128_S128 rfl) shapeCasts_S128_S1x128

end

section
variable (v5 : IVec S10x128x92 32) (sc : FVec Ideal S10x128 .f32) (h1 h2 lt ln : IVec S10x128 32)
  (P : FVec Ideal S1x128x92 .f32) (b : Fin 128)

/-- The frame's log-probabilities of lane `b`. -/
def prob (P : FVec Ideal S1x128x92 .f32) (b : Fin 128) : Fin 92 → EReal := fun c => P (ix3 0 b c)

theorem mV_apply (r1 r2 : IVec S1x128 32) (j i : Fin 10) (e1 : r1 (ix2 0 b) = h1 (ix2 j b))
    (e2 : r2 (ix2 0 b) = h2 (ix2 j b)) :
    mV h1 h2 lt ln r1 r2 (ix2 i b) = BitVec.ofBool (decide (mj (lane sc h1 h2 lt ln b) j i)) := by
  pointwise [mV, uV]
  rw [e1, e2]
  simp only [cmpi_eq_ofBool, cmpi_ne_ofBool, cmpi_sge_ofBool, cmpi_sle_ofBool, ofBool_and, ofBool_or]
  congr 1
  refine decide_eq_decide.mpr ?_
  unfold mj u1 lane
  constructor
  · rintro ⟨⟨⟨a, d⟩, e⟩, f⟩; exact ⟨⟨a, d, e⟩, f⟩
  · rintro ⟨⟨a, d, e⟩, f⟩; exact ⟨⟨⟨a, d⟩, e⟩, f⟩

theorem gV_apply (hv5 : ∀ i b c, v5 (ix3 i b c) = ch c) (g : FVec Ideal S10x128x92 .f32) (r1 r2 : IVec S1x128 32)
    (rs : FVec Ideal S1x128x1 .f32) (lp : Fin 92 → EReal) (j i : Fin 10) (c : Fin 92) (e1 : r1 (ix2 0 b) = h1 (ix2 j b))
    (e2 : r2 (ix2 0 b) = h2 (ix2 j b)) (e3 : rs (ix3 0 b 0) = kstay (lane sc h1 h2 lt ln b) lp j) :
    gV v5 h1 h2 lt ln g r1 r2 rs (ix3 i b c)
      = mstep (lane sc h1 h2 lt ln b) lp j (fun i c => g (ix3 i b c)) i c := by
  have hm := mV_apply sc h1 h2 lt ln b r1 r2 j i e1 e2
  pointwise [gV, uV]
  rw [hm, e1, e3, hv5]
  simp only [cmpi_eq_ofBool, cmpi_sgt_ofBool, bit_pos, ofBool_and, select_ofBool]
  rfl

theorem sV_apply (r1 r2 : IVec S1x128 32) (j : Fin 10) (e1 : r1 (ix2 0 b) = h1 (ix2 j b))
    (e2 : r2 (ix2 0 b) = h2 (ix2 j b)) :
    0 < (sV h1 h2 lt ln r1 r2 (ix2 0 b)).toInt ↔ ∃ i, mj (lane sc h1 h2 lt ln b) j i := by
  have hm := fun i => mV_apply sc h1 h2 lt ln b r1 r2 j i e1 e2
  pointwise [sV]
  simp only [hm]
  exact sum_bits_pos _ (by decide)

/-! ## The whole table -/

abbrev row0 (x : IVec S10x128 32) : IVec S1x128 32 := extractStridedSlice S1x128 ![0, 0] x slices_S10x128_o0_0_S1x128

abbrev srow0 (x : FVec Ideal S10x128x1 .f32) : FVec Ideal S1x128x1 .f32 :=
  extractStridedSlice S1x128x1 ![0, 0, 0] x slices_S10x128x1_o0_0_0_S1x128x1

theorem row0_apply (x : IVec S10x128 32) (b : Fin 128) : row0 x (ix2 0 b) = x (ix2 0 b) := by
  pointwise [row0]

theorem srow0_apply (x : FVec Ideal S10x128x1 .f32) (b : Fin 128) : srow0 x (ix3 0 b 0) = x (ix3 0 b 0) := by
  pointwise [srow0]

abbrev row1 (x : IVec S10x128 32) : IVec S1x128 32 := extractStridedSlice S1x128 ![1, 0] x slices_S10x128_o1_0_S1x128

abbrev srow1 (x : FVec Ideal S10x128x1 .f32) : FVec Ideal S1x128x1 .f32 :=
  extractStridedSlice S1x128x1 ![1, 0, 0] x slices_S10x128x1_o1_0_0_S1x128x1

theorem row1_apply (x : IVec S10x128 32) (b : Fin 128) : row1 x (ix2 0 b) = x (ix2 1 b) := by
  pointwise [row1]

theorem srow1_apply (x : FVec Ideal S10x128x1 .f32) (b : Fin 128) : srow1 x (ix3 0 b 0) = x (ix3 1 b 0) := by
  pointwise [srow1]

abbrev row2 (x : IVec S10x128 32) : IVec S1x128 32 := extractStridedSlice S1x128 ![2, 0] x slices_S10x128_o2_0_S1x128

abbrev srow2 (x : FVec Ideal S10x128x1 .f32) : FVec Ideal S1x128x1 .f32 :=
  extractStridedSlice S1x128x1 ![2, 0, 0] x slices_S10x128x1_o2_0_0_S1x128x1

theorem row2_apply (x : IVec S10x128 32) (b : Fin 128) : row2 x (ix2 0 b) = x (ix2 2 b) := by
  pointwise [row2]

theorem srow2_apply (x : FVec Ideal S10x128x1 .f32) (b : Fin 128) : srow2 x (ix3 0 b 0) = x (ix3 2 b 0) := by
  pointwise [srow2]

abbrev row3 (x : IVec S10x128 32) : IVec S1x128 32 := extractStridedSlice S1x128 ![3, 0] x slices_S10x128_o3_0_S1x128

abbrev srow3 (x : FVec Ideal S10x128x1 .f32) : FVec Ideal S1x128x1 .f32 :=
  extractStridedSlice S1x128x1 ![3, 0, 0] x slices_S10x128x1_o3_0_0_S1x128x1

theorem row3_apply (x : IVec S10x128 32) (b : Fin 128) : row3 x (ix2 0 b) = x (ix2 3 b) := by
  pointwise [row3]

theorem srow3_apply (x : FVec Ideal S10x128x1 .f32) (b : Fin 128) : srow3 x (ix3 0 b 0) = x (ix3 3 b 0) := by
  pointwise [srow3]

abbrev row4 (x : IVec S10x128 32) : IVec S1x128 32 := extractStridedSlice S1x128 ![4, 0] x slices_S10x128_o4_0_S1x128

abbrev srow4 (x : FVec Ideal S10x128x1 .f32) : FVec Ideal S1x128x1 .f32 :=
  extractStridedSlice S1x128x1 ![4, 0, 0] x slices_S10x128x1_o4_0_0_S1x128x1

theorem row4_apply (x : IVec S10x128 32) (b : Fin 128) : row4 x (ix2 0 b) = x (ix2 4 b) := by
  pointwise [row4]

theorem srow4_apply (x : FVec Ideal S10x128x1 .f32) (b : Fin 128) : srow4 x (ix3 0 b 0) = x (ix3 4 b 0) := by
  pointwise [srow4]

abbrev row5 (x : IVec S10x128 32) : IVec S1x128 32 := extractStridedSlice S1x128 ![5, 0] x slices_S10x128_o5_0_S1x128

abbrev srow5 (x : FVec Ideal S10x128x1 .f32) : FVec Ideal S1x128x1 .f32 :=
  extractStridedSlice S1x128x1 ![5, 0, 0] x slices_S10x128x1_o5_0_0_S1x128x1

theorem row5_apply (x : IVec S10x128 32) (b : Fin 128) : row5 x (ix2 0 b) = x (ix2 5 b) := by
  pointwise [row5]

theorem srow5_apply (x : FVec Ideal S10x128x1 .f32) (b : Fin 128) : srow5 x (ix3 0 b 0) = x (ix3 5 b 0) := by
  pointwise [srow5]

abbrev row6 (x : IVec S10x128 32) : IVec S1x128 32 := extractStridedSlice S1x128 ![6, 0] x slices_S10x128_o6_0_S1x128

abbrev srow6 (x : FVec Ideal S10x128x1 .f32) : FVec Ideal S1x128x1 .f32 :=
  extractStridedSlice S1x128x1 ![6, 0, 0] x slices_S10x128x1_o6_0_0_S1x128x1

theorem row6_apply (x : IVec S10x128 32) (b : Fin 128) : row6 x (ix2 0 b) = x (ix2 6 b) := by
  pointwise [row6]

theorem srow6_apply (x : FVec Ideal S10x128x1 .f32) (b : Fin 128) : srow6 x (ix3 0 b 0) = x (ix3 6 b 0) := by
  pointwise [srow6]

abbrev row7 (x : IVec S10x128 32) : IVec S1x128 32 := extractStridedSlice S1x128 ![7, 0] x slices_S10x128_o7_0_S1x128

abbrev srow7 (x : FVec Ideal S10x128x1 .f32) : FVec Ideal S1x128x1 .f32 :=
  extractStridedSlice S1x128x1 ![7, 0, 0] x slices_S10x128x1_o7_0_0_S1x128x1

theorem row7_apply (x : IVec S10x128 32) (b : Fin 128) : row7 x (ix2 0 b) = x (ix2 7 b) := by
  pointwise [row7]

theorem srow7_apply (x : FVec Ideal S10x128x1 .f32) (b : Fin 128) : srow7 x (ix3 0 b 0) = x (ix3 7 b 0) := by
  pointwise [srow7]

abbrev row8 (x : IVec S10x128 32) : IVec S1x128 32 := extractStridedSlice S1x128 ![8, 0] x slices_S10x128_o8_0_S1x128

abbrev srow8 (x : FVec Ideal S10x128x1 .f32) : FVec Ideal S1x128x1 .f32 :=
  extractStridedSlice S1x128x1 ![8, 0, 0] x slices_S10x128x1_o8_0_0_S1x128x1

theorem row8_apply (x : IVec S10x128 32) (b : Fin 128) : row8 x (ix2 0 b) = x (ix2 8 b) := by
  pointwise [row8]

theorem srow8_apply (x : FVec Ideal S10x128x1 .f32) (b : Fin 128) : srow8 x (ix3 0 b 0) = x (ix3 8 b 0) := by
  pointwise [srow8]

abbrev row9 (x : IVec S10x128 32) : IVec S1x128 32 := extractStridedSlice S1x128 ![9, 0] x slices_S10x128_o9_0_S1x128

abbrev srow9 (x : FVec Ideal S10x128x1 .f32) : FVec Ideal S1x128x1 .f32 :=
  extractStridedSlice S1x128x1 ![9, 0, 0] x slices_S10x128x1_o9_0_0_S1x128x1

theorem row9_apply (x : IVec S10x128 32) (b : Fin 128) : row9 x (ix2 0 b) = x (ix2 9 b) := by
  pointwise [row9]

theorem srow9_apply (x : FVec Ideal S10x128x1 .f32) (b : Fin 128) : srow9 x (ix3 0 b 0) = x (ix3 9 b 0) := by
  pointwise [srow9]

theorem mask_eq : (Named.named κ "mask" 0xF149F2CA#32 : Ideal .f32) = (⊥ : EReal) := rfl

theorem ninf_eq : Ideal.ofBits .f32 4286578688#32 = (⊥ : EReal) := by
  simp [Ideal.ofBits, Ideal.ieee]

theorem stay_apply (hv5 : ∀ i b c, v5 (ix3 i b c) = ch c) (i : Fin 10) :
    k0_pay25 (F := Ideal) v5 P sc lt ln (ix3 i b 0) = kstay (lane sc h1 h2 lt ln b) (prob P b) i := by
  pointwise [k0_pay25, k0_pay20, k0_pay21, k0_pay22, k0_pay23, k0_pay24]
  simp only [cmpi_eq_ofBool, cmpi_sgt_ofBool, select_ofBool, hv5]
  rw [ninf_eq, mask_eq]
  rfl

/-- The candidates that append, before the merges. -/
def baseV : FVec Ideal S10x128x92 .f32 :=
  select (k0_pay26 (F := Ideal) v5 lt ln) (addf (broadcastTo S10x128x92 (k0_pay24 (F := Ideal) sc) broadcasts_S10x128x1_S10x128x92)
      (broadcastTo S10x128x92 (k0_pay23 (F := Ideal) P) broadcasts_S1x128x92_S10x128x92))
    (broadcast S10x128x92 (Named.named κ "mask" 0xF149F2CA#32))

theorem baseV_apply (hv5 : ∀ i b c, v5 (ix3 i b c) = ch c) (i : Fin 10) (c : Fin 92) :
    baseV v5 sc lt ln P (ix3 i b c) = Beam.grid0 (lane sc h1 h2 lt ln b) (prob P b) i c := by
  pointwise [baseV, k0_pay20, k0_pay21, k0_pay22, k0_pay23, k0_pay24, k0_pay26]
  rw [hv5]
  simp only [cmpi_eq_ofBool, cmpi_ne_ofBool, ofBool_or, ofBool_and, select_ofBool]
  unfold Beam.grid0
  refine if_congr ?_ rfl mask_eq
  unfold app
  rw [Ne, ch_eq_91]
  rfl

/-- Ten rows stacked, read at row `i`. -/
theorem cat_apply {α : Type} [Inhabited α] (s0 s1 s2 s3 s4 s5 s6 s7 s8 s9 : S1x128.Idx → α) (i : Fin 10) :
    concatenate S10x128 0 [⟨S1x128, s0⟩, ⟨S1x128, s1⟩, ⟨S1x128, s2⟩, ⟨S1x128, s3⟩, ⟨S1x128, s4⟩, ⟨S1x128, s5⟩,
        ⟨S1x128, s6⟩, ⟨S1x128, s7⟩, ⟨S1x128, s8⟩, ⟨S1x128, s9⟩]
        concatenates_S1x128_S1x128_S1x128_S1x128_S1x128_S1x128_S1x128_S1x128_S1x128_S1x128_S10x128_d0 (ix2 i b)
      = (![s0, s1, s2, s3, s4, s5, s6, s7, s8, s9] i) (ix2 0 b) := by
  pointwise []
  fin_cases i <;> rfl

/-- The last select of the table: the kept hypotheses. -/
def lastV (g : FVec Ideal S10x128x92 .f32) (st : FVec Ideal S10x128x1 .f32)
    (s0 s1 s2 s3 s4 s5 s6 s7 s8 s9 : IVec S1x128 32) : FVec Ideal S10x128x92 .f32 :=
  select (cmpi .eq v5 (broadcast S10x128x92 91#32))
    (broadcastTo S10x128x92 (shapeCast S10x128x1 (select (cmpi .sgt (shapeCast S10x128x1
      (concatenate S10x128 0 [⟨S1x128, s0⟩, ⟨S1x128, s1⟩, ⟨S1x128, s2⟩, ⟨S1x128, s3⟩, ⟨S1x128, s4⟩, ⟨S1x128, s5⟩,
        ⟨S1x128, s6⟩, ⟨S1x128, s7⟩, ⟨S1x128, s8⟩, ⟨S1x128, s9⟩]
        concatenates_S1x128_S1x128_S1x128_S1x128_S1x128_S1x128_S1x128_S1x128_S1x128_S1x128_S10x128_d0)
      shapeCasts_S10x128_S10x128x1) (broadcast S10x128x1 0#32))
      (broadcast S10x128x1 (Named.named κ "mask" 0xF149F2CA#32)) st) shapeCasts_S10x128x1_S10x128x1)
      broadcasts_S10x128x1_S10x128x92) g

theorem lastV_apply (hv5 : ∀ i b c, v5 (ix3 i b c) = ch c) (g : FVec Ideal S10x128x92 .f32)
    (st : FVec Ideal S10x128x1 .f32) (s0 s1 s2 s3 s4 s5 s6 s7 s8 s9 : IVec S1x128 32) (i : Fin 10) (c : Fin 92) :
    lastV v5 g st s0 s1 s2 s3 s4 s5 s6 s7 s8 s9 (ix3 i b c)
      = if c = 91 then (if (0#32).toInt < ((![s0, s1, s2, s3, s4, s5, s6, s7, s8, s9] i) (ix2 0 b)).toInt then ⊥
          else st (ix3 i b 0)) else g (ix3 i b c) := by
  have hc := cat_apply b s0 s1 s2 s3 s4 s5 s6 s7 s8 s9 i
  unfold lastV
  generalize concatenate _ _ _ _ = y at hc ⊢
  pointwise []
  rw [hc, hv5]
  simp only [cmpi_eq_ofBool, cmpi_sgt_ofBool, select_ofBool, ch_eq_91]
  rfl

/-- The table: ten merges, then the kept hypotheses. -/
def tableV : FVec Ideal S10x128x92 .f32 :=
  lastV v5
    (gV v5 h1 h2 lt ln (gV v5 h1 h2 lt ln (gV v5 h1 h2 lt ln (gV v5 h1 h2 lt ln (gV v5 h1 h2 lt ln (gV v5 h1 h2 lt ln (gV v5 h1 h2 lt ln (gV v5 h1 h2 lt ln (gV v5 h1 h2 lt ln (gV v5 h1 h2 lt ln (baseV v5 sc lt ln P)
      (row0 h1) (row0 h2) (srow0 (k0_pay25 v5 P sc lt ln)))
      (row1 h1) (row1 h2) (srow1 (k0_pay25 v5 P sc lt ln)))
      (row2 h1) (row2 h2) (srow2 (k0_pay25 v5 P sc lt ln)))
      (row3 h1) (row3 h2) (srow3 (k0_pay25 v5 P sc lt ln)))
      (row4 h1) (row4 h2) (srow4 (k0_pay25 v5 P sc lt ln)))
      (row5 h1) (row5 h2) (srow5 (k0_pay25 v5 P sc lt ln)))
      (row6 h1) (row6 h2) (srow6 (k0_pay25 v5 P sc lt ln)))
      (row7 h1) (row7 h2) (srow7 (k0_pay25 v5 P sc lt ln)))
      (row8 h1) (row8 h2) (srow8 (k0_pay25 v5 P sc lt ln)))
      (row9 h1) (row9 h2) (srow9 (k0_pay25 v5 P sc lt ln)))
    (k0_pay25 v5 P sc lt ln)
    (sV h1 h2 lt ln (row0 h1) (row0 h2))
    (sV h1 h2 lt ln (row1 h1) (row1 h2))
    (sV h1 h2 lt ln (row2 h1) (row2 h2))
    (sV h1 h2 lt ln (row3 h1) (row3 h2))
    (sV h1 h2 lt ln (row4 h1) (row4 h2))
    (sV h1 h2 lt ln (row5 h1) (row5 h2))
    (sV h1 h2 lt ln (row6 h1) (row6 h2))
    (sV h1 h2 lt ln (row7 h1) (row7 h2))
    (sV h1 h2 lt ln (row8 h1) (row8 h2))
    (sV h1 h2 lt ln (row9 h1) (row9 h2))

theorem tableV_apply (hv5 : ∀ i b c, v5 (ix3 i b c) = ch c) (i : Fin 10) (c : Fin 92) :
    tableV v5 sc h1 h2 lt ln P (ix3 i b c) = kgrid (lane sc h1 h2 lt ln b) (prob P b) i c := by
  have hb : (fun i c => baseV v5 sc lt ln P (ix3 i b c)) = Beam.grid0 (lane sc h1 h2 lt ln b) (prob P b) :=
    funext fun i => funext fun c => baseV_apply v5 sc h1 h2 lt ln P b hv5 i c
  have hs := fun j => stay_apply v5 sc h1 h2 lt ln P b hv5 j
  have g0 := fun g => funext fun i => funext fun c => gV_apply v5 sc h1 h2 lt ln b hv5 g _ _ _ (prob P b) 0 i c
    (row0_apply h1 b) (row0_apply h2 b) ((srow0_apply _ b).trans (hs 0))
  have g1 := fun g => funext fun i => funext fun c => gV_apply v5 sc h1 h2 lt ln b hv5 g _ _ _ (prob P b) 1 i c
    (row1_apply h1 b) (row1_apply h2 b) ((srow1_apply _ b).trans (hs 1))
  have g2 := fun g => funext fun i => funext fun c => gV_apply v5 sc h1 h2 lt ln b hv5 g _ _ _ (prob P b) 2 i c
    (row2_apply h1 b) (row2_apply h2 b) ((srow2_apply _ b).trans (hs 2))
  have g3 := fun g => funext fun i => funext fun c => gV_apply v5 sc h1 h2 lt ln b hv5 g _ _ _ (prob P b) 3 i c
    (row3_apply h1 b) (row3_apply h2 b) ((srow3_apply _ b).trans (hs 3))
  have g4 := fun g => funext fun i => funext fun c => gV_apply v5 sc h1 h2 lt ln b hv5 g _ _ _ (prob P b) 4 i c
    (row4_apply h1 b) (row4_apply h2 b) ((srow4_apply _ b).trans (hs 4))
  have g5 := fun g => funext fun i => funext fun c => gV_apply v5 sc h1 h2 lt ln b hv5 g _ _ _ (prob P b) 5 i c
    (row5_apply h1 b) (row5_apply h2 b) ((srow5_apply _ b).trans (hs 5))
  have g6 := fun g => funext fun i => funext fun c => gV_apply v5 sc h1 h2 lt ln b hv5 g _ _ _ (prob P b) 6 i c
    (row6_apply h1 b) (row6_apply h2 b) ((srow6_apply _ b).trans (hs 6))
  have g7 := fun g => funext fun i => funext fun c => gV_apply v5 sc h1 h2 lt ln b hv5 g _ _ _ (prob P b) 7 i c
    (row7_apply h1 b) (row7_apply h2 b) ((srow7_apply _ b).trans (hs 7))
  have g8 := fun g => funext fun i => funext fun c => gV_apply v5 sc h1 h2 lt ln b hv5 g _ _ _ (prob P b) 8 i c
    (row8_apply h1 b) (row8_apply h2 b) ((srow8_apply _ b).trans (hs 8))
  have g9 := fun g => funext fun i => funext fun c => gV_apply v5 sc h1 h2 lt ln b hv5 g _ _ _ (prob P b) 9 i c
    (row9_apply h1 b) (row9_apply h2 b) ((srow9_apply _ b).trans (hs 9))
  unfold tableV
  rw [lastV_apply v5 b hv5]
  unfold kgrid
  split
  · have hsum : (0#32).toInt < ((![sV h1 h2 lt ln (row0 h1) (row0 h2),
      sV h1 h2 lt ln (row1 h1) (row1 h2),
      sV h1 h2 lt ln (row2 h1) (row2 h2),
      sV h1 h2 lt ln (row3 h1) (row3 h2),
      sV h1 h2 lt ln (row4 h1) (row4 h2),
      sV h1 h2 lt ln (row5 h1) (row5 h2),
      sV h1 h2 lt ln (row6 h1) (row6 h2),
      sV h1 h2 lt ln (row7 h1) (row7 h2),
      sV h1 h2 lt ln (row8 h1) (row8 h2),
      sV h1 h2 lt ln (row9 h1) (row9 h2)] i) (ix2 0 b)).toInt ↔ ∃ k, mj (lane sc h1 h2 lt ln b) i k := by
      fin_cases i
      · exact sV_apply sc h1 h2 lt ln b _ _ 0 (row0_apply h1 b) (row0_apply h2 b)
      · exact sV_apply sc h1 h2 lt ln b _ _ 1 (row1_apply h1 b) (row1_apply h2 b)
      · exact sV_apply sc h1 h2 lt ln b _ _ 2 (row2_apply h1 b) (row2_apply h2 b)
      · exact sV_apply sc h1 h2 lt ln b _ _ 3 (row3_apply h1 b) (row3_apply h2 b)
      · exact sV_apply sc h1 h2 lt ln b _ _ 4 (row4_apply h1 b) (row4_apply h2 b)
      · exact sV_apply sc h1 h2 lt ln b _ _ 5 (row5_apply h1 b) (row5_apply h2 b)
      · exact sV_apply sc h1 h2 lt ln b _ _ 6 (row6_apply h1 b) (row6_apply h2 b)
      · exact sV_apply sc h1 h2 lt ln b _ _ 7 (row7_apply h1 b) (row7_apply h2 b)
      · exact sV_apply sc h1 h2 lt ln b _ _ 8 (row8_apply h1 b) (row8_apply h2 b)
      · exact sV_apply sc h1 h2 lt ln b _ _ 9 (row9_apply h1 b) (row9_apply h2 b)
    by_cases he : ∃ k, mj (lane sc h1 h2 lt ln b) i k
    · rw [if_pos he, if_pos (hsum.mpr he)]
    · rw [if_neg he, if_neg fun h => he (hsum.mp h)]; exact hs i
  · rw [← hb]
    refine (congrFun (congrFun (g9 _) i) c).trans ?_
    rw [g8, g7, g6, g5, g4, g3, g2, g1, g0]
end

end Cert.Proof.KernelIdeal
-- ==== Proof.KernelIdeal.Picks.lean ====
/-
  The kernel's ten picks and the new hypotheses, one frame, read lane by lane.
-/
module

public import proofs.«01_k».proof.Proof.KernelIdeal.Grid

@[expose] public section

noncomputable section

namespace Cert.Proof.KernelIdeal

open Cert.KernelIdeal Cert.KernelIdeal.Gen
open Idealize.ShloMosaic
open Cert.Proof.Beam

section
variable (v5 : IVec S10x128x92 32) (K1 K2 FID : IVec S10x128x92 32) (g : FVec Ideal S10x128x92 .f32)
  (cur : FVec Ideal S128x1 .f32) (b : Fin 128)

/-- A table at a lane. -/
def at3 {α : Type} (x : S10x128x92.Idx → α) (b : Fin 128) : Fin 10 → Fin 92 → α := fun i c => x (ix3 i b c)

theorem selV_apply : k0_pay93 K1 K2 FID g cur (ix3 0 b 0)
    = ksel (at3 g b) (at3 K1 b) (at3 K2 b) (at3 FID b) (cur (ix2 b 0)) := by
  pointwise [k0_pay93, k0_pay92]
  simp only [cmpi_eq_ofBool, select_ofBool, ofBool_and]
  unfold ksel max2 min2 at3
  congr!

theorem crossV_apply (i : Fin 10) (c : Fin 92) : k0_pay94 K1 K2 FID g cur (ix3 i b c)
    = if FID (ix3 i b c) = k0_pay93 K1 K2 FID g cur (ix3 0 b 0) then ⊥ else g (ix3 i b c) := by
  unfold k0_pay94
  generalize k0_pay93 K1 K2 FID g cur = y
  pointwise []
  simp only [cmpi_eq_ofBool, select_ofBool]
  rw [mask_eq]

theorem curV_apply : k0_pay98 K1 K2 FID g cur (ix2 b 0) = kcur (at3 (k0_pay94 K1 K2 FID g cur) b) := by
  unfold k0_pay98
  generalize k0_pay94 K1 K2 FID g cur = y
  pointwise []
  rw [ninf_eq]
  rfl

theorem parV_apply : k0_pay96 K1 K2 FID g cur (ix2 0 b) = k0_pay93 K1 K2 FID g cur (ix3 0 b 0) >>> 7 := by
  unfold k0_pay96
  generalize k0_pay93 K1 K2 FID g cur = y
  pointwise []
  rfl

theorem tokV_apply : k0_pay97 K1 K2 FID g cur (ix2 0 b) = k0_pay93 K1 K2 FID g cur (ix3 0 b 0) &&& 127#32 := by
  unfold k0_pay97
  generalize k0_pay93 K1 K2 FID g cur = y
  pointwise []
  rfl

theorem scoreV_apply : k0_pay95 cur (ix2 0 b) = cur (ix2 b 0) := by
  pointwise [k0_pay95, k0_pay91, k0_pay92]

theorem key1_apply (sc : FVec Ideal S10x128 .f32) (h1 h2 lt ln : IVec S10x128 32) (hv5 : ∀ i b c, v5 (ix3 i b c) = ch c)
    (i : Fin 10) (c : Fin 92) :
    k0_pay81 (F := Ideal) v5 h1 (k0_pay26 (F := Ideal) v5 lt ln) (ix3 i b c) = k1 (lane sc h1 h2 lt ln b) i c ^^^ 2147483648#32 := by
  pointwise [k0_pay81, k0_pay80, k0_pay26, k0_pay21, k0_pay22]
  rw [hv5]
  simp only [cmpi_eq_ofBool, cmpi_ne_ofBool, ofBool_or, ofBool_and, select_ofBool]
  unfold k1 app
  simp only [ne_eq, ch_eq_91]
  rfl

theorem key2_apply (sc : FVec Ideal S10x128 .f32) (h1 h2 lt ln : IVec S10x128 32) (hv5 : ∀ i b c, v5 (ix3 i b c) = ch c)
    (i : Fin 10) (c : Fin 92) :
    k0_pay82 (F := Ideal) v5 h2 (k0_pay26 (F := Ideal) v5 lt ln) (ix3 i b c) = k2 (lane sc h1 h2 lt ln b) i c ^^^ 2147483648#32 := by
  pointwise [k0_pay82, k0_pay80, k0_pay26, k0_pay21, k0_pay22]
  rw [hv5]
  simp only [cmpi_eq_ofBool, cmpi_ne_ofBool, ofBool_or, ofBool_and, select_ofBool]
  unfold k2 app
  simp only [ne_eq, ch_eq_91]
  rfl

theorem fidV_apply (hv5 : ∀ i b c, v5 (ix3 i b c) = ch c) (i : Fin 10) (c : Fin 92) :
    k0_pay83 v5 (ix3 i b c) = fid i c := by
  pointwise [k0_pay83]
  rw [hv5]
  rfl

/-- The largest score of a table. -/
def maxV (g : FVec Ideal S10x128x92 .f32) : FVec Ideal S128x1 .f32 :=
  multiReduction .maximumf [0] S128x1 (shapeCast S10x128x1 (multiReduction .maximumf [2] S10x128 g 0xFF800000#32
    reduces_S10x128x92_S10x128 (.inl rfl) rfl) shapeCasts_S10x128_S10x128x1) 0xFF800000#32
    reduces_S10x128x1_S128x1 (.inl rfl) rfl

theorem maxV_apply : maxV g (ix2 b 0) = kcur (at3 g b) := by
  pointwise [maxV]
  rw [ninf_eq]
  rfl

/-- The tables and the largest scores before each pick. -/
def chainV : ℕ → FVec Ideal S10x128x92 .f32 × FVec Ideal S128x1 .f32
  | 0 => (g, maxV g)
  | k + 1 => (k0_pay94 K1 K2 FID (chainV k).1 (chainV k).2, k0_pay98 K1 K2 FID (chainV k).1 (chainV k).2)

/-- Ten rows, stacked. -/
theorem cat_fun {α : Type} [Inhabited α] (f : ℕ → S1x128.Idx → α) (k : Fin 10) :
    concatenate S10x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩]
        concatenates_S1x128_S1x128_S1x128_S1x128_S1x128_S1x128_S1x128_S1x128_S1x128_S1x128_S10x128_d0 (ix2 k b)
      = f k.val (ix2 0 b) := by
  rw [cat_apply]
  fin_cases k <;> rfl

/-- The rows of the parents' words, picked by their numbers. -/
def gatherV (par x : IVec S10x128 32) : IVec S10x128 32 :=
  (select (cmpi .eq par (broadcast S10x128 9#32))
    (broadcastTo S10x128 (shapeCast S1x128 (row9 x) shapeCasts_S1x128_S1x128) broadcasts_S1x128_S10x128) (select (cmpi .eq par (broadcast S10x128 8#32))
    (broadcastTo S10x128 (shapeCast S1x128 (row8 x) shapeCasts_S1x128_S1x128) broadcasts_S1x128_S10x128) (select (cmpi .eq par (broadcast S10x128 7#32))
    (broadcastTo S10x128 (shapeCast S1x128 (row7 x) shapeCasts_S1x128_S1x128) broadcasts_S1x128_S10x128) (select (cmpi .eq par (broadcast S10x128 6#32))
    (broadcastTo S10x128 (shapeCast S1x128 (row6 x) shapeCasts_S1x128_S1x128) broadcasts_S1x128_S10x128) (select (cmpi .eq par (broadcast S10x128 5#32))
    (broadcastTo S10x128 (shapeCast S1x128 (row5 x) shapeCasts_S1x128_S1x128) broadcasts_S1x128_S10x128) (select (cmpi .eq par (broadcast S10x128 4#32))
    (broadcastTo S10x128 (shapeCast S1x128 (row4 x) shapeCasts_S1x128_S1x128) broadcasts_S1x128_S10x128) (select (cmpi .eq par (broadcast S10x128 3#32))
    (broadcastTo S10x128 (shapeCast S1x128 (row3 x) shapeCasts_S1x128_S1x128) broadcasts_S1x128_S10x128) (select (cmpi .eq par (broadcast S10x128 2#32))
    (broadcastTo S10x128 (shapeCast S1x128 (row2 x) shapeCasts_S1x128_S1x128) broadcasts_S1x128_S10x128) (select (cmpi .eq par (broadcast S10x128 1#32))
    (broadcastTo S10x128 (shapeCast S1x128 (row1 x) shapeCasts_S1x128_S1x128) broadcasts_S1x128_S10x128) (select (cmpi .eq par (broadcast S10x128 0#32))
    (broadcastTo S10x128 (shapeCast S1x128 (row0 x) shapeCasts_S1x128_S1x128) broadcasts_S1x128_S10x128) (broadcast S10x128 0#32)))))))))))

theorem gatherV_apply (par x : IVec S10x128 32) (k p : Fin 10) (hp : par (ix2 k b) = BitVec.ofNat 32 p.val) :
    gatherV par x (ix2 k b) = x (ix2 p b) := by
  pointwise [gatherV]
  rw [hp]
  fin_cases p <;> rfl

end

/-! ## The new hypotheses -/

section
variable (v5 : IVec S10x128x92 32) (sc : FVec Ideal S10x128 .f32) (h1 h2 lt ln : IVec S10x128 32)
  (P : FVec Ideal S1x128x92 .f32) (b : Fin 128)

abbrev key1V : IVec S10x128x92 32 := k0_pay81 (F := Ideal) v5 h1 (k0_pay26 (F := Ideal) v5 lt ln)

abbrev key2V : IVec S10x128x92 32 := k0_pay82 (F := Ideal) v5 h2 (k0_pay26 (F := Ideal) v5 lt ln)

abbrev chV (k : ℕ) : FVec Ideal S10x128x92 .f32 × FVec Ideal S128x1 .f32 :=
  chainV (key1V v5 h1 lt ln) (key2V v5 h2 lt ln) (k0_pay83 v5) (tableV v5 sc h1 h2 lt ln P) k

def scoreR (k : ℕ) : FVec Ideal S1x128 .f32 := k0_pay95 (chV v5 sc h1 h2 lt ln P k).2

def parR (k : ℕ) : IVec S1x128 32 := k0_pay96 (key1V v5 h1 lt ln) (key2V v5 h2 lt ln) (k0_pay83 v5)
  (chV v5 sc h1 h2 lt ln P k).1 (chV v5 sc h1 h2 lt ln P k).2

def tokR (k : ℕ) : IVec S1x128 32 := k0_pay97 (key1V v5 h1 lt ln) (key2V v5 h2 lt ln) (k0_pay83 v5)
  (chV v5 sc h1 h2 lt ln P k).1 (chV v5 sc h1 h2 lt ln P k).2

def scoresV : FVec Ideal S10x128 .f32 :=
  concatenate S10x128 0 [⟨S1x128, scoreR v5 sc h1 h2 lt ln P 0⟩, ⟨S1x128, scoreR v5 sc h1 h2 lt ln P 1⟩, ⟨S1x128, scoreR v5 sc h1 h2 lt ln P 2⟩, ⟨S1x128, scoreR v5 sc h1 h2 lt ln P 3⟩, ⟨S1x128, scoreR v5 sc h1 h2 lt ln P 4⟩, ⟨S1x128, scoreR v5 sc h1 h2 lt ln P 5⟩, ⟨S1x128, scoreR v5 sc h1 h2 lt ln P 6⟩, ⟨S1x128, scoreR v5 sc h1 h2 lt ln P 7⟩, ⟨S1x128, scoreR v5 sc h1 h2 lt ln P 8⟩, ⟨S1x128, scoreR v5 sc h1 h2 lt ln P 9⟩]
    concatenates_S1x128_S1x128_S1x128_S1x128_S1x128_S1x128_S1x128_S1x128_S1x128_S1x128_S10x128_d0

def parsV : IVec S10x128 32 :=
  concatenate S10x128 0 [⟨S1x128, parR v5 sc h1 h2 lt ln P 0⟩, ⟨S1x128, parR v5 sc h1 h2 lt ln P 1⟩, ⟨S1x128, parR v5 sc h1 h2 lt ln P 2⟩, ⟨S1x128, parR v5 sc h1 h2 lt ln P 3⟩, ⟨S1x128, parR v5 sc h1 h2 lt ln P 4⟩, ⟨S1x128, parR v5 sc h1 h2 lt ln P 5⟩, ⟨S1x128, parR v5 sc h1 h2 lt ln P 6⟩, ⟨S1x128, parR v5 sc h1 h2 lt ln P 7⟩, ⟨S1x128, parR v5 sc h1 h2 lt ln P 8⟩, ⟨S1x128, parR v5 sc h1 h2 lt ln P 9⟩]
    concatenates_S1x128_S1x128_S1x128_S1x128_S1x128_S1x128_S1x128_S1x128_S1x128_S1x128_S10x128_d0

def toksV : IVec S10x128 32 :=
  concatenate S10x128 0 [⟨S1x128, tokR v5 sc h1 h2 lt ln P 0⟩, ⟨S1x128, tokR v5 sc h1 h2 lt ln P 1⟩, ⟨S1x128, tokR v5 sc h1 h2 lt ln P 2⟩, ⟨S1x128, tokR v5 sc h1 h2 lt ln P 3⟩, ⟨S1x128, tokR v5 sc h1 h2 lt ln P 4⟩, ⟨S1x128, tokR v5 sc h1 h2 lt ln P 5⟩, ⟨S1x128, tokR v5 sc h1 h2 lt ln P 6⟩, ⟨S1x128, tokR v5 sc h1 h2 lt ln P 7⟩, ⟨S1x128, tokR v5 sc h1 h2 lt ln P 8⟩, ⟨S1x128, tokR v5 sc h1 h2 lt ln P 9⟩]
    concatenates_S1x128_S1x128_S1x128_S1x128_S1x128_S1x128_S1x128_S1x128_S1x128_S1x128_S10x128_d0

variable (hv5 : ∀ i b c, v5 (ix3 i b c) = ch c) (hln : ∀ i, 0 ≤ (ln (ix2 i b)).toInt)
  (h0 : sc (ix2 0 b) ≠ (⊥ : EReal)) (hlp : ∀ c, P (ix3 0 b c) ≠ (⊥ : EReal))

include hv5 hln h0 hlp

theorem sel_of_chain (k : Fin 10)
    (h : at3 (chV v5 sc h1 h2 lt ln P k.val).1 b = crossed (lane sc h1 h2 lt ln b) (prob P b) k.val
      ∧ (chV v5 sc h1 h2 lt ln P k.val).2 (ix2 b 0) = kcur (crossed (lane sc h1 h2 lt ln b) (prob P b) k.val)) :
    k0_pay93 (key1V v5 h1 lt ln) (key2V v5 h2 lt ln) (k0_pay83 v5) (chV v5 sc h1 h2 lt ln P k.val).1
        (chV v5 sc h1 h2 lt ln P k.val).2 (ix3 0 b 0)
      = fid (par (lane sc h1 h2 lt ln b) (prob P b) k) (tok (lane sc h1 h2 lt ln b) (prob P b) k) := by
  rw [selV_apply, h.1, h.2]
  have e1 : at3 (key1V v5 h1 lt ln) b = fun i c => k1 (lane sc h1 h2 lt ln b) i c ^^^ 2147483648#32 :=
    funext fun i => funext fun c => key1_apply v5 b sc h1 h2 lt ln hv5 i c
  have e2 : at3 (key2V v5 h2 lt ln) b = fun i c => k2 (lane sc h1 h2 lt ln b) i c ^^^ 2147483648#32 :=
    funext fun i => funext fun c => key2_apply v5 b sc h1 h2 lt ln hv5 i c
  have e3 : at3 (k0_pay83 v5) b = fid := funext fun i => funext fun c => fidV_apply v5 b hv5 i c
  rw [e1, e2, e3]
  exact ksel_crossed _ _ k (pick_alive _ _ h0 hlp k)

theorem chV_apply (k : ℕ) (hk : k ≤ 9) :
    at3 (chV v5 sc h1 h2 lt ln P k).1 b = crossed (lane sc h1 h2 lt ln b) (prob P b) k
      ∧ (chV v5 sc h1 h2 lt ln P k).2 (ix2 b 0) = kcur (crossed (lane sc h1 h2 lt ln b) (prob P b) k) := by
  induction k with
  | zero =>
    have e : at3 (chV v5 sc h1 h2 lt ln P 0).1 b = crossed (lane sc h1 h2 lt ln b) (prob P b) 0 := by
      rw [crossed_zero, ← kgrid_eq_score _ _ hln]
      exact funext fun i => funext fun c => tableV_apply v5 sc h1 h2 lt ln P b hv5 i c
    refine ⟨e, ?_⟩
    rw [← e]
    exact maxV_apply _ b
  | succ k ih =>
    have h := ih (by omega)
    have hs := sel_of_chain v5 sc h1 h2 lt ln P b hv5 hln h0 hlp ⟨k, by omega⟩ h
    have e : at3 (chV v5 sc h1 h2 lt ln P (k + 1)).1 b = crossed (lane sc h1 h2 lt ln b) (prob P b) (k + 1) := by
      funext i c
      refine (crossV_apply _ _ _ _ _ b i c).trans ?_
      rw [hs, fidV_apply v5 b hv5]
      refine Eq.trans ?_ (crossed_succ _ _ ⟨k, by omega⟩ i c).symm
      rw [← h.1]
      rfl
    refine ⟨e, ?_⟩
    rw [← e]
    exact curV_apply _ _ _ _ _ b

theorem sel_apply (k : Fin 10) :
    k0_pay93 (key1V v5 h1 lt ln) (key2V v5 h2 lt ln) (k0_pay83 v5) (chV v5 sc h1 h2 lt ln P k.val).1
        (chV v5 sc h1 h2 lt ln P k.val).2 (ix3 0 b 0)
      = fid (par (lane sc h1 h2 lt ln b) (prob P b) k) (tok (lane sc h1 h2 lt ln b) (prob P b) k) :=
  sel_of_chain v5 sc h1 h2 lt ln P b hv5 hln h0 hlp k
    (chV_apply v5 sc h1 h2 lt ln P b hv5 hln h0 hlp k.val (by have := k.isLt; omega))

theorem scoresV_apply (k : Fin 10) : scoresV v5 sc h1 h2 lt ln P (ix2 k b)
    = (step (lane sc h1 h2 lt ln b) (prob P b)).sc k := by
  refine (cat_fun b (scoreR v5 sc h1 h2 lt ln P) k).trans ?_
  refine (scoreV_apply _ b).trans ?_
  rw [(chV_apply v5 sc h1 h2 lt ln P b hv5 hln h0 hlp k.val (by have := k.isLt; omega)).2, kcur_crossed]
  rfl

theorem parsV_apply (k : Fin 10) : parsV v5 sc h1 h2 lt ln P (ix2 k b)
    = BitVec.ofNat 32 (par (lane sc h1 h2 lt ln b) (prob P b) k).val := by
  refine (cat_fun b (parR v5 sc h1 h2 lt ln P) k).trans ?_
  refine (parV_apply _ _ _ _ _ b).trans ?_
  rw [sel_apply v5 sc h1 h2 lt ln P b hv5 hln h0 hlp k, fid_par]

theorem toksV_apply (k : Fin 10) : toksV v5 sc h1 h2 lt ln P (ix2 k b)
    = ch (tok (lane sc h1 h2 lt ln b) (prob P b) k) := by
  refine (cat_fun b (tokR v5 sc h1 h2 lt ln P) k).trans ?_
  refine (tokV_apply _ _ _ _ _ b).trans ?_
  rw [sel_apply v5 sc h1 h2 lt ln P b hv5 hln h0 hlp k, fid_tok]

end

end Cert.Proof.KernelIdeal
-- ==== Proof.KernelIdeal.Ident.lean ====
/-
  The values met in one trip of the kernel's frame loop, as the tables and picks of the lane-wise reading.
-/
module

public import proofs.«01_k».proof.Proof.KernelIdeal.Picks
public import proofs.«01_k».proof.Proof.KernelIdeal.Trip

@[expose] public section

set_option maxRecDepth 65536
set_option maxHeartbeats 400000

noncomputable section

namespace Cert.Proof.KernelIdeal

open Cert.KernelIdeal Cert.KernelIdeal.Gen
open Idealize.ShloMosaic Idealize.ShloMosaic.TcCoe
open Idealize.SL Idealize.SL.Sem

theorem pay29_eq (v5 : IVec S10x128x92 32) (sc : FVec Ideal S10x128 .f32) (h1 h2 lt ln : IVec S10x128 32)
    (P : FVec Ideal S1x128x92 .f32) (st : FVec Ideal S10x128x1 .f32) :
    k0_pay29 v5 h1 h2 lt ln (k0_pay23 P) (k0_pay24 sc) st (k0_pay26 (F := Ideal) v5 lt ln)
      = gV v5 h1 h2 lt ln (baseV v5 sc lt ln P) (row0 h1) (row0 h2) (srow0 st) := rfl

theorem pay30_eq (h1 h2 lt ln : IVec S10x128 32) :
    k0_pay30 (F := Ideal) h1 h2 lt ln = sV h1 h2 lt ln (row0 h1) (row0 h2) := rfl

theorem pay79_eq (v5 : IVec S10x128x92 32) (st : FVec Ideal S10x128x1 .f32) (s0 s1 s2 s3 s4 s5 s6 s7 s8 : IVec S1x128 32)
    (g : FVec Ideal S10x128x92 .f32) (m : IVec S10x128 1) (e : IVec S10x128x92 1) (rs : FVec Ideal S10x128x92 .f32) :
    k0_pay79 v5 st s0 s1 s2 s3 s4 s5 s6 s7 g s8 m e rs
      = lastV v5 (select e (maximumf g rs) g) st s0 s1 s2 s3 s4 s5 s6 s7 s8
        (shapeCast S1x128 (multiReductionI .add [0] S128 (extui 32 m natLt_1_32) 0#32 reduces_S10x128_S128 rfl)
          shapeCasts_S128_S1x128) := rfl

theorem pay84_eq (v5 : IVec S10x128x92 32) (st : FVec Ideal S10x128x1 .f32) (s0 s1 s2 s3 s4 s5 s6 s7 s8 : IVec S1x128 32)
    (g : FVec Ideal S10x128x92 .f32) (m : IVec S10x128 1) (e : IVec S10x128x92 1) (rs : FVec Ideal S10x128x92 .f32) :
    k0_pay84 v5 st s0 s1 s2 s3 s4 s5 s6 s7 g s8 m e rs = maxV (k0_pay79 v5 st s0 s1 s2 s3 s4 s5 s6 s7 g s8 m e rs) := rfl

theorem pay87_eq (v519 v530 v534 : IVec S10x128x92 32) (g : FVec Ideal S10x128x92 .f32) (cur : FVec Ideal S128x1 .f32) : k0_pay87 g v519 v530 v534 cur = k0_pay94 v519 v530 v534 g cur := rfl

theorem pay89_eq (v519 v530 v534 : IVec S10x128x92 32) (g : FVec Ideal S10x128x92 .f32) (cur : FVec Ideal S128x1 .f32) : k0_pay89 g v519 v530 v534 cur = k0_pay96 v519 v530 v534 g cur := rfl

theorem pay90_eq (v519 v530 v534 : IVec S10x128x92 32) (g : FVec Ideal S10x128x92 .f32) (cur : FVec Ideal S128x1 .f32) : k0_pay90 g v519 v530 v534 cur = k0_pay97 v519 v530 v534 g cur := rfl

theorem pay91_eq (v519 v530 v534 : IVec S10x128x92 32) (g : FVec Ideal S10x128x92 .f32) (cur : FVec Ideal S128x1 .f32) : k0_pay91 g v519 v530 v534 cur = k0_pay98 v519 v530 v534 g cur := rfl

theorem pay88_eq (cur : FVec Ideal S128x1 .f32) : k0_pay88 cur = k0_pay95 cur := rfl

theorem pay101_eq (v519 v530 v534 : IVec S10x128x92 32) (g : FVec Ideal S10x128x92 .f32) (cur : FVec Ideal S128x1 .f32) : k0_pay101 v519 v530 v534 g cur = k0_pay94 v519 v530 v534 g cur := rfl

theorem pay103_eq (v519 v530 v534 : IVec S10x128x92 32) (g : FVec Ideal S10x128x92 .f32) (cur : FVec Ideal S128x1 .f32) : k0_pay103 v519 v530 v534 g cur = k0_pay96 v519 v530 v534 g cur := rfl

theorem pay104_eq (v519 v530 v534 : IVec S10x128x92 32) (g : FVec Ideal S10x128x92 .f32) (cur : FVec Ideal S128x1 .f32) : k0_pay104 v519 v530 v534 g cur = k0_pay97 v519 v530 v534 g cur := rfl

theorem pay105_eq (v519 v530 v534 : IVec S10x128x92 32) (g : FVec Ideal S10x128x92 .f32) (cur : FVec Ideal S128x1 .f32) : k0_pay105 v519 v530 v534 g cur = k0_pay98 v519 v530 v534 g cur := rfl

theorem pay102_eq (cur : FVec Ideal S128x1 .f32) : k0_pay102 cur = k0_pay95 cur := rfl

theorem pay108_eq (v519 v530 v534 : IVec S10x128x92 32) (g : FVec Ideal S10x128x92 .f32) (cur : FVec Ideal S128x1 .f32) : k0_pay108 v519 v530 v534 g cur = k0_pay94 v519 v530 v534 g cur := rfl

theorem pay110_eq (v519 v530 v534 : IVec S10x128x92 32) (g : FVec Ideal S10x128x92 .f32) (cur : FVec Ideal S128x1 .f32) : k0_pay110 v519 v530 v534 g cur = k0_pay96 v519 v530 v534 g cur := rfl

theorem pay111_eq (v519 v530 v534 : IVec S10x128x92 32) (g : FVec Ideal S10x128x92 .f32) (cur : FVec Ideal S128x1 .f32) : k0_pay111 v519 v530 v534 g cur = k0_pay97 v519 v530 v534 g cur := rfl

theorem pay112_eq (v519 v530 v534 : IVec S10x128x92 32) (g : FVec Ideal S10x128x92 .f32) (cur : FVec Ideal S128x1 .f32) : k0_pay112 v519 v530 v534 g cur = k0_pay98 v519 v530 v534 g cur := rfl

theorem pay109_eq (cur : FVec Ideal S128x1 .f32) : k0_pay109 cur = k0_pay95 cur := rfl

theorem pay115_eq (v519 v530 v534 : IVec S10x128x92 32) (g : FVec Ideal S10x128x92 .f32) (cur : FVec Ideal S128x1 .f32) : k0_pay115 v519 v530 v534 g cur = k0_pay94 v519 v530 v534 g cur := rfl

theorem pay117_eq (v519 v530 v534 : IVec S10x128x92 32) (g : FVec Ideal S10x128x92 .f32) (cur : FVec Ideal S128x1 .f32) : k0_pay117 v519 v530 v534 g cur = k0_pay96 v519 v530 v534 g cur := rfl

theorem pay118_eq (v519 v530 v534 : IVec S10x128x92 32) (g : FVec Ideal S10x128x92 .f32) (cur : FVec Ideal S128x1 .f32) : k0_pay118 v519 v530 v534 g cur = k0_pay97 v519 v530 v534 g cur := rfl

theorem pay119_eq (v519 v530 v534 : IVec S10x128x92 32) (g : FVec Ideal S10x128x92 .f32) (cur : FVec Ideal S128x1 .f32) : k0_pay119 v519 v530 v534 g cur = k0_pay98 v519 v530 v534 g cur := rfl

theorem pay116_eq (cur : FVec Ideal S128x1 .f32) : k0_pay116 cur = k0_pay95 cur := rfl

theorem pay122_eq (v519 v530 v534 : IVec S10x128x92 32) (g : FVec Ideal S10x128x92 .f32) (cur : FVec Ideal S128x1 .f32) : k0_pay122 v519 v530 v534 g cur = k0_pay94 v519 v530 v534 g cur := rfl

theorem pay124_eq (v519 v530 v534 : IVec S10x128x92 32) (g : FVec Ideal S10x128x92 .f32) (cur : FVec Ideal S128x1 .f32) : k0_pay124 v519 v530 v534 g cur = k0_pay96 v519 v530 v534 g cur := rfl

theorem pay125_eq (v519 v530 v534 : IVec S10x128x92 32) (g : FVec Ideal S10x128x92 .f32) (cur : FVec Ideal S128x1 .f32) : k0_pay125 v519 v530 v534 g cur = k0_pay97 v519 v530 v534 g cur := rfl

theorem pay126_eq (v519 v530 v534 : IVec S10x128x92 32) (g : FVec Ideal S10x128x92 .f32) (cur : FVec Ideal S128x1 .f32) : k0_pay126 v519 v530 v534 g cur = k0_pay98 v519 v530 v534 g cur := rfl

theorem pay123_eq (cur : FVec Ideal S128x1 .f32) : k0_pay123 cur = k0_pay95 cur := rfl

theorem pay129_eq (v519 v530 v534 : IVec S10x128x92 32) (g : FVec Ideal S10x128x92 .f32) (cur : FVec Ideal S128x1 .f32) : k0_pay129 v519 v530 v534 g cur = k0_pay94 v519 v530 v534 g cur := rfl

theorem pay131_eq (v519 v530 v534 : IVec S10x128x92 32) (g : FVec Ideal S10x128x92 .f32) (cur : FVec Ideal S128x1 .f32) : k0_pay131 v519 v530 v534 g cur = k0_pay96 v519 v530 v534 g cur := rfl

theorem pay132_eq (v519 v530 v534 : IVec S10x128x92 32) (g : FVec Ideal S10x128x92 .f32) (cur : FVec Ideal S128x1 .f32) : k0_pay132 v519 v530 v534 g cur = k0_pay97 v519 v530 v534 g cur := rfl

theorem pay133_eq (v519 v530 v534 : IVec S10x128x92 32) (g : FVec Ideal S10x128x92 .f32) (cur : FVec Ideal S128x1 .f32) : k0_pay133 v519 v530 v534 g cur = k0_pay98 v519 v530 v534 g cur := rfl

theorem pay130_eq (cur : FVec Ideal S128x1 .f32) : k0_pay130 cur = k0_pay95 cur := rfl

theorem pay136_eq (v519 v530 v534 : IVec S10x128x92 32) (g : FVec Ideal S10x128x92 .f32) (cur : FVec Ideal S128x1 .f32) : k0_pay136 v519 v530 v534 g cur = k0_pay94 v519 v530 v534 g cur := rfl

theorem pay138_eq (v519 v530 v534 : IVec S10x128x92 32) (g : FVec Ideal S10x128x92 .f32) (cur : FVec Ideal S128x1 .f32) : k0_pay138 v519 v530 v534 g cur = k0_pay96 v519 v530 v534 g cur := rfl

theorem pay139_eq (v519 v530 v534 : IVec S10x128x92 32) (g : FVec Ideal S10x128x92 .f32) (cur : FVec Ideal S128x1 .f32) : k0_pay139 v519 v530 v534 g cur = k0_pay97 v519 v530 v534 g cur := rfl

theorem pay140_eq (v519 v530 v534 : IVec S10x128x92 32) (g : FVec Ideal S10x128x92 .f32) (cur : FVec Ideal S128x1 .f32) : k0_pay140 v519 v530 v534 g cur = k0_pay98 v519 v530 v534 g cur := rfl

theorem pay137_eq (cur : FVec Ideal S128x1 .f32) : k0_pay137 cur = k0_pay95 cur := rfl

theorem pay143_eq (v519 v530 v534 : IVec S10x128x92 32) (g : FVec Ideal S10x128x92 .f32) (cur : FVec Ideal S128x1 .f32) : k0_pay143 v519 v530 v534 g cur = k0_pay94 v519 v530 v534 g cur := rfl

theorem pay145_eq (v519 v530 v534 : IVec S10x128x92 32) (g : FVec Ideal S10x128x92 .f32) (cur : FVec Ideal S128x1 .f32) : k0_pay145 v519 v530 v534 g cur = k0_pay96 v519 v530 v534 g cur := rfl

theorem pay146_eq (v519 v530 v534 : IVec S10x128x92 32) (g : FVec Ideal S10x128x92 .f32) (cur : FVec Ideal S128x1 .f32) : k0_pay146 v519 v530 v534 g cur = k0_pay97 v519 v530 v534 g cur := rfl

theorem pay147_eq (v519 v530 v534 : IVec S10x128x92 32) (g : FVec Ideal S10x128x92 .f32) (cur : FVec Ideal S128x1 .f32) : k0_pay147 v519 v530 v534 g cur = k0_pay98 v519 v530 v534 g cur := rfl

theorem pay144_eq (cur : FVec Ideal S128x1 .f32) : k0_pay144 cur = k0_pay95 cur := rfl

section
variable (arg3 : Memref sig .tc .vmem S128x128x92 .f32) (arg7 : Memref sig .tc .vmem S10x128 .f32) (arg8 : Memref sig .tc .vmem S10x128 .i32) (arg9 : Memref sig .tc .vmem S10x128 .i32) (arg10 : Memref sig .tc .vmem S10x128 .i32) (arg11 : Memref sig .tc .vmem S10x128 .i32) (v5 : IVec S10x128x92 32)
  (X3 : BufTy.Contents (Elt Ideal) arg3.view.ty) (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)

theorem e_r_7 : (trip_t1.sl.r_7 (F := Ideal) arg3 arg7 arg10 arg11 v5 X3 k f7 f10 f11)
    = k0_pay25 v5 (View.readAt (Elt Ideal) arg3.view (Rect.unit (s := S128x128x92) (k0_off1 k) S1x128x92.size (k0_off1_inb k)).toLoadRect X3) (trip_t1.sl.r (F := Ideal) arg7 f7) (trip_t1.sl.r_3 (F := Ideal) arg10 f10) (trip_t1.sl.r_4 (F := Ideal) arg11 f11) := rfl

theorem e_r_8 : (trip_t1.sl.r_8 (F := Ideal) arg10 arg11 v5 f10 f11)
    = k0_pay26 (F := Ideal) v5 (trip_t1.sl.r_3 (F := Ideal) arg10 f10) (trip_t1.sl.r_4 (F := Ideal) arg11 f11) := rfl

theorem e_r_9 : (trip_t1.sl.r_9 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (baseV v5 (trip_t1.sl.r (F := Ideal) arg7 f7) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3)) (row0 (trip_t1.sl.r_1 (F := Ideal) arg8 f8)) (row0 (trip_t1.sl.r_2 (F := Ideal) arg9 f9)) (srow0 (trip_t1.sl.r_7 (F := Ideal) arg3 arg7 arg10 arg11 v5 X3 k f7 f10 f11)) := pay29_eq v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) (trip_t1.sl.r_7 (F := Ideal) arg3 arg7 arg10 arg11 v5 X3 k f7 f10 f11)

theorem e_r_10 : (trip_t1.sl.r_10 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row0 (trip_t1.sl.r_1 (F := Ideal) arg8 f8)) (row0 (trip_t1.sl.r_2 (F := Ideal) arg9 f9)) := pay30_eq (trip_t1.sl.r_1 (F := Ideal) arg8 f8) (trip_t1.sl.r_2 (F := Ideal) arg9 f9) (trip_t1.sl.r_3 (F := Ideal) arg10 f10) (trip_t1.sl.r_4 (F := Ideal) arg11 f11)

theorem e_v140 : (trip_t1.sl.v140 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.r_9 (F := Ideal) arg3 arg7 arg8 arg9 arg10 arg11 v5 X3 k f7 f8 f9 f10 f11) (row1 (trip_t1.sl.r_1 (F := Ideal) arg8 f8)) (row1 (trip_t1.sl.r_2 (F := Ideal) arg9 f9)) (srow1 (trip_t1.sl.r_7 (F := Ideal) arg3 arg7 arg10 arg11 v5 X3 k f7 f10 f11)) := rfl

theorem e_v143 : (trip_t1.sl.v143 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row1 (trip_t1.sl.r_1 (F := Ideal) arg8 f8)) (row1 (trip_t1.sl.r_2 (F := Ideal) arg9 f9)) := rfl

theorem e_v184 : (trip_t1.sl.v184 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v140 (F := Ideal) arg3 arg7 arg8 arg9 arg10 arg11 v5 X3 k f7 f8 f9 f10 f11) (row2 (trip_t1.sl.r_1 (F := Ideal) arg8 f8)) (row2 (trip_t1.sl.r_2 (F := Ideal) arg9 f9)) (srow2 (trip_t1.sl.r_7 (F := Ideal) arg3 arg7 arg10 arg11 v5 X3 k f7 f10 f11)) := rfl

theorem e_v187 : (trip_t1.sl.v187 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row2 (trip_t1.sl.r_1 (F := Ideal) arg8 f8)) (row2 (trip_t1.sl.r_2 (F := Ideal) arg9 f9)) := rfl

theorem e_v228 : (trip_t1.sl.v228 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v184 (F := Ideal) arg3 arg7 arg8 arg9 arg10 arg11 v5 X3 k f7 f8 f9 f10 f11) (row3 (trip_t1.sl.r_1 (F := Ideal) arg8 f8)) (row3 (trip_t1.sl.r_2 (F := Ideal) arg9 f9)) (srow3 (trip_t1.sl.r_7 (F := Ideal) arg3 arg7 arg10 arg11 v5 X3 k f7 f10 f11)) := rfl

theorem e_v231 : (trip_t1.sl.v231 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row3 (trip_t1.sl.r_1 (F := Ideal) arg8 f8)) (row3 (trip_t1.sl.r_2 (F := Ideal) arg9 f9)) := rfl

theorem e_v272 : (trip_t1.sl.v272 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v228 (F := Ideal) arg3 arg7 arg8 arg9 arg10 arg11 v5 X3 k f7 f8 f9 f10 f11) (row4 (trip_t1.sl.r_1 (F := Ideal) arg8 f8)) (row4 (trip_t1.sl.r_2 (F := Ideal) arg9 f9)) (srow4 (trip_t1.sl.r_7 (F := Ideal) arg3 arg7 arg10 arg11 v5 X3 k f7 f10 f11)) := rfl

theorem e_v275 : (trip_t1.sl.v275 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row4 (trip_t1.sl.r_1 (F := Ideal) arg8 f8)) (row4 (trip_t1.sl.r_2 (F := Ideal) arg9 f9)) := rfl

theorem e_v316 : (trip_t1.sl.v316 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v272 (F := Ideal) arg3 arg7 arg8 arg9 arg10 arg11 v5 X3 k f7 f8 f9 f10 f11) (row5 (trip_t1.sl.r_1 (F := Ideal) arg8 f8)) (row5 (trip_t1.sl.r_2 (F := Ideal) arg9 f9)) (srow5 (trip_t1.sl.r_7 (F := Ideal) arg3 arg7 arg10 arg11 v5 X3 k f7 f10 f11)) := rfl

theorem e_v319 : (trip_t1.sl.v319 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row5 (trip_t1.sl.r_1 (F := Ideal) arg8 f8)) (row5 (trip_t1.sl.r_2 (F := Ideal) arg9 f9)) := rfl

theorem e_v360 : (trip_t1.sl.v360 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v316 (F := Ideal) arg3 arg7 arg8 arg9 arg10 arg11 v5 X3 k f7 f8 f9 f10 f11) (row6 (trip_t1.sl.r_1 (F := Ideal) arg8 f8)) (row6 (trip_t1.sl.r_2 (F := Ideal) arg9 f9)) (srow6 (trip_t1.sl.r_7 (F := Ideal) arg3 arg7 arg10 arg11 v5 X3 k f7 f10 f11)) := rfl

theorem e_v363 : (trip_t1.sl.v363 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row6 (trip_t1.sl.r_1 (F := Ideal) arg8 f8)) (row6 (trip_t1.sl.r_2 (F := Ideal) arg9 f9)) := rfl

theorem e_v404 : (trip_t1.sl.v404 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v360 (F := Ideal) arg3 arg7 arg8 arg9 arg10 arg11 v5 X3 k f7 f8 f9 f10 f11) (row7 (trip_t1.sl.r_1 (F := Ideal) arg8 f8)) (row7 (trip_t1.sl.r_2 (F := Ideal) arg9 f9)) (srow7 (trip_t1.sl.r_7 (F := Ideal) arg3 arg7 arg10 arg11 v5 X3 k f7 f10 f11)) := rfl

theorem e_v407 : (trip_t1.sl.v407 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row7 (trip_t1.sl.r_1 (F := Ideal) arg8 f8)) (row7 (trip_t1.sl.r_2 (F := Ideal) arg9 f9)) := rfl

theorem e_v448 : (trip_t1.sl.v448 (F := Ideal) arg3 arg7 arg8 arg9 arg10 arg11 v5 X3 k f7 f8 f9 f10 f11)
    = gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v404 (F := Ideal) arg3 arg7 arg8 arg9 arg10 arg11 v5 X3 k f7 f8 f9 f10 f11) (row8 (trip_t1.sl.r_1 (F := Ideal) arg8 f8)) (row8 (trip_t1.sl.r_2 (F := Ideal) arg9 f9)) (srow8 (trip_t1.sl.r_7 (F := Ideal) arg3 arg7 arg10 arg11 v5 X3 k f7 f10 f11)) := rfl

theorem e_v451 : (trip_t1.sl.v451 (F := Ideal) arg8 arg9 arg10 arg11 f8 f9 f10 f11)
    = sV (trip_t1.sl.r_1 (F := Ideal) arg8 f8) (trip_t1.sl.r_2 (F := Ideal) arg9 f9) (trip_t1.sl.r_3 (F := Ideal) arg10 f10) (trip_t1.sl.r_4 (F := Ideal) arg11 f11) (row8 (trip_t1.sl.r_1 (F := Ideal) arg8 f8)) (row8 (trip_t1.sl.r_2 (F := Ideal) arg9 f9)) := rfl

theorem l_r_11 : (trip_t1.sl.r_11 (F := Ideal) arg3 arg7 arg8 arg9 arg10 arg11 v5 X3 k f7 f8 f9 f10 f11)
    = lastV v5 (gV v5 (trip_t1.sl.r_1 (F := Ideal) arg8 f8) (trip_t1.sl.r_2 (F := Ideal) arg9 f9) (trip_t1.sl.r_3 (F := Ideal) arg10 f10) (trip_t1.sl.r_4 (F := Ideal) arg11 f11) (trip_t1.sl.v448 (F := Ideal) arg3 arg7 arg8 arg9 arg10 arg11 v5 X3 k f7 f8 f9 f10 f11) (row9 (trip_t1.sl.r_1 (F := Ideal) arg8 f8)) (row9 (trip_t1.sl.r_2 (F := Ideal) arg9 f9)) (srow9 (trip_t1.sl.r_7 (F := Ideal) arg3 arg7 arg10 arg11 v5 X3 k f7 f10 f11))) (trip_t1.sl.r_7 (F := Ideal) arg3 arg7 arg10 arg11 v5 X3 k f7 f10 f11) (trip_t1.sl.r_10 (F := Ideal) arg8 arg9 arg10 arg11 f8 f9 f10 f11) (trip_t1.sl.v143 (F := Ideal) arg8 arg9 arg10 arg11 f8 f9 f10 f11) (trip_t1.sl.v187 (F := Ideal) arg8 arg9 arg10 arg11 f8 f9 f10 f11) (trip_t1.sl.v231 (F := Ideal) arg8 arg9 arg10 arg11 f8 f9 f10 f11) (trip_t1.sl.v275 (F := Ideal) arg8 arg9 arg10 arg11 f8 f9 f10 f11) (trip_t1.sl.v319 (F := Ideal) arg8 arg9 arg10 arg11 f8 f9 f10 f11) (trip_t1.sl.v363 (F := Ideal) arg8 arg9 arg10 arg11 f8 f9 f10 f11) (trip_t1.sl.v407 (F := Ideal) arg8 arg9 arg10 arg11 f8 f9 f10 f11) (trip_t1.sl.v451 (F := Ideal) arg8 arg9 arg10 arg11 f8 f9 f10 f11) (sV (trip_t1.sl.r_1 (F := Ideal) arg8 f8) (trip_t1.sl.r_2 (F := Ideal) arg9 f9) (trip_t1.sl.r_3 (F := Ideal) arg10 f10) (trip_t1.sl.r_4 (F := Ideal) arg11 f11) (row9 (trip_t1.sl.r_1 (F := Ideal) arg8 f8)) (row9 (trip_t1.sl.r_2 (F := Ideal) arg9 f9))) := by
  refine Eq.trans (b := k0_pay79 v5 (trip_t1.sl.r_7 (F := Ideal) arg3 arg7 arg10 arg11 v5 X3 k f7 f10 f11) (trip_t1.sl.r_10 (F := Ideal) arg8 arg9 arg10 arg11 f8 f9 f10 f11) (trip_t1.sl.v143 (F := Ideal) arg8 arg9 arg10 arg11 f8 f9 f10 f11) (trip_t1.sl.v187 (F := Ideal) arg8 arg9 arg10 arg11 f8 f9 f10 f11) (trip_t1.sl.v231 (F := Ideal) arg8 arg9 arg10 arg11 f8 f9 f10 f11) (trip_t1.sl.v275 (F := Ideal) arg8 arg9 arg10 arg11 f8 f9 f10 f11) (trip_t1.sl.v319 (F := Ideal) arg8 arg9 arg10 arg11 f8 f9 f10 f11) (trip_t1.sl.v363 (F := Ideal) arg8 arg9 arg10 arg11 f8 f9 f10 f11) (trip_t1.sl.v407 (F := Ideal) arg8 arg9 arg10 arg11 f8 f9 f10 f11) (trip_t1.sl.v448 (F := Ideal) arg3 arg7 arg8 arg9 arg10 arg11 v5 X3 k f7 f8 f9 f10 f11) (trip_t1.sl.v451 (F := Ideal) arg8 arg9 arg10 arg11 f8 f9 f10 f11) (trip_t1.sl.v477 (F := Ideal) arg8 arg9 arg10 arg11 f8 f9 f10 f11) (trip_t1.sl.v488 (F := Ideal) arg8 arg9 arg10 arg11 v5 f8 f9 f10 f11) (trip_t1.sl.v490 (F := Ideal) arg3 arg7 arg10 arg11 v5 X3 k f7 f10 f11)) rfl ?_
  rw [pay79_eq]
  rfl

theorem e_r_11 : (trip_t1.sl.r_11 (F := Ideal) arg3 arg7 arg8 arg9 arg10 arg11 v5 X3 k f7 f8 f9 f10 f11)
    = tableV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) := by
  rw [l_r_11, e_v448, e_v404, e_v360, e_v316, e_v272, e_v228, e_v184, e_v140, e_r_9, e_r_10, e_v143, e_v187, e_v231, e_v275, e_v319, e_v363, e_v407, e_v451, e_r_7]
  rfl

theorem e_r_12 : (trip_t1.sl.r_12 (F := Ideal) arg8 arg10 arg11 v5 f8 f10 f11)
    = key1V v5 (trip_t1.sl.r_1 (F := Ideal) arg8 f8) (trip_t1.sl.r_3 (F := Ideal) arg10 f10) (trip_t1.sl.r_4 (F := Ideal) arg11 f11) := rfl

theorem e_r_13 : (trip_t1.sl.r_13 (F := Ideal) arg9 arg10 arg11 v5 f9 f10 f11)
    = key2V v5 (trip_t1.sl.r_2 (F := Ideal) arg9 f9) (trip_t1.sl.r_3 (F := Ideal) arg10 f10) (trip_t1.sl.r_4 (F := Ideal) arg11 f11) := rfl

theorem l_r_14 : (trip_t1.sl.r_14 (F := Ideal) arg3 arg7 arg8 arg9 arg10 arg11 v5 X3 k f7 f8 f9 f10 f11)
    = maxV (trip_t1.sl.r_11 (F := Ideal) arg3 arg7 arg8 arg9 arg10 arg11 v5 X3 k f7 f8 f9 f10 f11) := Eq.trans (b := k0_pay84 v5 (trip_t1.sl.r_7 (F := Ideal) arg3 arg7 arg10 arg11 v5 X3 k f7 f10 f11) (trip_t1.sl.r_10 (F := Ideal) arg8 arg9 arg10 arg11 f8 f9 f10 f11) (trip_t1.sl.v143 (F := Ideal) arg8 arg9 arg10 arg11 f8 f9 f10 f11) (trip_t1.sl.v187 (F := Ideal) arg8 arg9 arg10 arg11 f8 f9 f10 f11) (trip_t1.sl.v231 (F := Ideal) arg8 arg9 arg10 arg11 f8 f9 f10 f11) (trip_t1.sl.v275 (F := Ideal) arg8 arg9 arg10 arg11 f8 f9 f10 f11) (trip_t1.sl.v319 (F := Ideal) arg8 arg9 arg10 arg11 f8 f9 f10 f11) (trip_t1.sl.v363 (F := Ideal) arg8 arg9 arg10 arg11 f8 f9 f10 f11) (trip_t1.sl.v407 (F := Ideal) arg8 arg9 arg10 arg11 f8 f9 f10 f11) (trip_t1.sl.v448 (F := Ideal) arg3 arg7 arg8 arg9 arg10 arg11 v5 X3 k f7 f8 f9 f10 f11) (trip_t1.sl.v451 (F := Ideal) arg8 arg9 arg10 arg11 f8 f9 f10 f11) (trip_t1.sl.v477 (F := Ideal) arg8 arg9 arg10 arg11 f8 f9 f10 f11) (trip_t1.sl.v488 (F := Ideal) arg8 arg9 arg10 arg11 v5 f8 f9 f10 f11) (trip_t1.sl.v490 (F := Ideal) arg3 arg7 arg10 arg11 v5 X3 k f7 f10 f11)) rfl (pay84_eq _ _ _ _ _ _ _ _ _ _ _ _ _ _ _)

theorem c_0 : (trip_t1.sl.r_11 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 0).1 := e_r_11 _ _ _ _ _ _ _ _ _ _ _ _ _ _

theorem d_0 : (trip_t1.sl.r_14 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 0).2 := by
  rw [l_r_14, e_r_11]
  rfl

theorem l_r_15 : (trip_t1.sl.r_15 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_11 (F := Ideal) arg3 arg7 arg8 arg9 arg10 arg11 v5 X3 k f7 f8 f9 f10 f11) (trip_t1.sl.r_14 (F := Ideal) arg3 arg7 arg8 arg9 arg10 arg11 v5 X3 k f7 f8 f9 f10 f11) := pay87_eq _ _ _ _ _

theorem l_r_19 : (trip_t1.sl.r_19 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_11 (F := Ideal) arg3 arg7 arg8 arg9 arg10 arg11 v5 X3 k f7 f8 f9 f10 f11) (trip_t1.sl.r_14 (F := Ideal) arg3 arg7 arg8 arg9 arg10 arg11 v5 X3 k f7 f8 f9 f10 f11) := pay91_eq _ _ _ _ _

theorem c_1 : (trip_t1.sl.r_15 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 1).1 := by
  rw [l_r_15, e_r_12, e_r_13, c_0, d_0]
  rfl

theorem d_1 : (trip_t1.sl.r_19 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 1).2 := by
  rw [l_r_19, e_r_12, e_r_13, c_0, d_0]
  rfl

theorem l_r_20 : (trip_t1.sl.r_20 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_15 (F := Ideal) arg3 arg7 arg8 arg9 arg10 arg11 v5 X3 k f7 f8 f9 f10 f11) (trip_t1.sl.r_19 (F := Ideal) arg3 arg7 arg8 arg9 arg10 arg11 v5 X3 k f7 f8 f9 f10 f11) := rfl

theorem l_r_24 : (trip_t1.sl.r_24 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_15 (F := Ideal) arg3 arg7 arg8 arg9 arg10 arg11 v5 X3 k f7 f8 f9 f10 f11) (trip_t1.sl.r_19 (F := Ideal) arg3 arg7 arg8 arg9 arg10 arg11 v5 X3 k f7 f8 f9 f10 f11) := rfl

theorem c_2 : (trip_t1.sl.r_20 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 2).1 := by
  rw [l_r_20, e_r_12, e_r_13, c_1, d_1]
  rfl

theorem d_2 : (trip_t1.sl.r_24 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 2).2 := by
  rw [l_r_24, e_r_12, e_r_13, c_1, d_1]
  rfl

theorem l_r_25 : (trip_t1.sl.r_25 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_20 (F := Ideal) arg3 arg7 arg8 arg9 arg10 arg11 v5 X3 k f7 f8 f9 f10 f11) (trip_t1.sl.r_24 (F := Ideal) arg3 arg7 arg8 arg9 arg10 arg11 v5 X3 k f7 f8 f9 f10 f11) := pay101_eq _ _ _ _ _

theorem l_r_29 : (trip_t1.sl.r_29 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_20 (F := Ideal) arg3 arg7 arg8 arg9 arg10 arg11 v5 X3 k f7 f8 f9 f10 f11) (trip_t1.sl.r_24 (F := Ideal) arg3 arg7 arg8 arg9 arg10 arg11 v5 X3 k f7 f8 f9 f10 f11) := pay105_eq _ _ _ _ _

theorem c_3 : (trip_t1.sl.r_25 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 3).1 := by
  rw [l_r_25, e_r_12, e_r_13, c_2, d_2]
  rfl

theorem d_3 : (trip_t1.sl.r_29 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 3).2 := by
  rw [l_r_29, e_r_12, e_r_13, c_2, d_2]
  rfl

theorem l_r_30 : (trip_t1.sl.r_30 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_25 (F := Ideal) arg3 arg7 arg8 arg9 arg10 arg11 v5 X3 k f7 f8 f9 f10 f11) (trip_t1.sl.r_29 (F := Ideal) arg3 arg7 arg8 arg9 arg10 arg11 v5 X3 k f7 f8 f9 f10 f11) := pay108_eq _ _ _ _ _

theorem l_r_34 : (trip_t1.sl.r_34 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_25 (F := Ideal) arg3 arg7 arg8 arg9 arg10 arg11 v5 X3 k f7 f8 f9 f10 f11) (trip_t1.sl.r_29 (F := Ideal) arg3 arg7 arg8 arg9 arg10 arg11 v5 X3 k f7 f8 f9 f10 f11) := pay112_eq _ _ _ _ _

theorem c_4 : (trip_t1.sl.r_30 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 4).1 := by
  rw [l_r_30, e_r_12, e_r_13, c_3, d_3]
  rfl

theorem d_4 : (trip_t1.sl.r_34 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 4).2 := by
  rw [l_r_34, e_r_12, e_r_13, c_3, d_3]
  rfl

theorem l_r_35 : (trip_t1.sl.r_35 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_30 (F := Ideal) arg3 arg7 arg8 arg9 arg10 arg11 v5 X3 k f7 f8 f9 f10 f11) (trip_t1.sl.r_34 (F := Ideal) arg3 arg7 arg8 arg9 arg10 arg11 v5 X3 k f7 f8 f9 f10 f11) := pay115_eq _ _ _ _ _

theorem l_r_39 : (trip_t1.sl.r_39 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_30 (F := Ideal) arg3 arg7 arg8 arg9 arg10 arg11 v5 X3 k f7 f8 f9 f10 f11) (trip_t1.sl.r_34 (F := Ideal) arg3 arg7 arg8 arg9 arg10 arg11 v5 X3 k f7 f8 f9 f10 f11) := pay119_eq _ _ _ _ _

theorem c_5 : (trip_t1.sl.r_35 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 5).1 := by
  rw [l_r_35, e_r_12, e_r_13, c_4, d_4]
  rfl

theorem d_5 : (trip_t1.sl.r_39 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 5).2 := by
  rw [l_r_39, e_r_12, e_r_13, c_4, d_4]
  rfl

theorem l_r_40 : (trip_t1.sl.r_40 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_35 (F := Ideal) arg3 arg7 arg8 arg9 arg10 arg11 v5 X3 k f7 f8 f9 f10 f11) (trip_t1.sl.r_39 (F := Ideal) arg3 arg7 arg8 arg9 arg10 arg11 v5 X3 k f7 f8 f9 f10 f11) := pay122_eq _ _ _ _ _

theorem l_r_44 : (trip_t1.sl.r_44 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_35 (F := Ideal) arg3 arg7 arg8 arg9 arg10 arg11 v5 X3 k f7 f8 f9 f10 f11) (trip_t1.sl.r_39 (F := Ideal) arg3 arg7 arg8 arg9 arg10 arg11 v5 X3 k f7 f8 f9 f10 f11) := pay126_eq _ _ _ _ _

theorem c_6 : (trip_t1.sl.r_40 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 6).1 := by
  rw [l_r_40, e_r_12, e_r_13, c_5, d_5]
  rfl

theorem d_6 : (trip_t1.sl.r_44 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 6).2 := by
  rw [l_r_44, e_r_12, e_r_13, c_5, d_5]
  rfl

theorem l_r_45 : (trip_t1.sl.r_45 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_40 (F := Ideal) arg3 arg7 arg8 arg9 arg10 arg11 v5 X3 k f7 f8 f9 f10 f11) (trip_t1.sl.r_44 (F := Ideal) arg3 arg7 arg8 arg9 arg10 arg11 v5 X3 k f7 f8 f9 f10 f11) := pay129_eq _ _ _ _ _

theorem l_r_49 : (trip_t1.sl.r_49 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_40 (F := Ideal) arg3 arg7 arg8 arg9 arg10 arg11 v5 X3 k f7 f8 f9 f10 f11) (trip_t1.sl.r_44 (F := Ideal) arg3 arg7 arg8 arg9 arg10 arg11 v5 X3 k f7 f8 f9 f10 f11) := pay133_eq _ _ _ _ _

theorem c_7 : (trip_t1.sl.r_45 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 7).1 := by
  rw [l_r_45, e_r_12, e_r_13, c_6, d_6]
  rfl

theorem d_7 : (trip_t1.sl.r_49 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 7).2 := by
  rw [l_r_49, e_r_12, e_r_13, c_6, d_6]
  rfl

theorem l_r_50 : (trip_t1.sl.r_50 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_45 (F := Ideal) arg3 arg7 arg8 arg9 arg10 arg11 v5 X3 k f7 f8 f9 f10 f11) (trip_t1.sl.r_49 (F := Ideal) arg3 arg7 arg8 arg9 arg10 arg11 v5 X3 k f7 f8 f9 f10 f11) := pay136_eq _ _ _ _ _

theorem l_r_54 : (trip_t1.sl.r_54 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_45 (F := Ideal) arg3 arg7 arg8 arg9 arg10 arg11 v5 X3 k f7 f8 f9 f10 f11) (trip_t1.sl.r_49 (F := Ideal) arg3 arg7 arg8 arg9 arg10 arg11 v5 X3 k f7 f8 f9 f10 f11) := pay140_eq _ _ _ _ _

theorem c_8 : (trip_t1.sl.r_50 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 8).1 := by
  rw [l_r_50, e_r_12, e_r_13, c_7, d_7]
  rfl

theorem d_8 : (trip_t1.sl.r_54 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 8).2 := by
  rw [l_r_54, e_r_12, e_r_13, c_7, d_7]
  rfl

theorem l_r_55 : (trip_t1.sl.r_55 (F := Ideal) arg3 arg7 arg8 arg9 arg10 arg11 v5 X3 k f7 f8 f9 f10 f11)
    = k0_pay94 (trip_t1.sl.r_12 (F := Ideal) arg8 arg10 arg11 v5 f8 f10 f11) (trip_t1.sl.r_13 (F := Ideal) arg9 arg10 arg11 v5 f9 f10 f11) (k0_pay83 v5) (trip_t1.sl.r_50 (F := Ideal) arg3 arg7 arg8 arg9 arg10 arg11 v5 X3 k f7 f8 f9 f10 f11) (trip_t1.sl.r_54 (F := Ideal) arg3 arg7 arg8 arg9 arg10 arg11 v5 X3 k f7 f8 f9 f10 f11) := pay143_eq _ _ _ _ _

theorem l_r_59 : (trip_t1.sl.r_59 (F := Ideal) arg3 arg7 arg8 arg9 arg10 arg11 v5 X3 k f7 f8 f9 f10 f11)
    = k0_pay98 (trip_t1.sl.r_12 (F := Ideal) arg8 arg10 arg11 v5 f8 f10 f11) (trip_t1.sl.r_13 (F := Ideal) arg9 arg10 arg11 v5 f9 f10 f11) (k0_pay83 v5) (trip_t1.sl.r_50 (F := Ideal) arg3 arg7 arg8 arg9 arg10 arg11 v5 X3 k f7 f8 f9 f10 f11) (trip_t1.sl.r_54 (F := Ideal) arg3 arg7 arg8 arg9 arg10 arg11 v5 X3 k f7 f8 f9 f10 f11) := pay147_eq _ _ _ _ _

theorem c_9 : (trip_t1.sl.r_55 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 9).1 := by
  rw [l_r_55, e_r_12, e_r_13, c_8, d_8]
  rfl

theorem d_9 : (trip_t1.sl.r_59 (F := Ideal) arg3 arg7 arg8 arg9 arg10 arg11 v5 X3 k f7 f8 f9 f10 f11)
    = (chV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 9).2 := by
  rw [l_r_59, e_r_12, e_r_13, c_8, d_8]
  rfl

theorem l_r_16 : (trip_t1.sl.r_16 (F := Ideal) arg3 arg7 arg8 arg9 arg10 arg11 v5 X3 k f7 f8 f9 f10 f11)
    = k0_pay95 (trip_t1.sl.r_14 (F := Ideal) arg3 arg7 arg8 arg9 arg10 arg11 v5 X3 k f7 f8 f9 f10 f11) := pay88_eq _

theorem l_r_17 : (trip_t1.sl.r_17 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_11 (F := Ideal) arg3 arg7 arg8 arg9 arg10 arg11 v5 X3 k f7 f8 f9 f10 f11) (trip_t1.sl.r_14 (F := Ideal) arg3 arg7 arg8 arg9 arg10 arg11 v5 X3 k f7 f8 f9 f10 f11) := pay89_eq _ _ _ _ _

theorem l_r_18 : (trip_t1.sl.r_18 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_11 (F := Ideal) arg3 arg7 arg8 arg9 arg10 arg11 v5 X3 k f7 f8 f9 f10 f11) (trip_t1.sl.r_14 (F := Ideal) arg3 arg7 arg8 arg9 arg10 arg11 v5 X3 k f7 f8 f9 f10 f11) := pay90_eq _ _ _ _ _

theorem e_r_16 : (trip_t1.sl.r_16 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 0 := by
  rw [l_r_16, d_0]
  rfl

theorem e_r_17 : (trip_t1.sl.r_17 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 0 := by
  rw [l_r_17, e_r_12, e_r_13, c_0, d_0]
  rfl

theorem e_r_18 : (trip_t1.sl.r_18 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 0 := by
  rw [l_r_18, e_r_12, e_r_13, c_0, d_0]
  rfl

theorem l_r_21 : (trip_t1.sl.r_21 (F := Ideal) arg3 arg7 arg8 arg9 arg10 arg11 v5 X3 k f7 f8 f9 f10 f11)
    = k0_pay95 (trip_t1.sl.r_19 (F := Ideal) arg3 arg7 arg8 arg9 arg10 arg11 v5 X3 k f7 f8 f9 f10 f11) := rfl

theorem l_r_22 : (trip_t1.sl.r_22 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_15 (F := Ideal) arg3 arg7 arg8 arg9 arg10 arg11 v5 X3 k f7 f8 f9 f10 f11) (trip_t1.sl.r_19 (F := Ideal) arg3 arg7 arg8 arg9 arg10 arg11 v5 X3 k f7 f8 f9 f10 f11) := rfl

theorem l_r_23 : (trip_t1.sl.r_23 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_15 (F := Ideal) arg3 arg7 arg8 arg9 arg10 arg11 v5 X3 k f7 f8 f9 f10 f11) (trip_t1.sl.r_19 (F := Ideal) arg3 arg7 arg8 arg9 arg10 arg11 v5 X3 k f7 f8 f9 f10 f11) := rfl

theorem e_r_21 : (trip_t1.sl.r_21 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 1 := by
  rw [l_r_21, d_1]
  rfl

theorem e_r_22 : (trip_t1.sl.r_22 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 1 := by
  rw [l_r_22, e_r_12, e_r_13, c_1, d_1]
  rfl

theorem e_r_23 : (trip_t1.sl.r_23 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 1 := by
  rw [l_r_23, e_r_12, e_r_13, c_1, d_1]
  rfl

theorem l_r_26 : (trip_t1.sl.r_26 (F := Ideal) arg3 arg7 arg8 arg9 arg10 arg11 v5 X3 k f7 f8 f9 f10 f11)
    = k0_pay95 (trip_t1.sl.r_24 (F := Ideal) arg3 arg7 arg8 arg9 arg10 arg11 v5 X3 k f7 f8 f9 f10 f11) := pay102_eq _

theorem l_r_27 : (trip_t1.sl.r_27 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_20 (F := Ideal) arg3 arg7 arg8 arg9 arg10 arg11 v5 X3 k f7 f8 f9 f10 f11) (trip_t1.sl.r_24 (F := Ideal) arg3 arg7 arg8 arg9 arg10 arg11 v5 X3 k f7 f8 f9 f10 f11) := pay103_eq _ _ _ _ _

theorem l_r_28 : (trip_t1.sl.r_28 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_20 (F := Ideal) arg3 arg7 arg8 arg9 arg10 arg11 v5 X3 k f7 f8 f9 f10 f11) (trip_t1.sl.r_24 (F := Ideal) arg3 arg7 arg8 arg9 arg10 arg11 v5 X3 k f7 f8 f9 f10 f11) := pay104_eq _ _ _ _ _

theorem e_r_26 : (trip_t1.sl.r_26 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 2 := by
  rw [l_r_26, d_2]
  rfl

theorem e_r_27 : (trip_t1.sl.r_27 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 2 := by
  rw [l_r_27, e_r_12, e_r_13, c_2, d_2]
  rfl

theorem e_r_28 : (trip_t1.sl.r_28 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 2 := by
  rw [l_r_28, e_r_12, e_r_13, c_2, d_2]
  rfl

theorem l_r_31 : (trip_t1.sl.r_31 (F := Ideal) arg3 arg7 arg8 arg9 arg10 arg11 v5 X3 k f7 f8 f9 f10 f11)
    = k0_pay95 (trip_t1.sl.r_29 (F := Ideal) arg3 arg7 arg8 arg9 arg10 arg11 v5 X3 k f7 f8 f9 f10 f11) := pay109_eq _

theorem l_r_32 : (trip_t1.sl.r_32 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_25 (F := Ideal) arg3 arg7 arg8 arg9 arg10 arg11 v5 X3 k f7 f8 f9 f10 f11) (trip_t1.sl.r_29 (F := Ideal) arg3 arg7 arg8 arg9 arg10 arg11 v5 X3 k f7 f8 f9 f10 f11) := pay110_eq _ _ _ _ _

theorem l_r_33 : (trip_t1.sl.r_33 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_25 (F := Ideal) arg3 arg7 arg8 arg9 arg10 arg11 v5 X3 k f7 f8 f9 f10 f11) (trip_t1.sl.r_29 (F := Ideal) arg3 arg7 arg8 arg9 arg10 arg11 v5 X3 k f7 f8 f9 f10 f11) := pay111_eq _ _ _ _ _

theorem e_r_31 : (trip_t1.sl.r_31 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 3 := by
  rw [l_r_31, d_3]
  rfl

theorem e_r_32 : (trip_t1.sl.r_32 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 3 := by
  rw [l_r_32, e_r_12, e_r_13, c_3, d_3]
  rfl

theorem e_r_33 : (trip_t1.sl.r_33 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 3 := by
  rw [l_r_33, e_r_12, e_r_13, c_3, d_3]
  rfl

theorem l_r_36 : (trip_t1.sl.r_36 (F := Ideal) arg3 arg7 arg8 arg9 arg10 arg11 v5 X3 k f7 f8 f9 f10 f11)
    = k0_pay95 (trip_t1.sl.r_34 (F := Ideal) arg3 arg7 arg8 arg9 arg10 arg11 v5 X3 k f7 f8 f9 f10 f11) := pay116_eq _

theorem l_r_37 : (trip_t1.sl.r_37 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_30 (F := Ideal) arg3 arg7 arg8 arg9 arg10 arg11 v5 X3 k f7 f8 f9 f10 f11) (trip_t1.sl.r_34 (F := Ideal) arg3 arg7 arg8 arg9 arg10 arg11 v5 X3 k f7 f8 f9 f10 f11) := pay117_eq _ _ _ _ _

theorem l_r_38 : (trip_t1.sl.r_38 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_30 (F := Ideal) arg3 arg7 arg8 arg9 arg10 arg11 v5 X3 k f7 f8 f9 f10 f11) (trip_t1.sl.r_34 (F := Ideal) arg3 arg7 arg8 arg9 arg10 arg11 v5 X3 k f7 f8 f9 f10 f11) := pay118_eq _ _ _ _ _

theorem e_r_36 : (trip_t1.sl.r_36 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 4 := by
  rw [l_r_36, d_4]
  rfl

theorem e_r_37 : (trip_t1.sl.r_37 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 4 := by
  rw [l_r_37, e_r_12, e_r_13, c_4, d_4]
  rfl

theorem e_r_38 : (trip_t1.sl.r_38 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 4 := by
  rw [l_r_38, e_r_12, e_r_13, c_4, d_4]
  rfl

theorem l_r_41 : (trip_t1.sl.r_41 (F := Ideal) arg3 arg7 arg8 arg9 arg10 arg11 v5 X3 k f7 f8 f9 f10 f11)
    = k0_pay95 (trip_t1.sl.r_39 (F := Ideal) arg3 arg7 arg8 arg9 arg10 arg11 v5 X3 k f7 f8 f9 f10 f11) := pay123_eq _

theorem l_r_42 : (trip_t1.sl.r_42 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_35 (F := Ideal) arg3 arg7 arg8 arg9 arg10 arg11 v5 X3 k f7 f8 f9 f10 f11) (trip_t1.sl.r_39 (F := Ideal) arg3 arg7 arg8 arg9 arg10 arg11 v5 X3 k f7 f8 f9 f10 f11) := pay124_eq _ _ _ _ _

theorem l_r_43 : (trip_t1.sl.r_43 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_35 (F := Ideal) arg3 arg7 arg8 arg9 arg10 arg11 v5 X3 k f7 f8 f9 f10 f11) (trip_t1.sl.r_39 (F := Ideal) arg3 arg7 arg8 arg9 arg10 arg11 v5 X3 k f7 f8 f9 f10 f11) := pay125_eq _ _ _ _ _

theorem e_r_41 : (trip_t1.sl.r_41 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 5 := by
  rw [l_r_41, d_5]
  rfl

theorem e_r_42 : (trip_t1.sl.r_42 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 5 := by
  rw [l_r_42, e_r_12, e_r_13, c_5, d_5]
  rfl

theorem e_r_43 : (trip_t1.sl.r_43 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 5 := by
  rw [l_r_43, e_r_12, e_r_13, c_5, d_5]
  rfl

theorem l_r_46 : (trip_t1.sl.r_46 (F := Ideal) arg3 arg7 arg8 arg9 arg10 arg11 v5 X3 k f7 f8 f9 f10 f11)
    = k0_pay95 (trip_t1.sl.r_44 (F := Ideal) arg3 arg7 arg8 arg9 arg10 arg11 v5 X3 k f7 f8 f9 f10 f11) := pay130_eq _

theorem l_r_47 : (trip_t1.sl.r_47 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_40 (F := Ideal) arg3 arg7 arg8 arg9 arg10 arg11 v5 X3 k f7 f8 f9 f10 f11) (trip_t1.sl.r_44 (F := Ideal) arg3 arg7 arg8 arg9 arg10 arg11 v5 X3 k f7 f8 f9 f10 f11) := pay131_eq _ _ _ _ _

theorem l_r_48 : (trip_t1.sl.r_48 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_40 (F := Ideal) arg3 arg7 arg8 arg9 arg10 arg11 v5 X3 k f7 f8 f9 f10 f11) (trip_t1.sl.r_44 (F := Ideal) arg3 arg7 arg8 arg9 arg10 arg11 v5 X3 k f7 f8 f9 f10 f11) := pay132_eq _ _ _ _ _

theorem e_r_46 : (trip_t1.sl.r_46 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 6 := by
  rw [l_r_46, d_6]
  rfl

theorem e_r_47 : (trip_t1.sl.r_47 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 6 := by
  rw [l_r_47, e_r_12, e_r_13, c_6, d_6]
  rfl

theorem e_r_48 : (trip_t1.sl.r_48 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 6 := by
  rw [l_r_48, e_r_12, e_r_13, c_6, d_6]
  rfl

theorem l_r_51 : (trip_t1.sl.r_51 (F := Ideal) arg3 arg7 arg8 arg9 arg10 arg11 v5 X3 k f7 f8 f9 f10 f11)
    = k0_pay95 (trip_t1.sl.r_49 (F := Ideal) arg3 arg7 arg8 arg9 arg10 arg11 v5 X3 k f7 f8 f9 f10 f11) := pay137_eq _

theorem l_r_52 : (trip_t1.sl.r_52 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_45 (F := Ideal) arg3 arg7 arg8 arg9 arg10 arg11 v5 X3 k f7 f8 f9 f10 f11) (trip_t1.sl.r_49 (F := Ideal) arg3 arg7 arg8 arg9 arg10 arg11 v5 X3 k f7 f8 f9 f10 f11) := pay138_eq _ _ _ _ _

theorem l_r_53 : (trip_t1.sl.r_53 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_45 (F := Ideal) arg3 arg7 arg8 arg9 arg10 arg11 v5 X3 k f7 f8 f9 f10 f11) (trip_t1.sl.r_49 (F := Ideal) arg3 arg7 arg8 arg9 arg10 arg11 v5 X3 k f7 f8 f9 f10 f11) := pay139_eq _ _ _ _ _

theorem e_r_51 : (trip_t1.sl.r_51 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 7 := by
  rw [l_r_51, d_7]
  rfl

theorem e_r_52 : (trip_t1.sl.r_52 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 7 := by
  rw [l_r_52, e_r_12, e_r_13, c_7, d_7]
  rfl

theorem e_r_53 : (trip_t1.sl.r_53 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 7 := by
  rw [l_r_53, e_r_12, e_r_13, c_7, d_7]
  rfl

theorem l_r_56 : (trip_t1.sl.r_56 (F := Ideal) arg3 arg7 arg8 arg9 arg10 arg11 v5 X3 k f7 f8 f9 f10 f11)
    = k0_pay95 (trip_t1.sl.r_54 (F := Ideal) arg3 arg7 arg8 arg9 arg10 arg11 v5 X3 k f7 f8 f9 f10 f11) := pay144_eq _

theorem l_r_57 : (trip_t1.sl.r_57 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_50 (F := Ideal) arg3 arg7 arg8 arg9 arg10 arg11 v5 X3 k f7 f8 f9 f10 f11) (trip_t1.sl.r_54 (F := Ideal) arg3 arg7 arg8 arg9 arg10 arg11 v5 X3 k f7 f8 f9 f10 f11) := pay145_eq _ _ _ _ _

theorem l_r_58 : (trip_t1.sl.r_58 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_50 (F := Ideal) arg3 arg7 arg8 arg9 arg10 arg11 v5 X3 k f7 f8 f9 f10 f11) (trip_t1.sl.r_54 (F := Ideal) arg3 arg7 arg8 arg9 arg10 arg11 v5 X3 k f7 f8 f9 f10 f11) := pay146_eq _ _ _ _ _

theorem e_r_56 : (trip_t1.sl.r_56 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 8 := by
  rw [l_r_56, d_8]
  rfl

theorem e_r_57 : (trip_t1.sl.r_57 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 8 := by
  rw [l_r_57, e_r_12, e_r_13, c_8, d_8]
  rfl

theorem e_r_58 : (trip_t1.sl.r_58 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 8 := by
  rw [l_r_58, e_r_12, e_r_13, c_8, d_8]
  rfl

theorem l_v980 : (trip_t1.sl.v980 (F := Ideal) arg3 arg7 arg8 arg9 arg10 arg11 v5 X3 k f7 f8 f9 f10 f11)
    = k0_pay95 (trip_t1.sl.r_59 (F := Ideal) arg3 arg7 arg8 arg9 arg10 arg11 v5 X3 k f7 f8 f9 f10 f11) := rfl

theorem l_v984 : (trip_t1.sl.v984 (F := Ideal) arg3 arg7 arg8 arg9 arg10 arg11 v5 X3 k f7 f8 f9 f10 f11)
    = k0_pay96 (trip_t1.sl.r_12 (F := Ideal) arg8 arg10 arg11 v5 f8 f10 f11) (trip_t1.sl.r_13 (F := Ideal) arg9 arg10 arg11 v5 f9 f10 f11) (k0_pay83 v5) (trip_t1.sl.r_55 (F := Ideal) arg3 arg7 arg8 arg9 arg10 arg11 v5 X3 k f7 f8 f9 f10 f11) (trip_t1.sl.r_59 (F := Ideal) arg3 arg7 arg8 arg9 arg10 arg11 v5 X3 k f7 f8 f9 f10 f11) := rfl

theorem l_v988 : (trip_t1.sl.v988 (F := Ideal) arg3 arg7 arg8 arg9 arg10 arg11 v5 X3 k f7 f8 f9 f10 f11)
    = k0_pay97 (trip_t1.sl.r_12 (F := Ideal) arg8 arg10 arg11 v5 f8 f10 f11) (trip_t1.sl.r_13 (F := Ideal) arg9 arg10 arg11 v5 f9 f10 f11) (k0_pay83 v5) (trip_t1.sl.r_55 (F := Ideal) arg3 arg7 arg8 arg9 arg10 arg11 v5 X3 k f7 f8 f9 f10 f11) (trip_t1.sl.r_59 (F := Ideal) arg3 arg7 arg8 arg9 arg10 arg11 v5 X3 k f7 f8 f9 f10 f11) := rfl

theorem e_v980 : (trip_t1.sl.v980 (F := Ideal) arg3 arg7 arg8 arg9 arg10 arg11 v5 X3 k f7 f8 f9 f10 f11)
    = scoreR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 9 := by
  rw [l_v980, d_9]
  rfl

theorem e_v984 : (trip_t1.sl.v984 (F := Ideal) arg3 arg7 arg8 arg9 arg10 arg11 v5 X3 k f7 f8 f9 f10 f11)
    = parR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 9 := by
  rw [l_v984, e_r_12, e_r_13, c_9, d_9]
  rfl

theorem e_v988 : (trip_t1.sl.v988 (F := Ideal) arg3 arg7 arg8 arg9 arg10 arg11 v5 X3 k f7 f8 f9 f10 f11)
    = tokR v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) 9 := by
  rw [l_v988, e_r_12, e_r_13, c_9, d_9]
  rfl

theorem e_v989 : (trip_t1.sl.v989 (F := Ideal) arg3 arg7 arg8 arg9 arg10 arg11 v5 X3 k f7 f8 f9 f10 f11)
    = scoresV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) := by
  unfold trip_t1.sl.v989
  rw [e_r_16, e_r_21, e_r_26, e_r_31, e_r_36, e_r_41, e_r_46, e_r_51, e_r_56, e_v980]
  rfl

theorem e_v990 : (trip_t1.sl.v990 (F := Ideal) arg3 arg7 arg8 arg9 arg10 arg11 v5 X3 k f7 f8 f9 f10 f11)
    = parsV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) := by
  unfold trip_t1.sl.v990
  rw [e_r_17, e_r_22, e_r_27, e_r_32, e_r_37, e_r_42, e_r_47, e_r_52, e_r_57, e_v984]
  rfl

theorem e_v991 : (trip_t1.sl.v991 (F := Ideal) arg3 arg7 arg8 arg9 arg10 arg11 v5 X3 k f7 f8 f9 f10 f11)
    = toksV v5 (trip_t1.sl.r (F := Ideal) arg7 f7) (trip_t1.sl.r_1 (F := Ideal) arg8 f8) (trip_t1.sl.r_2 (F := Ideal) arg9 f9) (trip_t1.sl.r_3 (F := Ideal) arg10 f10) (trip_t1.sl.r_4 (F := Ideal) arg11 f11) (View.readAt (Elt Ideal) arg3.view (Rect.unit (s := S128x128x92) (k0_off1 k) S1x128x92.size (k0_off1_inb k)).toLoadRect X3) := by
  unfold trip_t1.sl.v991
  rw [e_r_18, e_r_23, e_r_28, e_r_33, e_r_38, e_r_43, e_r_48, e_r_53, e_r_58, e_v988]
  rfl

theorem e_v1163 : (trip_t1.sl.v1163 (F := Ideal) arg3 arg7 arg8 arg9 arg10 arg11 v5 X3 k f7 f8 f9 f10 f11)
    = gatherV (trip_t1.sl.v990 (F := Ideal) arg3 arg7 arg8 arg9 arg10 arg11 v5 X3 k f7 f8 f9 f10 f11) (trip_t1.sl.r_1 (F := Ideal) arg8 f8) := rfl

theorem e_v1167 : (trip_t1.sl.v1167 (F := Ideal) arg3 arg7 arg8 arg9 arg10 arg11 v5 X3 k f7 f8 f9 f10 f11)
    = gatherV (trip_t1.sl.v990 (F := Ideal) arg3 arg7 arg8 arg9 arg10 arg11 v5 X3 k f7 f8 f9 f10 f11) (trip_t1.sl.r_2 (F := Ideal) arg9 f9) := rfl

theorem e_v1171 : (trip_t1.sl.v1171 (F := Ideal) arg3 arg7 arg8 arg9 arg10 arg11 v5 X3 k f7 f8 f9 f10 f11)
    = gatherV (trip_t1.sl.v990 (F := Ideal) arg3 arg7 arg8 arg9 arg10 arg11 v5 X3 k f7 f8 f9 f10 f11) (trip_t1.sl.r_3 (F := Ideal) arg10 f10) := rfl

theorem e_v1175 : (trip_t1.sl.v1175 (F := Ideal) arg3 arg7 arg8 arg9 arg10 arg11 v5 X3 k f7 f8 f9 f10 f11)
    = gatherV (trip_t1.sl.v990 (F := Ideal) arg3 arg7 arg8 arg9 arg10 arg11 v5 X3 k f7 f8 f9 f10 f11) (trip_t1.sl.r_4 (F := Ideal) arg11 f11) := rfl

end

end Cert.Proof.KernelIdeal
-- ==== Proof.KernelIdeal.Next.lean ====
/-
  One trip of the kernel's frame loop: the new contents of the scratch buffers, as functions of the old ones.
-/
module

public import proofs.«01_k».proof.Proof.KernelIdeal.Ident
public import Idealize.ShloMosaic.Lib.VecWindow

@[expose] public section

set_option maxRecDepth 65536
set_option maxHeartbeats 400000

noncomputable section

namespace Cert.Proof.KernelIdeal

open Cert.KernelIdeal Cert.KernelIdeal.Gen
open Idealize.ShloMosaic Idealize.ShloMosaic.TcCoe
open Idealize.SL Idealize.SL.Sem
open Cert.Proof.Beam

section
variable (v5 : IVec S10x128x92 32) (sc : FVec Ideal S10x128 .f32) (h1 h2 lt ln : IVec S10x128 32)
  (P : FVec Ideal S1x128x92 .f32) (val : IVec S1x128 1)

def bvV : IVec S10x128 1 :=
  broadcastTo S10x128 (shapeCast S1x128 val shapeCasts_S1x128_S1x128) broadcasts_S1x128_S10x128

def nextSc : FVec Ideal S10x128 .f32 :=
  shapeCast S10x128 (select (bvV val) (scoresV v5 sc h1 h2 lt ln P) sc) shapeCasts_S10x128_S10x128

def apV : IVec S10x128 1 := cmpi .ne (toksV v5 sc h1 h2 lt ln P) (broadcast S10x128 91#32)

def nextH1 : IVec S10x128 32 :=
  shapeCast S10x128 (select (bvV val) (select (apV v5 sc h1 h2 lt ln P)
    (addi (addi (muli (gatherV (parsV v5 sc h1 h2 lt ln P) h1) (broadcast S10x128 1000003#32))
      (toksV v5 sc h1 h2 lt ln P)) (broadcast S10x128 1#32))
    (gatherV (parsV v5 sc h1 h2 lt ln P) h1)) h1) shapeCasts_S10x128_S10x128

def nextH2 : IVec S10x128 32 :=
  shapeCast S10x128 (select (bvV val) (select (apV v5 sc h1 h2 lt ln P)
    (addi (muli (gatherV (parsV v5 sc h1 h2 lt ln P) h2) (broadcast S10x128 2654435761#32))
      (muli (addi (toksV v5 sc h1 h2 lt ln P) (broadcast S10x128 1#32)) (broadcast S10x128 40503#32)))
    (gatherV (parsV v5 sc h1 h2 lt ln P) h2)) h2) shapeCasts_S10x128_S10x128

def nextLt : IVec S10x128 32 :=
  shapeCast S10x128 (select (bvV val) (select (apV v5 sc h1 h2 lt ln P) (toksV v5 sc h1 h2 lt ln P)
    (gatherV (parsV v5 sc h1 h2 lt ln P) lt)) lt) shapeCasts_S10x128_S10x128

def nextLn : IVec S10x128 32 :=
  shapeCast S10x128 (select (bvV val) (addi (gatherV (parsV v5 sc h1 h2 lt ln P) ln)
    (extui 32 (apV v5 sc h1 h2 lt ln P) natLt_1_32)) ln) shapeCasts_S10x128_S10x128

def rowBp (v6 : IVec S10x128 32) : IVec S10x128 32 :=
  k0_pay191 v6 (parsV v5 sc h1 h2 lt ln P) (toksV v5 sc h1 h2 lt ln P) val

end

/-- The lanes whose line has not ended at frame `k` of the block. -/
def valV (arg1 : BitVec 32) (v3 : Vec Ideal S1x1x128 .i32) (k : Fin k0_t1_loop.trips) : IVec S1x128 1 :=
  cmpi .slt (broadcast S1x128 (Scalar.addi (Scalar.muli arg1 128#32) (Scf.iv 0#32 1#32 ↑k))) (k0_pay6 v3)

section
variable (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec Ideal S1x1x128 .i32) (v5 : IVec S10x128x92 32) (v6 : IVec S10x128 32) (X3 : BufTy.Contents (Elt Ideal) arg3.view.ty) (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty)

theorem trip_nextSc : View.read (Elt Ideal) arg7.view (arg7.view.writes (Elt Ideal) f7
      ((trip_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 k).1 f7 f8 f9 f10 f11 f12))
    = nextSc v5 (View.read (Elt Ideal) arg7.view f7) (View.read (Elt Ideal) arg8.view f8) (View.read (Elt Ideal) arg9.view f9) (View.read (Elt Ideal) arg10.view f10) (View.read (Elt Ideal) arg11.view f11) (View.readAt (Elt Ideal) arg3.view (Rect.unit (s := S128x128x92) (k0_off1 k) S1x128x92.size (k0_off1_inb k)).toLoadRect X3) (valV arg1 v3 k) := by
  unfold trip_t1
  refine (View.read_writes_full arg7.view f7 _ _ []).trans ?_
  refine Eq.trans (b := shapeCast S10x128 (select (bvV (valV arg1 v3 k)) (trip_t1.sl.v989 (F := Ideal) arg3 arg7 arg8 arg9 arg10 arg11 v5 X3 k f7 f8 f9 f10 f11) (trip_t1.sl.r (F := Ideal) arg7 f7)) shapeCasts_S10x128_S10x128) rfl ?_
  rw [e_v989]
  have r0 : (trip_t1.sl.r (F := Ideal) arg7 f7) = View.read (Elt Ideal) arg7.view f7 :=
    View.readAt_full arg7.view f7 inb_S10x128_S10x128_0_0
  have r1 : (trip_t1.sl.r_1 (F := Ideal) arg8 f8) = View.read (Elt Ideal) arg8.view f8 :=
    View.readAt_full arg8.view f8 inb_S10x128_S10x128_0_0
  have r2 : (trip_t1.sl.r_2 (F := Ideal) arg9 f9) = View.read (Elt Ideal) arg9.view f9 :=
    View.readAt_full arg9.view f9 inb_S10x128_S10x128_0_0
  have r3 : (trip_t1.sl.r_3 (F := Ideal) arg10 f10) = View.read (Elt Ideal) arg10.view f10 :=
    View.readAt_full arg10.view f10 inb_S10x128_S10x128_0_0
  have r4 : (trip_t1.sl.r_4 (F := Ideal) arg11 f11) = View.read (Elt Ideal) arg11.view f11 :=
    View.readAt_full arg11.view f11 inb_S10x128_S10x128_0_0
  rw [r0, r1, r2, r3, r4]
  rfl

theorem trip_nextH1 : View.read (Elt Ideal) arg8.view (arg8.view.writes (Elt Ideal) f8
      ((trip_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 k).2.1 f7 f8 f9 f10 f11 f12))
    = nextH1 v5 (View.read (Elt Ideal) arg7.view f7) (View.read (Elt Ideal) arg8.view f8) (View.read (Elt Ideal) arg9.view f9) (View.read (Elt Ideal) arg10.view f10) (View.read (Elt Ideal) arg11.view f11) (View.readAt (Elt Ideal) arg3.view (Rect.unit (s := S128x128x92) (k0_off1 k) S1x128x92.size (k0_off1_inb k)).toLoadRect X3) (valV arg1 v3 k) := by
  unfold trip_t1
  refine (View.read_writes_full arg8.view f8 _ _ []).trans ?_
  refine Eq.trans (b := shapeCast S10x128 (select (bvV (valV arg1 v3 k)) (select (cmpi .ne (trip_t1.sl.v991 (F := Ideal) arg3 arg7 arg8 arg9 arg10 arg11 v5 X3 k f7 f8 f9 f10 f11) (broadcast S10x128 91#32)) (addi (addi (muli (trip_t1.sl.v1163 (F := Ideal) arg3 arg7 arg8 arg9 arg10 arg11 v5 X3 k f7 f8 f9 f10 f11) (broadcast S10x128 1000003#32)) (trip_t1.sl.v991 (F := Ideal) arg3 arg7 arg8 arg9 arg10 arg11 v5 X3 k f7 f8 f9 f10 f11)) (broadcast S10x128 1#32)) (trip_t1.sl.v1163 (F := Ideal) arg3 arg7 arg8 arg9 arg10 arg11 v5 X3 k f7 f8 f9 f10 f11)) (trip_t1.sl.r_1 (F := Ideal) arg8 f8)) shapeCasts_S10x128_S10x128) rfl ?_
  rw [e_v1163, e_v990, e_v991]
  have r0 : (trip_t1.sl.r (F := Ideal) arg7 f7) = View.read (Elt Ideal) arg7.view f7 :=
    View.readAt_full arg7.view f7 inb_S10x128_S10x128_0_0
  have r1 : (trip_t1.sl.r_1 (F := Ideal) arg8 f8) = View.read (Elt Ideal) arg8.view f8 :=
    View.readAt_full arg8.view f8 inb_S10x128_S10x128_0_0
  have r2 : (trip_t1.sl.r_2 (F := Ideal) arg9 f9) = View.read (Elt Ideal) arg9.view f9 :=
    View.readAt_full arg9.view f9 inb_S10x128_S10x128_0_0
  have r3 : (trip_t1.sl.r_3 (F := Ideal) arg10 f10) = View.read (Elt Ideal) arg10.view f10 :=
    View.readAt_full arg10.view f10 inb_S10x128_S10x128_0_0
  have r4 : (trip_t1.sl.r_4 (F := Ideal) arg11 f11) = View.read (Elt Ideal) arg11.view f11 :=
    View.readAt_full arg11.view f11 inb_S10x128_S10x128_0_0
  rw [r0, r1, r2, r3, r4]
  rfl

theorem trip_nextH2 : View.read (Elt Ideal) arg9.view (arg9.view.writes (Elt Ideal) f9
      ((trip_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 k).2.2.1 f7 f8 f9 f10 f11 f12))
    = nextH2 v5 (View.read (Elt Ideal) arg7.view f7) (View.read (Elt Ideal) arg8.view f8) (View.read (Elt Ideal) arg9.view f9) (View.read (Elt Ideal) arg10.view f10) (View.read (Elt Ideal) arg11.view f11) (View.readAt (Elt Ideal) arg3.view (Rect.unit (s := S128x128x92) (k0_off1 k) S1x128x92.size (k0_off1_inb k)).toLoadRect X3) (valV arg1 v3 k) := by
  unfold trip_t1
  refine (View.read_writes_full arg9.view f9 _ _ []).trans ?_
  refine Eq.trans (b := shapeCast S10x128 (select (bvV (valV arg1 v3 k)) (select (cmpi .ne (trip_t1.sl.v991 (F := Ideal) arg3 arg7 arg8 arg9 arg10 arg11 v5 X3 k f7 f8 f9 f10 f11) (broadcast S10x128 91#32)) (addi (muli (trip_t1.sl.v1167 (F := Ideal) arg3 arg7 arg8 arg9 arg10 arg11 v5 X3 k f7 f8 f9 f10 f11) (broadcast S10x128 2654435761#32)) (muli (addi (trip_t1.sl.v991 (F := Ideal) arg3 arg7 arg8 arg9 arg10 arg11 v5 X3 k f7 f8 f9 f10 f11) (broadcast S10x128 1#32)) (broadcast S10x128 40503#32))) (trip_t1.sl.v1167 (F := Ideal) arg3 arg7 arg8 arg9 arg10 arg11 v5 X3 k f7 f8 f9 f10 f11)) (trip_t1.sl.r_2 (F := Ideal) arg9 f9)) shapeCasts_S10x128_S10x128) rfl ?_
  rw [e_v1167, e_v990, e_v991]
  have r0 : (trip_t1.sl.r (F := Ideal) arg7 f7) = View.read (Elt Ideal) arg7.view f7 :=
    View.readAt_full arg7.view f7 inb_S10x128_S10x128_0_0
  have r1 : (trip_t1.sl.r_1 (F := Ideal) arg8 f8) = View.read (Elt Ideal) arg8.view f8 :=
    View.readAt_full arg8.view f8 inb_S10x128_S10x128_0_0
  have r2 : (trip_t1.sl.r_2 (F := Ideal) arg9 f9) = View.read (Elt Ideal) arg9.view f9 :=
    View.readAt_full arg9.view f9 inb_S10x128_S10x128_0_0
  have r3 : (trip_t1.sl.r_3 (F := Ideal) arg10 f10) = View.read (Elt Ideal) arg10.view f10 :=
    View.readAt_full arg10.view f10 inb_S10x128_S10x128_0_0
  have r4 : (trip_t1.sl.r_4 (F := Ideal) arg11 f11) = View.read (Elt Ideal) arg11.view f11 :=
    View.readAt_full arg11.view f11 inb_S10x128_S10x128_0_0
  rw [r0, r1, r2, r3, r4]
  rfl

theorem trip_nextLt : View.read (Elt Ideal) arg10.view (arg10.view.writes (Elt Ideal) f10
      ((trip_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 k).2.2.2.1 f7 f8 f9 f10 f11 f12))
    = nextLt v5 (View.read (Elt Ideal) arg7.view f7) (View.read (Elt Ideal) arg8.view f8) (View.read (Elt Ideal) arg9.view f9) (View.read (Elt Ideal) arg10.view f10) (View.read (Elt Ideal) arg11.view f11) (View.readAt (Elt Ideal) arg3.view (Rect.unit (s := S128x128x92) (k0_off1 k) S1x128x92.size (k0_off1_inb k)).toLoadRect X3) (valV arg1 v3 k) := by
  unfold trip_t1
  refine (View.read_writes_full arg10.view f10 _ _ []).trans ?_
  refine Eq.trans (b := shapeCast S10x128 (select (bvV (valV arg1 v3 k)) (select (cmpi .ne (trip_t1.sl.v991 (F := Ideal) arg3 arg7 arg8 arg9 arg10 arg11 v5 X3 k f7 f8 f9 f10 f11) (broadcast S10x128 91#32)) (trip_t1.sl.v991 (F := Ideal) arg3 arg7 arg8 arg9 arg10 arg11 v5 X3 k f7 f8 f9 f10 f11) (trip_t1.sl.v1171 (F := Ideal) arg3 arg7 arg8 arg9 arg10 arg11 v5 X3 k f7 f8 f9 f10 f11)) (trip_t1.sl.r_3 (F := Ideal) arg10 f10)) shapeCasts_S10x128_S10x128) rfl ?_
  rw [e_v1171, e_v990, e_v991]
  have r0 : (trip_t1.sl.r (F := Ideal) arg7 f7) = View.read (Elt Ideal) arg7.view f7 :=
    View.readAt_full arg7.view f7 inb_S10x128_S10x128_0_0
  have r1 : (trip_t1.sl.r_1 (F := Ideal) arg8 f8) = View.read (Elt Ideal) arg8.view f8 :=
    View.readAt_full arg8.view f8 inb_S10x128_S10x128_0_0
  have r2 : (trip_t1.sl.r_2 (F := Ideal) arg9 f9) = View.read (Elt Ideal) arg9.view f9 :=
    View.readAt_full arg9.view f9 inb_S10x128_S10x128_0_0
  have r3 : (trip_t1.sl.r_3 (F := Ideal) arg10 f10) = View.read (Elt Ideal) arg10.view f10 :=
    View.readAt_full arg10.view f10 inb_S10x128_S10x128_0_0
  have r4 : (trip_t1.sl.r_4 (F := Ideal) arg11 f11) = View.read (Elt Ideal) arg11.view f11 :=
    View.readAt_full arg11.view f11 inb_S10x128_S10x128_0_0
  rw [r0, r1, r2, r3, r4]
  rfl

theorem trip_nextLn : View.read (Elt Ideal) arg11.view (arg11.view.writes (Elt Ideal) f11
      ((trip_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 k).2.2.2.2.1 f7 f8 f9 f10 f11 f12))
    = nextLn v5 (View.read (Elt Ideal) arg7.view f7) (View.read (Elt Ideal) arg8.view f8) (View.read (Elt Ideal) arg9.view f9) (View.read (Elt Ideal) arg10.view f10) (View.read (Elt Ideal) arg11.view f11) (View.readAt (Elt Ideal) arg3.view (Rect.unit (s := S128x128x92) (k0_off1 k) S1x128x92.size (k0_off1_inb k)).toLoadRect X3) (valV arg1 v3 k) := by
  unfold trip_t1
  refine (View.read_writes_full arg11.view f11 _ _ []).trans ?_
  refine Eq.trans (b := shapeCast S10x128 (select (bvV (valV arg1 v3 k)) (addi (trip_t1.sl.v1175 (F := Ideal) arg3 arg7 arg8 arg9 arg10 arg11 v5 X3 k f7 f8 f9 f10 f11) (extui 32 (cmpi .ne (trip_t1.sl.v991 (F := Ideal) arg3 arg7 arg8 arg9 arg10 arg11 v5 X3 k f7 f8 f9 f10 f11) (broadcast S10x128 91#32)) natLt_1_32)) (trip_t1.sl.r_4 (F := Ideal) arg11 f11)) shapeCasts_S10x128_S10x128) rfl ?_
  rw [e_v1175, e_v990, e_v991]
  have r0 : (trip_t1.sl.r (F := Ideal) arg7 f7) = View.read (Elt Ideal) arg7.view f7 :=
    View.readAt_full arg7.view f7 inb_S10x128_S10x128_0_0
  have r1 : (trip_t1.sl.r_1 (F := Ideal) arg8 f8) = View.read (Elt Ideal) arg8.view f8 :=
    View.readAt_full arg8.view f8 inb_S10x128_S10x128_0_0
  have r2 : (trip_t1.sl.r_2 (F := Ideal) arg9 f9) = View.read (Elt Ideal) arg9.view f9 :=
    View.readAt_full arg9.view f9 inb_S10x128_S10x128_0_0
  have r3 : (trip_t1.sl.r_3 (F := Ideal) arg10 f10) = View.read (Elt Ideal) arg10.view f10 :=
    View.readAt_full arg10.view f10 inb_S10x128_S10x128_0_0
  have r4 : (trip_t1.sl.r_4 (F := Ideal) arg11 f11) = View.read (Elt Ideal) arg11.view f11 :=
    View.readAt_full arg11.view f11 inb_S10x128_S10x128_0_0
  rw [r0, r1, r2, r3, r4]
  rfl

theorem trip_bp : View.read (Elt Ideal) arg12.view (arg12.view.writes (Elt Ideal) f12
      ((trip_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 k).2.2.2.2.2.1 f7 f8 f9 f10 f11 f12))
    = VecWindow.put (View.read (Elt Ideal) arg12.view f12) (k0_off2 i k) ![1, 10, 128]
      (k0_pay7 (rowBp v5 (View.read (Elt Ideal) arg7.view f7) (View.read (Elt Ideal) arg8.view f8) (View.read (Elt Ideal) arg9.view f9) (View.read (Elt Ideal) arg10.view f10) (View.read (Elt Ideal) arg11.view f11) (View.readAt (Elt Ideal) arg3.view (Rect.unit (s := S128x128x92) (k0_off1 k) S1x128x92.size (k0_off1_inb k)).toLoadRect X3) (valV arg1 v3 k) v6)) := by
  unfold trip_t1
  refine (View.read_writes_cons_put arg12.view f12 _ _ [] rfl).trans ?_
  refine Eq.trans (b := VecWindow.put (View.read (Elt Ideal) arg12.view f12) (k0_off2 i k) ![1, 10, 128] (k0_pay7 (k0_pay191 v6 (trip_t1.sl.v990 (F := Ideal) arg3 arg7 arg8 arg9 arg10 arg11 v5 X3 k f7 f8 f9 f10 f11) (trip_t1.sl.v991 (F := Ideal) arg3 arg7 arg8 arg9 arg10 arg11 v5 X3 k f7 f8 f9 f10 f11) (valV arg1 v3 k)))) rfl ?_
  rw [e_v990, e_v991]
  have r0 : (trip_t1.sl.r (F := Ideal) arg7 f7) = View.read (Elt Ideal) arg7.view f7 :=
    View.readAt_full arg7.view f7 inb_S10x128_S10x128_0_0
  have r1 : (trip_t1.sl.r_1 (F := Ideal) arg8 f8) = View.read (Elt Ideal) arg8.view f8 :=
    View.readAt_full arg8.view f8 inb_S10x128_S10x128_0_0
  have r2 : (trip_t1.sl.r_2 (F := Ideal) arg9 f9) = View.read (Elt Ideal) arg9.view f9 :=
    View.readAt_full arg9.view f9 inb_S10x128_S10x128_0_0
  have r3 : (trip_t1.sl.r_3 (F := Ideal) arg10 f10) = View.read (Elt Ideal) arg10.view f10 :=
    View.readAt_full arg10.view f10 inb_S10x128_S10x128_0_0
  have r4 : (trip_t1.sl.r_4 (F := Ideal) arg11 f11) = View.read (Elt Ideal) arg11.view f11 :=
    View.readAt_full arg11.view f11 inb_S10x128_S10x128_0_0
  rw [r0, r1, r2, r3, r4]
  rfl

end

end Cert.Proof.KernelIdeal
-- ==== Proof.Beam.Run.lean ====
/-
  The beam search over the frames of ONE batch row: the hypotheses after `t` frames, the words of their sequences, the
  back-pointers, and the walk back over the back-pointers, which recovers the words of the first hypothesis.
-/
module

public import proofs.«01_k».proof.Proof.Beam.Pick

@[expose] public section

noncomputable section

namespace Cert.Proof.Beam

open Idealize.ShloMosaic

/-- The hypotheses before the first frame: the empty one, and nine that are dead. -/
def start : Row where
  sc i := if i = 0 then 0 else ⊥
  h1 _ := 1#32
  h2 _ := 1#32
  lt _ := 0#32
  ln _ := 0#32

/-- One frame, for a line that has not ended (`v`) or has. -/
def vstep (v : Bool) (S : Row) (lp : Fin 92 → EReal) : Row := if v then step S lp else S

variable (lps : ℕ → Fin 92 → EReal) (v : ℕ → Bool)

/-- The hypotheses after `t` frames. -/
def rowAt : ℕ → Row
  | 0 => start
  | t + 1 => vstep (v t) (rowAt t) (lps t)

/-- The word at position `p` of hypothesis `k` after `t` frames. -/
def seqAt : ℕ → Fin 10 → ℕ → BitVec 32
  | 0, _, _ => 0#32
  | t + 1, k, p =>
    if v t then
      if tok (rowAt lps v t) (lps t) k ≠ 91 ∧ p = ((rowAt lps v t).ln (par (rowAt lps v t) (lps t) k)).toNat then
        ch (tok (rowAt lps v t) (lps t) k)
      else seqAt t (par (rowAt lps v t) (lps t) k) p
    else seqAt t k p

/-- The parent of hypothesis `k` over frame `t`. -/
def parAt (t : ℕ) (k : Fin 10) : Fin 10 := if v t then par (rowAt lps v t) (lps t) k else k

/-- The character hypothesis `k` takes in frame `t`; the blank for none. -/
def tokAt (t : ℕ) (k : Fin 10) : Fin 92 := if v t then tok (rowAt lps v t) (lps t) k else 91

/-- The back-pointer of hypothesis `k` over frame `t`. -/
def ptrAt (t : ℕ) (k : Fin 10) : BitVec 32 := fid (parAt lps v t k) (tokAt lps v t k)

theorem seqAt_succ (t : ℕ) (k : Fin 10) (p : ℕ) : seqAt lps v (t + 1) k p
    = if tokAt lps v t k ≠ 91 ∧ p = ((rowAt lps v t).ln (parAt lps v t k)).toNat then ch (tokAt lps v t k)
      else seqAt lps v t (parAt lps v t k) p := by
  conv_lhs => unfold seqAt
  unfold tokAt parAt
  cases v t <;> simp

theorem rowAt_ln_succ (t : ℕ) (k : Fin 10) : (rowAt lps v (t + 1)).ln k
    = (rowAt lps v t).ln (parAt lps v t k) + (if tokAt lps v t k = 91 then 0#32 else 1#32) := by
  show (vstep (v t) (rowAt lps v t) (lps t)).ln k = _
  unfold vstep tokAt parAt
  cases v t
  · simp
  · rfl

theorem rowAt_lt_succ (t : ℕ) (k : Fin 10) : (rowAt lps v (t + 1)).lt k
    = if tokAt lps v t k = 91 then (rowAt lps v t).lt (parAt lps v t k) else ch (tokAt lps v t k) := by
  show (vstep (v t) (rowAt lps v t) (lps t)).lt k = _
  unfold vstep tokAt parAt
  cases v t
  · simp
  · rfl

theorem rowAt_ln_le (t : ℕ) (ht : t ≤ 1024) (k : Fin 10) : ((rowAt lps v t).ln k).toNat ≤ t := by
  induction t generalizing k with
  | zero => exact Nat.le_of_eq rfl
  | succ t ih =>
    rw [rowAt_ln_succ]
    have h := ih (by omega) (parAt lps v t k)
    split
    · rw [BitVec.add_zero]; omega
    · rw [BitVec.toNat_add, show (1#32).toNat = 1 from rfl]; omega

theorem rowAt_ln_nonneg (t : ℕ) (ht : t ≤ 1024) (k : Fin 10) : 0 ≤ ((rowAt lps v t).ln k).toInt := by
  have h := rowAt_ln_le lps v t ht k
  rw [BitVec.toInt_eq_toNat_of_lt (by omega)]
  omega

/-- The length after a frame, as a number. -/
theorem rowAt_ln_toNat (t : ℕ) (ht : t < 1024) (k : Fin 10) : ((rowAt lps v (t + 1)).ln k).toNat
    = ((rowAt lps v t).ln (parAt lps v t k)).toNat + (if tokAt lps v t k = 91 then 0 else 1) := by
  have h := rowAt_ln_le lps v t (by omega) (parAt lps v t k)
  rw [rowAt_ln_succ]
  split
  · rw [BitVec.add_zero]; rfl
  · rw [BitVec.toNat_add, show (1#32).toNat = 1 from rfl]; omega

/-- The last token is the word at the last position. -/
theorem rowAt_lt (t : ℕ) (ht : t ≤ 1024) (k : Fin 10) :
    (rowAt lps v t).lt k = seqAt lps v t k (((rowAt lps v t).ln k).toNat - 1) := by
  induction t generalizing k with
  | zero => rfl
  | succ t ih =>
    rw [rowAt_lt_succ, seqAt_succ, rowAt_ln_toNat lps v t (by omega)]
    by_cases h : tokAt lps v t k = 91
    · rw [if_pos h, if_neg (fun e => e.1 h), if_pos h, ih (by omega)]; rfl
    · rw [if_neg h, if_neg h, if_pos ⟨h, by omega⟩]

theorem rowAt_sc_alive (hlp : ∀ t c, lps t c ≠ ⊥) (t : ℕ) : (rowAt lps v t).sc 0 ≠ ⊥ := by
  induction t with
  | zero => exact EReal.zero_ne_bot
  | succ t ih =>
    show (vstep (v t) (rowAt lps v t) (lps t)).sc 0 ≠ _
    unfold vstep
    cases v t
    · exact ih
    · exact step_sc_alive _ _ ih (hlp t) 0

theorem rowAt_sc_sorted (t : ℕ) (k : Fin 10) : (rowAt lps v t).sc k ≤ (rowAt lps v t).sc 0 := by
  induction t with
  | zero =>
    show (if k = 0 then (0 : EReal) else ⊥) ≤ 0
    split
    · exact le_refl _
    · exact bot_le
  | succ t ih =>
    show (vstep (v t) (rowAt lps v t) (lps t)).sc k ≤ (vstep (v t) (rowAt lps v t) (lps t)).sc 0
    unfold vstep
    cases v t
    · exact ih
    · exact step_sc_sorted _ _ k

/-! ## The walk back -/

/-- What the walk back carries: the hypothesis, the position, and the words found. -/
structure Walk where
  k : Fin 10
  pos : BitVec 32
  wd : ℕ → BitVec 32

/-- The walk over the last `n` of 1024 frames. -/
def walk : ℕ → Walk
  | 0 => ⟨0, (rowAt lps v 1024).ln 0, fun _ => 4294967295#32⟩
  | n + 1 =>
    let w := walk n
    let c := tokAt lps v (1023 - n) w.k
    let q := w.pos - (if c = 91 then 0#32 else 1#32)
    ⟨parAt lps v (1023 - n) w.k, q, fun p => if c ≠ 91 ∧ BitVec.ofNat 32 p = q then ch c else w.wd p⟩

theorem walk_inv (n : ℕ) (hn : n ≤ 1024) :
    (walk lps v n).pos = (rowAt lps v (1024 - n)).ln (walk lps v n).k
    ∧ ((rowAt lps v (1024 - n)).ln (walk lps v n).k).toNat ≤ ((rowAt lps v 1024).ln 0).toNat
    ∧ (∀ p, p < ((rowAt lps v (1024 - n)).ln (walk lps v n).k).toNat →
        seqAt lps v (1024 - n) (walk lps v n).k p = seqAt lps v 1024 0 p)
    ∧ ∀ p, p < 1024 → (walk lps v n).wd p
        = if ((rowAt lps v (1024 - n)).ln (walk lps v n).k).toNat ≤ p ∧ p < ((rowAt lps v 1024).ln 0).toNat then
            seqAt lps v 1024 0 p else 4294967295#32 := by
  induction n with
  | zero =>
    refine ⟨rfl, Nat.le_refl _, fun _ _ => rfl, fun p _ => ?_⟩
    rw [if_neg]
    · rfl
    · intro h
      exact Nat.lt_irrefl _ (Nat.lt_of_le_of_lt h.1 h.2)
  | succ n ih =>
    obtain ⟨i1, i2, i3, i4⟩ := ih (by omega)
    obtain ⟨t, ht⟩ : ∃ t, t = 1023 - n := ⟨_, rfl⟩
    rw [show 1024 - n = t + 1 from by omega] at i1 i2 i3 i4
    rw [show 1024 - (n + 1) = t from by omega]
    have hk : (walk lps v (n + 1)).k = parAt lps v t (walk lps v n).k := by rw [ht]; rfl
    have hp : (walk lps v (n + 1)).pos
        = (walk lps v n).pos - (if tokAt lps v t (walk lps v n).k = 91 then 0#32 else 1#32) := by rw [ht]; rfl
    have hw : ∀ p, (walk lps v (n + 1)).wd p
        = if tokAt lps v t (walk lps v n).k ≠ 91 ∧ BitVec.ofNat 32 p
              = (walk lps v n).pos - (if tokAt lps v t (walk lps v n).k = 91 then 0#32 else 1#32) then
            ch (tokAt lps v t (walk lps v n).k) else (walk lps v n).wd p := by rw [ht]; exact fun _ => rfl
    generalize walk lps v n = w at *
    have hl := rowAt_ln_toNat lps v t (by omega) w.k
    have hle := rowAt_ln_le lps v t (by omega) (parAt lps v t w.k)
    have hpos : w.pos - (if tokAt lps v t w.k = 91 then 0#32 else 1#32) = (rowAt lps v t).ln (parAt lps v t w.k) := by
      rw [i1, rowAt_ln_succ, BitVec.add_sub_cancel]
    rw [hpos] at hp hw
    rw [hk]
    have hs := seqAt_succ lps v t w.k
    refine ⟨hp, by omega, fun p hp => ?_, fun p hp => ?_⟩
    · rw [← i3 p (by omega), hs, if_neg]
      intro e
      omega
    · rw [hw, i4 p hp]
      have hof : BitVec.ofNat 32 p = (rowAt lps v t).ln (parAt lps v t w.k)
          ↔ p = ((rowAt lps v t).ln (parAt lps v t w.k)).toNat := by
        constructor
        · intro e; rw [← e, BitVec.toNat_ofNat]; omega
        · intro e; rw [e, BitVec.ofNat_toNat, BitVec.setWidth_eq]
      by_cases h : tokAt lps v t w.k = 91
      · rw [if_neg (fun e => e.1 h), hl, if_pos h]; rfl
      · rw [if_neg h] at hl
        by_cases e : p = ((rowAt lps v t).ln (parAt lps v t w.k)).toNat
        · rw [if_pos ⟨h, hof.mpr e⟩, if_pos ⟨by omega, by omega⟩, ← i3 p (by omega), hs, if_pos ⟨h, e⟩]
        · rw [if_neg (fun x => e (hof.mp x.2))]
          congr 1
          apply propext
          omega

/-- The walk over all frames finds the words of the first hypothesis, up to its length. -/
theorem walk_end (p : ℕ) (hp : p < 1024) : (walk lps v 1024).wd p
    = if p < ((rowAt lps v 1024).ln 0).toNat then seqAt lps v 1024 0 p else 4294967295#32 := by
  have h := (walk_inv lps v 1024 (le_refl _)).2.2.2 p hp
  rw [h]
  congr 1
  apply propext
  exact ⟨fun e => e.2, fun e => ⟨Nat.zero_le _, e⟩⟩

end Cert.Proof.Beam

end
-- ==== Proof.KernelIdeal.Lanes.lean ====
/-
  One trip of the kernel's frame loop read lane by lane: a lane whose line has not ended makes one frame of the beam
  search, the others stay; and the row of back-pointers the trip stores.
-/
module

public import proofs.«01_k».proof.Proof.KernelIdeal.Next
public import proofs.«01_k».proof.Proof.Beam.Run

@[expose] public section

set_option maxHeartbeats 1000000

noncomputable section

namespace Cert.Proof.KernelIdeal

open Cert.KernelIdeal Cert.KernelIdeal.Gen
open Idealize.ShloMosaic Idealize.ShloMosaic.TcCoe
open Cert.Proof.Beam

section
variable (v5 : IVec S10x128x92 32) (sc : FVec Ideal S10x128 .f32) (h1 h2 lt ln : IVec S10x128 32)
  (P : FVec Ideal S1x128x92 .f32) (val : IVec S1x128 1) (b : Fin 128)

theorem nextSc_apply (k : Fin 10) : nextSc v5 sc h1 h2 lt ln P val (ix2 k b)
    = Scalar.select (val (ix2 0 b)) (scoresV v5 sc h1 h2 lt ln P (ix2 k b)) (sc (ix2 k b)) := by
  pointwise [nextSc, bvV]

theorem apV_apply (k : Fin 10) : apV v5 sc h1 h2 lt ln P (ix2 k b)
    = IntOp.cmpi .ne (toksV v5 sc h1 h2 lt ln P (ix2 k b)) 91#32 := by
  pointwise [apV]

theorem nextH1_apply (k : Fin 10) : nextH1 v5 sc h1 h2 lt ln P val (ix2 k b)
    = Scalar.select (val (ix2 0 b)) (Scalar.select (apV v5 sc h1 h2 lt ln P (ix2 k b))
        (gatherV (parsV v5 sc h1 h2 lt ln P) h1 (ix2 k b) * 1000003#32 + toksV v5 sc h1 h2 lt ln P (ix2 k b) + 1#32)
        (gatherV (parsV v5 sc h1 h2 lt ln P) h1 (ix2 k b))) (h1 (ix2 k b)) := by
  pointwise [nextH1, bvV]
  rfl

theorem nextH2_apply (k : Fin 10) : nextH2 v5 sc h1 h2 lt ln P val (ix2 k b)
    = Scalar.select (val (ix2 0 b)) (Scalar.select (apV v5 sc h1 h2 lt ln P (ix2 k b))
        (gatherV (parsV v5 sc h1 h2 lt ln P) h2 (ix2 k b) * 2654435761#32
          + (toksV v5 sc h1 h2 lt ln P (ix2 k b) + 1#32) * 40503#32)
        (gatherV (parsV v5 sc h1 h2 lt ln P) h2 (ix2 k b))) (h2 (ix2 k b)) := by
  pointwise [nextH2, bvV]
  rfl

theorem nextLt_apply (k : Fin 10) : nextLt v5 sc h1 h2 lt ln P val (ix2 k b)
    = Scalar.select (val (ix2 0 b)) (Scalar.select (apV v5 sc h1 h2 lt ln P (ix2 k b))
        (toksV v5 sc h1 h2 lt ln P (ix2 k b))
        (gatherV (parsV v5 sc h1 h2 lt ln P) lt (ix2 k b))) (lt (ix2 k b)) := by
  pointwise [nextLt, bvV]

theorem nextLn_apply (k : Fin 10) : nextLn v5 sc h1 h2 lt ln P val (ix2 k b)
    = Scalar.select (val (ix2 0 b)) (gatherV (parsV v5 sc h1 h2 lt ln P) ln (ix2 k b)
        + (apV v5 sc h1 h2 lt ln P (ix2 k b)).setWidth 32) (ln (ix2 k b)) := by
  pointwise [nextLn, bvV]
  rfl

theorem rowBp_apply (v6 : IVec S10x128 32) (k : Fin 10) : rowBp v5 sc h1 h2 lt ln P val v6 (ix2 k b)
    = Scalar.select (val (ix2 0 b))
        (parsV v5 sc h1 h2 lt ln P (ix2 k b) <<< (7 : ℕ) ||| toksV v5 sc h1 h2 lt ln P (ix2 k b))
        (v6 (ix2 k b) <<< (7 : ℕ) ||| 91#32) := by
  pointwise [rowBp, k0_pay191]
  rfl

variable (hv5 : ∀ i b c, v5 (ix3 i b c) = ch c) (hln : ∀ i, 0 ≤ (ln (ix2 i b)).toInt)
  (h0 : sc (ix2 0 b) ≠ ⊥) (hlp : ∀ c, P (ix3 0 b c) ≠ ⊥) (v : Bool) (hval : val (ix2 0 b) = BitVec.ofBool v)
include hv5 hln h0 hlp hval

theorem lane_next : lane (nextSc v5 sc h1 h2 lt ln P val) (nextH1 v5 sc h1 h2 lt ln P val)
      (nextH2 v5 sc h1 h2 lt ln P val) (nextLt v5 sc h1 h2 lt ln P val) (nextLn v5 sc h1 h2 lt ln P val) b
    = vstep v (lane sc h1 h2 lt ln b) (prob P b) := by
  have hs := scoresV_apply v5 sc h1 h2 lt ln P b hv5 hln h0 hlp
  have hp := parsV_apply v5 sc h1 h2 lt ln P b hv5 hln h0 hlp
  have ht := toksV_apply v5 sc h1 h2 lt ln P b hv5 hln h0 hlp
  have ha : ∀ k, apV v5 sc h1 h2 lt ln P (ix2 k b)
      = BitVec.ofBool (tok (lane sc h1 h2 lt ln b) (prob P b) k ≠ 91) := fun k => by
    rw [apV_apply, ht k, cmpi_ne_ofBool]
    simp only [ne_eq, ch_eq_91]
  have hg := fun (x : IVec S10x128 32) k => gatherV_apply b (parsV v5 sc h1 h2 lt ln P) x k _ (hp k)
  have happ : ∀ k, tok (lane sc h1 h2 lt ln b) (prob P b) k ≠ 91 →
      app (lane sc h1 h2 lt ln b) (par (lane sc h1 h2 lt ln b) (prob P b) k) (tok (lane sc h1 h2 lt ln b) (prob P b) k) :=
    fun k h => app_of_alive _ _ (pick_alive _ _ h0 hlp k) h
  have hnapp : ∀ k, tok (lane sc h1 h2 lt ln b) (prob P b) k = 91 →
      ¬ app (lane sc h1 h2 lt ln b) (par (lane sc h1 h2 lt ln b) (prob P b) k) (tok (lane sc h1 h2 lt ln b) (prob P b) k) :=
    fun k h ha => ha.1 h
  unfold vstep
  cases v
  · simp only [Bool.false_eq_true, if_false]
    unfold lane
    congr 1 <;> funext k
    · rw [nextSc_apply, hval]; rfl
    · rw [nextH1_apply, hval]; rfl
    · rw [nextH2_apply, hval]; rfl
    · rw [nextLt_apply, hval]; rfl
    · rw [nextLn_apply, hval]; rfl
  · simp only [if_true]
    conv_lhs => unfold lane
    conv_rhs => unfold step
    congr 1 <;> funext k
    · rw [nextSc_apply, hval, hs k]; rfl
    · rw [nextH1_apply, hval, ha k, hg, ht k]
      by_cases h : tok (lane sc h1 h2 lt ln b) (prob P b) k = 91
      · unfold k1; rw [if_neg (hnapp k h)]; simp only [h]; rfl
      · unfold k1; rw [if_pos (happ k h)]; simp only [h, ne_eq, not_false_eq_true, decide_true]
        exact BitVec.add_assoc _ _ _
    · rw [nextH2_apply, hval, ha k, hg, ht k]
      by_cases h : tok (lane sc h1 h2 lt ln b) (prob P b) k = 91
      · unfold k2; rw [if_neg (hnapp k h)]; simp only [h]; rfl
      · unfold k2; rw [if_pos (happ k h)]; simp only [h, ne_eq, not_false_eq_true, decide_true]; rfl
    · rw [nextLt_apply, hval, ha k, hg, ht k]
      by_cases h : tok (lane sc h1 h2 lt ln b) (prob P b) k = 91
      · rw [if_pos h]; simp only [h]; rfl
      · rw [if_neg h]; simp only [h, ne_eq, not_false_eq_true, decide_true]; rfl
    · rw [nextLn_apply, hval, ha k, hg]
      by_cases h : tok (lane sc h1 h2 lt ln b) (prob P b) k = 91
      · rw [if_pos h]; simp only [h]; rfl
      · rw [if_neg h]; simp only [h, ne_eq, not_false_eq_true, decide_true]; rfl

theorem bp_next (v6 : IVec S10x128 32) (hv6 : ∀ k, v6 (ix2 k b) = BitVec.ofNat 32 k.val) (k : Fin 10) :
    rowBp v5 sc h1 h2 lt ln P val v6 (ix2 k b)
      = if v then fid (par (lane sc h1 h2 lt ln b) (prob P b) k) (tok (lane sc h1 h2 lt ln b) (prob P b) k)
        else fid k 91 := by
  rw [rowBp_apply, hval, hv6, parsV_apply v5 sc h1 h2 lt ln P b hv5 hln h0 hlp,
    toksV_apply v5 sc h1 h2 lt ln P b hv5 hln h0 hlp]
  cases v <;> rfl

end

end Cert.Proof.KernelIdeal
-- ==== Proof.KernelIdeal.Loop.lean ====
/-
  The kernel's frame loop: the scratch buffers after each trip, lane by lane, are the hypotheses and the back-pointers of
  the beam search over the frames so far.
-/
module

public import proofs.«01_k».proof.Proof.KernelIdeal.Lanes
public import Idealize.ShloMosaic.Lib.WordArith.Masks

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Idealize.SL Idealize.SL.Sem
open Cert.Proof.Beam

/-! ## The trips, abstractly -/

theorem put_row (x : S1024x10x128.Idx → BitVec 32) (T : ℕ) (w : S1x10x128.Idx → BitVec 32) (t : Fin 1024) (i : Fin 10)
    (b : Fin 128) : VecWindow.put x ![T, 0, 0] ![1, 10, 128] w (ix3 t i b) = if t.val = T then w (ix3 0 i b) else x (ix3 t i b) := by
  unfold VecWindow.put
  split
  · rename_i h
    have h0 := h 0
    have ht : t.val = T := by
      have h1 : T ≤ t.val := h0.1
      have h2 : t.val < T + 1 := h0.2
      omega
    rw [if_pos ht]
    congr 1
    funext a
    apply Fin.ext
    fin_cases a
    · show t.val - T = 0; omega
    · rfl
    · rfl
  · rename_i h
    rw [if_neg]
    intro ht
    apply h
    intro a
    fin_cases a
    · show T ≤ t.val ∧ t.val < T + 1; omega
    · show 0 ≤ i.val ∧ i.val < 0 + 10; have := i.isLt; omega
    · show 0 ≤ b.val ∧ b.val < 0 + 128; have := b.isLt; omega

theorem pay7_apply (w : IVec S10x128 32) (i : Fin 10) (b : Fin 128) : k0_pay7 w (ix3 0 i b) = w (ix2 i b) := by
  pointwise [k0_pay7]

/-- The scratch holds the search's state after `t` frames, on every lane. -/
def Holds (lps : Fin 128 → ℕ → Fin 92 → EReal) (v : Fin 128 → ℕ → Bool) (t : ℕ) (sc : FVec Ideal S10x128 .f32)
    (h1 h2 lt ln : IVec S10x128 32) : Prop :=
  ∀ b, lane sc h1 h2 lt ln b = rowAt (lps b) (v b) t

/-- The buffer of back-pointers holds those of the first `t` frames. -/
def Points (lps : Fin 128 → ℕ → Fin 92 → EReal) (v : Fin 128 → ℕ → Bool) (t : ℕ) (bp : S1024x10x128.Idx → BitVec 32) : Prop :=
  ∀ (b : Fin 128) (u : Fin 1024) (i : Fin 10), u.val < t → bp (ix3 u i b) = ptrAt (lps b) (v b) u.val i

section
variable (lps : Fin 128 → ℕ → Fin 92 → EReal) (v : Fin 128 → ℕ → Bool) (v5 : IVec S10x128x92 32) (v6 : IVec S10x128 32)
  (hv5 : ∀ i b c, v5 (ix3 i b c) = ch c) (hv6 : ∀ k b, v6 (ix2 k b) = BitVec.ofNat 32 k.val)
  (hlp : ∀ b t c, lps b t c ≠ ⊥)
include hv5 hv6 hlp

theorem holds_next (t : ℕ) (ht : t < 1024) (sc : FVec Ideal S10x128 .f32) (h1 h2 lt ln : IVec S10x128 32)
    (P : FVec Ideal S1x128x92 .f32) (val : IVec S1x128 1) (hP : ∀ b c, P (ix3 0 b c) = lps b t c)
    (hval : ∀ b, val (ix2 0 b) = BitVec.ofBool (v b t)) (H : Holds lps v t sc h1 h2 lt ln) :
    Holds lps v (t + 1) (nextSc v5 sc h1 h2 lt ln P val) (nextH1 v5 sc h1 h2 lt ln P val)
      (nextH2 v5 sc h1 h2 lt ln P val) (nextLt v5 sc h1 h2 lt ln P val) (nextLn v5 sc h1 h2 lt ln P val) := fun b => by
  have hb := H b
  have hp : prob P b = lps b t := funext fun c => hP b c
  rw [lane_next v5 sc h1 h2 lt ln P val b hv5 ?_ ?_ ?_ (v b t) (hval b), hb, hp]
  · rfl
  · intro i
    have := rowAt_ln_nonneg (lps b) (v b) t (by omega) i
    rw [← hb] at this
    exact this
  · have := rowAt_sc_alive (lps b) (v b) (hlp b) t
    rw [← hb] at this
    exact this
  · intro c; rw [hP]; exact hlp b t c

theorem points_next (t : ℕ) (ht : t < 1024) (sc : FVec Ideal S10x128 .f32) (h1 h2 lt ln : IVec S10x128 32)
    (P : FVec Ideal S1x128x92 .f32) (val : IVec S1x128 1) (hP : ∀ b c, P (ix3 0 b c) = lps b t c)
    (hval : ∀ b, val (ix2 0 b) = BitVec.ofBool (v b t)) (H : Holds lps v t sc h1 h2 lt ln)
    (bp : S1024x10x128.Idx → BitVec 32) (Hb : Points lps v t bp) :
    Points lps v (t + 1) (VecWindow.put bp ![t, 0, 0] ![1, 10, 128]
      (k0_pay7 (rowBp v5 sc h1 h2 lt ln P val v6))) := fun b u i hu => by
  rw [put_row, pay7_apply]
  by_cases hut : u.val = t
  · have hb := H b
    have hp : prob P b = lps b t := funext fun c => hP b c
    rw [if_pos hut, bp_next v5 sc h1 h2 lt ln P val b hv5 ?_ ?_ ?_ (v b t) (hval b) v6 (fun k => hv6 k b), hb, hp, hut]
    · unfold ptrAt parAt tokAt
      cases v b t <;> rfl
    · intro i
      have := rowAt_ln_nonneg (lps b) (v b) t (by omega) i
      rw [← hb] at this
      exact this
    · have := rowAt_sc_alive (lps b) (v b) (hlp b) t
      rw [← hb] at this
      exact this
    · intro c; rw [hP]; exact hlp b t c
  · rw [if_neg hut]
    exact Hb b u i (by omega)

end

/-! ## The loop -/

theorem t1_trips : k0_t1_loop.trips = 128 := by decide

theorem off1_eq (k : Fin k0_t1_loop.trips) : k0_off1 k = ![k.val, 0, 0] := by
  have hk : k.val < 128 := Nat.lt_of_lt_of_le k.isLt (Nat.le_of_eq t1_trips)
  unfold k0_off1
  have : (Scf.iv 0#32 1#32 k.val).toNat = k.val := WordArith.toNat_iv_zero_one _ (by omega)
  show ![(Scf.iv 0#32 1#32 k.val).toNat, 0, 0] = _
  rw [this]

/-- The number of a frame, as the kernel computes it. -/
theorem frame_toNat (a : Fin 8) (k : ℕ) (hk : k < 128) :
    (Scalar.addi (Scalar.muli (BitVec.ofNat 32 a.val) 128#32) (Scf.iv 0#32 1#32 k)).toNat = 128 * a.val + k := by
  have h : (Scf.iv 0#32 1#32 k).toNat = k := WordArith.toNat_iv_zero_one _ (by omega)
  have ha := a.isLt
  show (BitVec.ofNat 32 a.val * 128#32 + Scf.iv 0#32 1#32 k).toNat = _
  rw [BitVec.toNat_add, h, BitVec.toNat_mul, BitVec.toNat_ofNat, show (128#32).toNat = 128 from rfl]
  omega

theorem off2_eq (i : grid0.Coords) (k : Fin k0_t1_loop.trips) : k0_off2 i k = ![128 * (i 1).val + k.val, 0, 0] := by
  have hk : k.val < 128 := Nat.lt_of_lt_of_le k.isLt (Nat.le_of_eq t1_trips)
  show ![(Scalar.addi (Scalar.muli (BitVec.ofNat 32 (i 1).val) 128#32) (Scf.iv 0#32 1#32 k.val)).toNat, 0, 0] = _
  rw [frame_toNat (i 1) k.val hk]

/-- Line `b` has not ended at frame `t`. -/
def alive (L : Fin 128 → BitVec 32) (b : Fin 128) (t : ℕ) : Bool := decide ((t : ℤ) < (L b).toInt)

theorem val_apply (a : Fin 8) (v3 : Vec Ideal S1x1x128 .i32) (k : Fin k0_t1_loop.trips) (b : Fin 128) :
    valV (BitVec.ofNat 32 a.val) v3 k (ix2 0 b)
      = BitVec.ofBool (alive (fun b => v3 (ix3 0 0 b)) b (128 * a.val + k.val)) := by
  have hk : k.val < 128 := Nat.lt_of_lt_of_le k.isLt (Nat.le_of_eq t1_trips)
  have h := frame_toNat a k.val hk
  pointwise [valV, k0_pay6]
  rw [cmpi_slt_ofBool, BitVec.toInt_eq_toNat_of_lt (by rw [h]; have := a.isLt; omega), h]
  rfl

section
variable (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (arg1 : BitVec 32) (v3 : Vec Ideal S1x1x128 .i32) (v5 : IVec S10x128x92 32) (v6 : IVec S10x128 32) (X3 : BufTy.Contents (Elt Ideal) arg3.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty)

theorem loop_7 (k : Fin k0_t1_loop.trips) : (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1)).1))
    = nextSc v5 (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1)) (View.readAt (Elt Ideal) arg3.view (Rect.unit (s := S128x128x92) (k0_off1 k) S1x128x92.size (k0_off1_inb k)).toLoadRect X3) (valV arg1 v3 k) := by
  rw [st_t1_succ]
  dsimp only
  rw [View.writes_append]
  exact trip_nextSc 𝒱 c bd i arg2 harg2 arg3 harg3 arg4 harg4 arg5 harg5 arg6 harg6 arg7 harg7 arg8 harg8 arg9 harg9 arg10 harg10 arg11 harg11 arg12 harg12 arg1 v3 v5 v6 X3 k (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)

theorem loop_8 (k : Fin k0_t1_loop.trips) : (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1)).2.1))
    = nextH1 v5 (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1)) (View.readAt (Elt Ideal) arg3.view (Rect.unit (s := S128x128x92) (k0_off1 k) S1x128x92.size (k0_off1_inb k)).toLoadRect X3) (valV arg1 v3 k) := by
  rw [st_t1_succ]
  dsimp only
  rw [View.writes_append]
  exact trip_nextH1 𝒱 c bd i arg2 harg2 arg3 harg3 arg4 harg4 arg5 harg5 arg6 harg6 arg7 harg7 arg8 harg8 arg9 harg9 arg10 harg10 arg11 harg11 arg12 harg12 arg1 v3 v5 v6 X3 k (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)

theorem loop_9 (k : Fin k0_t1_loop.trips) : (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1)).2.2.1))
    = nextH2 v5 (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1)) (View.readAt (Elt Ideal) arg3.view (Rect.unit (s := S128x128x92) (k0_off1 k) S1x128x92.size (k0_off1_inb k)).toLoadRect X3) (valV arg1 v3 k) := by
  rw [st_t1_succ]
  dsimp only
  rw [View.writes_append]
  exact trip_nextH2 𝒱 c bd i arg2 harg2 arg3 harg3 arg4 harg4 arg5 harg5 arg6 harg6 arg7 harg7 arg8 harg8 arg9 harg9 arg10 harg10 arg11 harg11 arg12 harg12 arg1 v3 v5 v6 X3 k (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)

theorem loop_10 (k : Fin k0_t1_loop.trips) : (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1)).2.2.2.1))
    = nextLt v5 (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1)) (View.readAt (Elt Ideal) arg3.view (Rect.unit (s := S128x128x92) (k0_off1 k) S1x128x92.size (k0_off1_inb k)).toLoadRect X3) (valV arg1 v3 k) := by
  rw [st_t1_succ]
  dsimp only
  rw [View.writes_append]
  exact trip_nextLt 𝒱 c bd i arg2 harg2 arg3 harg3 arg4 harg4 arg5 harg5 arg6 harg6 arg7 harg7 arg8 harg8 arg9 harg9 arg10 harg10 arg11 harg11 arg12 harg12 arg1 v3 v5 v6 X3 k (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)

theorem loop_11 (k : Fin k0_t1_loop.trips) : (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1)).2.2.2.2.1))
    = nextLn v5 (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1)) (View.readAt (Elt Ideal) arg3.view (Rect.unit (s := S128x128x92) (k0_off1 k) S1x128x92.size (k0_off1_inb k)).toLoadRect X3) (valV arg1 v3 k) := by
  rw [st_t1_succ]
  dsimp only
  rw [View.writes_append]
  exact trip_nextLn 𝒱 c bd i arg2 harg2 arg3 harg3 arg4 harg4 arg5 harg5 arg6 harg6 arg7 harg7 arg8 harg8 arg9 harg9 arg10 harg10 arg11 harg11 arg12 harg12 arg1 v3 v5 v6 X3 k (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)

theorem loop_12 (k : Fin k0_t1_loop.trips) : (View.read (Elt Ideal) arg12.view (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 (k.val + 1)).2.2.2.2.2))
    = VecWindow.put (View.read (Elt Ideal) arg12.view (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)) (k0_off2 i k) ![1, 10, 128]
      (k0_pay7 (rowBp v5 (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1)) (View.readAt (Elt Ideal) arg3.view (Rect.unit (s := S128x128x92) (k0_off1 k) S1x128x92.size (k0_off1_inb k)).toLoadRect X3) (valV arg1 v3 k) v6)) := by
  rw [st_t1_succ]
  dsimp only
  rw [View.writes_append]
  exact trip_bp 𝒱 c bd i arg2 harg2 arg3 harg3 arg4 harg4 arg5 harg5 arg6 harg6 arg7 harg7 arg8 harg8 arg9 harg9 arg10 harg10 arg11 harg11 arg12 harg12 arg1 v3 v5 v6 X3 k (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).1) (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.1) (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.1) (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.1) (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.1) (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 arg1 v3 v5 v6 X3 G7 G8 G9 G10 G11 G12 k.val).2.2.2.2.2)

end

section
variable (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (v3 : Vec Ideal S1x1x128 .i32) (v5 : IVec S10x128x92 32) (v6 : IVec S10x128 32) (X3 : BufTy.Contents (Elt Ideal) arg3.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty)
  (lps : Fin 128 → ℕ → Fin 92 → EReal)
  (hv5 : ∀ i b c, v5 (ix3 i b c) = ch c) (hv6 : ∀ k b, v6 (ix2 k b) = BitVec.ofNat 32 k.val)
  (hlp : ∀ b t c, lps b t c ≠ ⊥)
  (hX : ∀ (b : Fin 128) (t : Fin 128) (c : Fin 92), View.read (Elt Ideal) arg3.view X3 (ix3 t b c) = lps b (128 * (i 1).val + t.val) c)
include hv5 hv6 hlp hX

theorem loop_holds (k : ℕ) (hk : k ≤ 128)
    (H : Holds lps (alive (fun b => v3 (ix3 0 0 b))) (128 * (i 1).val) (View.read (Elt Ideal) arg7.view G7) (View.read (Elt Ideal) arg8.view G8) (View.read (Elt Ideal) arg9.view G9) (View.read (Elt Ideal) arg10.view G10) (View.read (Elt Ideal) arg11.view G11))
    (Hb : Points lps (alive (fun b => v3 (ix3 0 0 b))) (128 * (i 1).val) (View.read (Elt Ideal) arg12.view G12)) :
    Holds lps (alive (fun b => v3 (ix3 0 0 b))) (128 * (i 1).val + k) (View.read (Elt Ideal) arg7.view (arg7.view.writes (Elt Ideal) G7 (st_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 k).1)) (View.read (Elt Ideal) arg8.view (arg8.view.writes (Elt Ideal) G8 (st_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 k).2.1)) (View.read (Elt Ideal) arg9.view (arg9.view.writes (Elt Ideal) G9 (st_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 k).2.2.1)) (View.read (Elt Ideal) arg10.view (arg10.view.writes (Elt Ideal) G10 (st_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 k).2.2.2.1)) (View.read (Elt Ideal) arg11.view (arg11.view.writes (Elt Ideal) G11 (st_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 k).2.2.2.2.1))
    ∧ Points lps (alive (fun b => v3 (ix3 0 0 b))) (128 * (i 1).val + k) (View.read (Elt Ideal) arg12.view (arg12.view.writes (Elt Ideal) G12 (st_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 k).2.2.2.2.2)) := by
  have hi : (i 1).val < 8 := (i 1).isLt
  induction k with
  | zero => exact ⟨H, Hb⟩
  | succ k ih =>
    obtain ⟨i1, i2⟩ := ih (by omega)
    have hkt : k < k0_t1_loop.trips := by rw [t1_trips]; omega
    have hP : ∀ (b : Fin 128) (c : Fin 92), (View.readAt (Elt Ideal) arg3.view (Rect.unit (s := S128x128x92) (k0_off1 ⟨k, hkt⟩) S1x128x92.size (k0_off1_inb ⟨k, hkt⟩)).toLoadRect X3) (ix3 0 b c) = lps b (128 * (i 1).val + k) c := fun b c => by
      rw [← hX b ⟨k, by omega⟩ c]
      refine congrArg (View.read (Elt Ideal) arg3.view X3) (funext fun a => Fin.ext ?_)
      have e := off1_eq ⟨k, hkt⟩
      fin_cases a
      · show k0_off1 ⟨k, hkt⟩ 0 + 1 * 0 = k
        rw [e]; rfl
      · show k0_off1 ⟨k, hkt⟩ 1 + 1 * b.val = b.val
        rw [e]; show 0 + 1 * b.val = b.val; omega
      · show k0_off1 ⟨k, hkt⟩ 2 + 1 * c.val = c.val
        rw [e]; show 0 + 1 * c.val = c.val; omega
    have hval : ∀ b, valV (BitVec.ofNat 32 (i 1).val) v3 ⟨k, hkt⟩ (ix2 0 b) = BitVec.ofBool ((alive (fun b => v3 (ix3 0 0 b))) b (128 * (i 1).val + k)) :=
      fun b => val_apply (i 1) v3 ⟨k, hkt⟩ b
    have j1 := holds_next lps (alive (fun b => v3 (ix3 0 0 b))) v5 v6 hv5 hv6 hlp (128 * (i 1).val + k) (by omega) _ _ _ _ _ _ _ hP hval i1
    have j2 := points_next lps (alive (fun b => v3 (ix3 0 0 b))) v5 v6 hv5 hv6 hlp (128 * (i 1).val + k) (by omega) _ _ _ _ _ _ _ hP hval i1 _ i2
    have e2 := off2_eq i ⟨k, hkt⟩
    refine ⟨?_, ?_⟩
    · have l7 := loop_7 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 ⟨k, hkt⟩
      have l8 := loop_8 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 ⟨k, hkt⟩
      have l9 := loop_9 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 ⟨k, hkt⟩
      have l10 := loop_10 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 ⟨k, hkt⟩
      have l11 := loop_11 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 ⟨k, hkt⟩
      dsimp only at l7 l8 l9 l10 l11
      rw [l7, l8, l9, l10, l11]
      exact j1
    · have l12 := loop_12 𝒱 c bd i arg2 harg2 arg3 harg3 arg4 harg4 arg5 harg5 arg6 harg6 arg7 harg7 arg8 harg8 arg9 harg9 arg10 harg10 arg11 harg11 arg12 harg12 (BitVec.ofNat 32 (i 1).val) v3 v5 v6 X3 G7 G8 G9 G10 G11 G12 ⟨k, hkt⟩
      dsimp only at l12 e2
      rw [l12, e2]
      exact j2

end

end Cert.Proof.KernelIdeal
-- ==== Proof.KernelIdeal.Back.lean ====
/-
  The kernel's walk back over the back-pointers, lane by lane: it finds the words of the first hypothesis.
-/
module

public import proofs.«01_k».proof.Proof.KernelIdeal.Loop
public import proofs.«01_k».proof.Proof.Gen.KernelIdeal.Loops

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Idealize.SL Idealize.SL.Sem
open Cert.Proof.Beam

/-! ## The values -/

theorem fold_one_hot (f : Fin 10 → BitVec 32) (k : Fin 10) (s : Finset (Fin 10)) :
    s.fold IntOp.addi 0#32 (fun x => if x = k then f x else 0#32) = if k ∈ s then f k else 0#32 := by
  induction s using Finset.induction_on with
  | empty => rfl
  | insert a s ha ih =>
    rw [Finset.fold_insert ha, ih]
    by_cases h : a = k
    · subst h
      rw [if_pos rfl, if_neg ha, if_pos (Finset.mem_insert_self _ _)]
      exact BitVec.add_zero _
    · rw [if_neg h]
      by_cases hk : k ∈ s
      · rw [if_pos hk, if_pos (Finset.mem_insert_of_mem hk)]
        exact BitVec.zero_add _
      · rw [if_neg hk, if_neg fun e => (Finset.mem_insert.mp e).elim (fun e => h e.symm) hk]
        rfl

theorem one_hot_select (f : Fin 10 → BitVec 32) (k : Fin 10) :
    Finset.fold IntOp.addi 0#32
      (fun x : Fin 10 => Scalar.select (IntOp.cmpi .eq (BitVec.ofNat 32 x.val) (BitVec.ofNat 32 k.val)) (f x) 0#32)
      Finset.univ = f k := by
  have : (fun x : Fin 10 => Scalar.select (IntOp.cmpi .eq (BitVec.ofNat 32 x.val) (BitVec.ofNat 32 k.val)) (f x) 0#32)
      = fun x => if x = k then f x else 0#32 := funext fun x => by
    rw [cmpi_eq_ofBool, select_ofBool]
    by_cases h : x = k
    · subst h; rw [if_pos rfl]; simp
    · rw [if_neg h]
      have : BitVec.ofNat 32 x.val ≠ BitVec.ofNat 32 k.val := fun e => h (by
        have := congrArg BitVec.toNat e
        rw [BitVec.toNat_ofNat, BitVec.toNat_ofNat] at this
        apply Fin.ext
        have := x.isLt; have := k.isLt
        omega)
      simp [this]
  rw [this, fold_one_hot, if_pos (Finset.mem_univ k)]

variable (b : Fin 128)

theorem pay12_apply (kk : IVec S1x128 32) (row : Vec Ideal S1x10x128 .i32) (k : Fin 10)
    (hk : kk (ix2 0 b) = BitVec.ofNat 32 k.val) : k0_pay12 (F := Ideal) kk row (ix2 0 b) = row (ix3 0 k b) := by
  pointwise [k0_pay12]
  rw [hk]
  exact one_hot_select (fun x => row (ix3 0 x b)) k

theorem pay8_apply (sc : Vec Ideal S10x128 .f32) (h : ∀ k, sc (ix2 k b) ≤ sc (ix2 0 b)) :
    k0_pay8 (F := Ideal) sc (ix2 0 b) = sc (ix2 0 b) := by
  pointwise [k0_pay8]
  rw [ninf_eq]
  apply le_antisymm
  · exact Finset.fold_max_le _ |>.mpr ⟨bot_le, fun k _ => h k⟩
  · exact (Finset.le_fold_max _).mpr (Or.inr ⟨0, Finset.mem_univ _, le_refl _⟩)

theorem pay9_apply (sc : Vec Ideal S10x128 .f32) (h : ∀ k, sc (ix2 k b) ≤ sc (ix2 0 b)) :
    k0_pay9 (F := Ideal) sc (ix2 0 b) = BitVec.ofNat 32 (0 : Fin 10).val := by
  pointwise [k0_pay9]
  rw [pay8_apply b sc h]
  apply BitVec.eq_of_toInt_eq
  apply le_antisymm
  · refine (fold_minsi_le _ _ _ (Finset.mem_univ (0 : Fin 10))).trans ?_
    rw [if_pos rfl]
    decide
  · refine le_fold_minsi _ _ _ (by decide) fun x => ?_
    split
    · have e : (BitVec.ofNat 32 x.val).toInt = ((BitVec.ofNat 32 x.val).toNat : ℤ) :=
        BitVec.toInt_eq_toNat_of_lt (by rw [BitVec.toNat_ofNat]; have := x.isLt; omega)
      rw [e]
      exact Int.natCast_nonneg _
    · decide

theorem pay10_apply (sc : Vec Ideal S10x128 .f32) (ln : Vec Ideal S10x128 .i32)
    (h : ∀ k, sc (ix2 k b) ≤ sc (ix2 0 b)) : k0_pay10 (F := Ideal) sc ln (ix2 0 b) = ln (ix2 0 b) := by
  pointwise [k0_pay10]
  rw [pay9_apply b sc h]
  exact one_hot_select (fun x => ln (ix2 x b)) 0

theorem pay18_apply (sc : Vec Ideal S10x128 .f32) (ln : Vec Ideal S10x128 .i32)
    (h : ∀ k, sc (ix2 k b) ≤ sc (ix2 0 b)) : k0_pay18 (F := Ideal) sc ln (ix3 0 0 b) = ln (ix2 0 b) := by
  refine Eq.trans ?_ (pay10_apply b sc ln h)
  pointwise [k0_pay18]

theorem pay19_apply (sc : Vec Ideal S10x128 .f32) (h : ∀ k, sc (ix2 k b) ≤ sc (ix2 0 b)) :
    k0_pay19 (F := Ideal) sc (ix3 0 0 b) = sc (ix2 0 b) := by
  refine Eq.trans ?_ (pay8_apply b sc h)
  pointwise [k0_pay19]

section
variable (kk pos : IVec S1x128 32) (row : Vec Ideal S1x10x128 .i32) (k j : Fin 10) (ct : Fin 92)
  (hk : kk (ix2 0 b) = BitVec.ofNat 32 k.val) (hr : row (ix3 0 k b) = fid j ct)
include hk hr

theorem pay13_apply : k0_pay13 (F := Ideal) kk row (ix2 0 b) = BitVec.ofNat 32 j.val := by
  pointwise [k0_pay13]
  rw [pay12_apply b kk row k hk, hr]
  exact fid_par j ct

theorem pay15_apply : k0_pay15 (F := Ideal) kk row (ix2 0 b) = BitVec.ofBool (ct ≠ 91) := by
  pointwise [k0_pay15, k0_pay14]
  rw [pay12_apply b kk row k hk, hr, show IntOp.andi (fid j ct) 127#32 = ch ct from fid_tok j ct, cmpi_ne_ofBool]
  simp only [ne_eq, ch_eq_91]

theorem pay16_apply : k0_pay16 (F := Ideal) kk pos row (ix2 0 b)
    = pos (ix2 0 b) - (if ct = 91 then 0#32 else 1#32) := by
  pointwise [k0_pay16]
  rw [pay15_apply b kk row k j ct hk hr]
  by_cases h : ct = 91
  · rw [if_pos h]; simp only [h]; rfl
  · rw [if_neg h]; simp only [h, ne_eq, not_false_eq_true, decide_true]; rfl

theorem pay17_apply (w : Vec Ideal S1024x128 .i32) (p : Fin 1024) : k0_pay17 (F := Ideal) kk pos row w (ix2 p b)
    = if ct ≠ 91 ∧ BitVec.ofNat 32 p.val = pos (ix2 0 b) - (if ct = 91 then 0#32 else 1#32) then ch ct
      else w (ix2 p b) := by
  have e16 := pay16_apply b kk pos row k j ct hk hr
  have e15 := pay15_apply b kk row k j ct hk hr
  have e14 : k0_pay14 (F := Ideal) kk row (ix2 0 b) = ch ct := by
    pointwise [k0_pay14]
    rw [pay12_apply b kk row k hk, hr]
    exact fid_tok j ct
  pointwise [k0_pay17]
  rw [e16, e15, e14, cmpi_eq_ofBool, ofBool_and, select_ofBool]
  generalize pos (ix2 0 b) - (if ct = 91 then 0#32 else 1#32) = q
  by_cases h : ct = 91
  · simp [h]
  · by_cases e : BitVec.ofNat 32 p.val = q
    · simp [h, e]
    · simp [h, e]

end

/-! ## The loop -/

theorem t2_trips : k0_t2_loop.trips = 1024 := by decide

theorem off3_eq (k : Fin k0_t2_loop.trips) : k0_off3 k = ![1023 - k.val, 0, 0] := by
  have hk : k.val < 1024 := Nat.lt_of_lt_of_le k.isLt (Nat.le_of_eq t2_trips)
  have h : (Scf.iv 0#32 1#32 k.val).toNat = k.val := WordArith.toNat_iv_zero_one _ (by omega)
  have : (1023#32 - Scf.iv 0#32 1#32 k.val).toNat = 1023 - k.val := by
    rw [BitVec.toNat_sub, h, show (1023#32).toNat = 1023 from rfl]; omega
  show ![(1023#32 - Scf.iv 0#32 1#32 k.val).toNat, 0, 0] = _
  rw [this]

section
variable (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (h2 : k0_cond2 i = 1#1)
  (X12 : BufTy.Contents (Elt Ideal) arg12.view.ty) (f4 : BufTy.Contents (Elt Ideal) arg4.view.ty)
  (acc : IVec S1x128 32 × IVec S1x128 32) (k : Fin k0_t2_loop.trips)

theorem tripR_eq : tripR_k0_t2 (F := Ideal) 𝒱 c bd i arg2 harg2 arg3 harg3 arg4 harg4 arg5 harg5 arg6 harg6 arg7 harg7 arg8 harg8 arg9 harg9 arg10 harg10 arg11 harg11 arg12 harg12 h2 X12 k acc f4
    = (k0_pay13 acc.1 (View.readAt (Elt Ideal) arg12.view (Rect.unit (s := S1024x10x128) (k0_off3 k) S1x10x128.size (k0_off3_inb i k h2)).toLoadRect X12), k0_pay16 acc.1 acc.2 (View.readAt (Elt Ideal) arg12.view (Rect.unit (s := S1024x10x128) (k0_off3 k) S1x10x128.size (k0_off3_inb i k h2)).toLoadRect X12)) := by
  unfold tripR_k0_t2 trip_k0_t2
  rfl

theorem tripL_eq : tripL_k0_t2 (F := Ideal) 𝒱 c bd i arg2 harg2 arg3 harg3 arg4 harg4 arg5 harg5 arg6 harg6 arg7 harg7 arg8 harg8 arg9 harg9 arg10 harg10 arg11 harg11 arg12 harg12 h2 X12 k acc f4
    = [⟨Rect.unit ![0, 0] S1024x128.size inb_S1024x128_S1024x128_0_0, k0_pay17 acc.1 acc.2 (View.readAt (Elt Ideal) arg12.view (Rect.unit (s := S1024x10x128) (k0_off3 k) S1x10x128.size (k0_off3_inb i k h2)).toLoadRect X12)
        (View.readAt (Elt Ideal) arg4.view (Rect.unit ![0, 0] S1024x128.size inb_S1024x128_S1024x128_0_0).toLoadRect f4)⟩] := by
  unfold tripL_k0_t2 trip_k0_t2
  rfl

end

section
variable (𝒱 : Variants) (c : Dev nD) (bd : Option 𝒱.V) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole) (h2 : k0_cond2 i = 1#1)
  (X12 : BufTy.Contents (Elt Ideal) arg12.view.ty) (G4 : BufTy.Contents (Elt Ideal) arg4.view.ty)
  (acc : IVec S1x128 32 × IVec S1x128 32)
  (lps : Fin 128 → ℕ → Fin 92 → EReal) (v : Fin 128 → ℕ → Bool)
  (hX : Points lps v 1024 (View.read (Elt Ideal) arg12.view X12))
  (hk : ∀ b, acc.1 (ix2 0 b) = BitVec.ofNat 32 (0 : Fin 10).val)
  (hp : ∀ b, acc.2 (ix2 0 b) = (rowAt (lps b) (v b) 1024).ln 0)
  (hG : ∀ (p : Fin 1024) (b : Fin 128), View.read (Elt Ideal) arg4.view G4 (ix2 p b) = 4294967295#32)
include hX hk hp hG

theorem back_walk (n : ℕ) (hn : n ≤ 1024) (b : Fin 128) :
    (st_k0_t2 (F := Ideal) 𝒱 c bd i arg2 harg2 arg3 harg3 arg4 harg4 arg5 harg5 arg6 harg6 arg7 harg7 arg8 harg8 arg9 harg9 arg10 harg10 arg11 harg11 arg12 harg12 h2 X12 G4 acc n).1.1 (ix2 0 b) = BitVec.ofNat 32 (walk (lps b) (v b) n).k.val
    ∧ (st_k0_t2 (F := Ideal) 𝒱 c bd i arg2 harg2 arg3 harg3 arg4 harg4 arg5 harg5 arg6 harg6 arg7 harg7 arg8 harg8 arg9 harg9 arg10 harg10 arg11 harg11 arg12 harg12 h2 X12 G4 acc n).1.2 (ix2 0 b) = (walk (lps b) (v b) n).pos
    ∧ ∀ p : Fin 1024, View.read (Elt Ideal) arg4.view (arg4.view.writes (Elt Ideal) G4 (st_k0_t2 (F := Ideal) 𝒱 c bd i arg2 harg2 arg3 harg3 arg4 harg4 arg5 harg5 arg6 harg6 arg7 harg7 arg8 harg8 arg9 harg9 arg10 harg10 arg11 harg11 arg12 harg12 h2 X12 G4 acc n).2) (ix2 p b)
        = (walk (lps b) (v b) n).wd p.val := by
  induction n with
  | zero => exact ⟨hk b, hp b, fun p => hG p b⟩
  | succ n ih =>
    obtain ⟨i1, i2, i3⟩ := ih (by omega)
    have hnt : n < k0_t2_loop.trips := by rw [t2_trips]; omega
    have hrow : ∀ q : Fin 10, View.readAt (Elt Ideal) arg12.view (Rect.unit (s := S1024x10x128) (k0_off3 ⟨n, hnt⟩) S1x10x128.size (k0_off3_inb i ⟨n, hnt⟩ h2)).toLoadRect X12 (ix3 0 q b)
        = fid (parAt (lps b) (v b) (1023 - n) q) (tokAt (lps b) (v b) (1023 - n) q) := fun q => by
      refine Eq.trans ?_ (hX b ⟨1023 - n, by omega⟩ q (by show 1023 - n < 1024; omega))
      refine congrArg (View.read (Elt Ideal) arg12.view X12) (funext fun a => Fin.ext ?_)
      have e := off3_eq ⟨n, hnt⟩
      fin_cases a
      · show k0_off3 ⟨n, hnt⟩ 0 + 1 * 0 = 1023 - n
        rw [e]; rfl
      · show k0_off3 ⟨n, hnt⟩ 1 + 1 * q.val = q.val
        rw [e]; show 0 + 1 * q.val = q.val; omega
      · show k0_off3 ⟨n, hnt⟩ 2 + 1 * b.val = b.val
        rw [e]; show 0 + 1 * b.val = b.val; omega
    have hst := st_k0_t2_succ (F := Ideal) 𝒱 c bd i arg2 harg2 arg3 harg3 arg4 harg4 arg5 harg5 arg6 harg6 arg7 harg7 arg8 harg8 arg9 harg9 arg10 harg10 arg11 harg11 arg12 harg12 h2 X12 G4 acc ⟨n, hnt⟩
    dsimp only at hst
    rw [tripR_eq, tripL_eq] at hst
    rw [hst]
    refine ⟨?_, ?_, fun p => ?_⟩
    · exact pay13_apply b _ _ _ _ _ i1 (hrow _)
    · refine (pay16_apply b _ _ _ _ _ _ i1 (hrow _)).trans ?_
      rw [i2]
      rfl
    · rw [View.writes_append]
      refine (congrFun (View.read_writes_full arg4.view _ inb_S1024x128_S1024x128_0_0 _ []) (ix2 p b)).trans ?_
      refine (pay17_apply b _ _ _ _ _ _ i1 (hrow _) _ p).trans ?_
      rw [i2, View.readAt_full, i3 p]
      rfl

end

end Cert.Proof.KernelIdeal
-- ==== Proof.KernelIdeal.Vals.lean ====
/-
  What the kernel's body leaves in the scratch buffers and in the results' blocks, in its three cases.
-/
module

public import proofs.«01_k».proof.Proof.KernelIdeal.Back
public import proofs.«01_k».proof.Proof.KernelIdeal.Run

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Idealize.SL Idealize.SL.Sem
open Cert.Proof.Beam

theorem iota_ch (i : Fin 10) (b : Fin 128) (c : Fin 92) :
    iota .tc S10x128x92 32 [2] iota_S10x128x92_d2_w32 (ix3 i b c) = ch c := by
  pointwise
  rfl

theorem iota_row (k : Fin 10) (b : Fin 128) :
    iota .tc S10x128 32 [0] iota_S10x128_d0_w32 (ix2 k b) = BitVec.ofNat 32 k.val := by
  pointwise

/-- The scratch as it is set up: the search before the first frame. -/
theorem start_holds (lps : Fin 128 → ℕ → Fin 92 → EReal) (v : Fin 128 → ℕ → Bool) :
    Holds lps v 0 (k0_pay1 (F := Ideal)) k0_pay2 k0_pay3 k0_pay4 k0_pay5 := fun b => by
  show lane _ _ _ _ _ b = start
  unfold lane start
  congr 1 <;> funext k
  · pointwise [k0_pay1]
    fin_cases k <;> rfl
  all_goals rfl

theorem first_zero (i : grid0.Coords) (h1 : (Scalar.cmpi .ne (Scalar.extui (Scalar.cmpi .eq (BitVec.ofNat 32 (i 1).val) 0#32) : BitVec 32) 0#32 = 1#1)) : (i 1).val = 0 := by
  have key : ∀ a : Fin 8, Scalar.cmpi .ne (Scalar.extui (Scalar.cmpi .eq (BitVec.ofNat 32 a.val) 0#32) : BitVec 32) 0#32 = 1#1 →
      a.val = 0 := by decide
  exact key (i 1) h1

theorem last_seven (i : grid0.Coords) (h2 : k0_cond2 i = 1#1) : (i 1).val = 7 := by
  have key : ∀ a : Fin 8, Scalar.cmpi .ne (Scalar.extui (Scalar.cmpi .eq (BitVec.ofNat 32 a.val) 7#32) : BitVec 32) 0#32 = 1#1 →
      a.val = 7 := by decide
  exact key (i 1) h2

theorem Holds.at {lps : Fin 128 → ℕ → Fin 92 → EReal} {v : Fin 128 → ℕ → Bool} {t t' : ℕ} {sc : Vec Ideal S10x128 .f32}
    {h1 h2 lt ln : Vec Ideal S10x128 .i32} (h : t = t') (H : Holds lps v t sc h1 h2 lt ln) : Holds lps v t' sc h1 h2 lt ln := h ▸ H

theorem Points.at {lps : Fin 128 → ℕ → Fin 92 → EReal} {v : Fin 128 → ℕ → Bool} {t t' : ℕ} {bp : Vec Ideal S1024x10x128 .i32}
    (h : t = t') (H : Points lps v t bp) : Points lps v t' bp := h ▸ H

/-- The lines of a block that have not ended. -/
abbrev live (x2 : Vec Ideal S1x1x128 .i32) : Fin 128 → ℕ → Bool := alive fun b => x2 (ix3 0 0 b)

section
variable (c : Dev nD) (i : grid0.Coords) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole)
  (x2 : Vec Ideal S1x1x128 .i32) (x3 : Vec Ideal S128x128x92 .f32) (x7 : Vec Ideal S10x128 .f32) (x8 : Vec Ideal S10x128 .i32) (x9 : Vec Ideal S10x128 .i32) (x10 : Vec Ideal S10x128 .i32) (x11 : Vec Ideal S10x128 .i32) (x12 : Vec Ideal S1024x10x128 .i32)
  (lps : Fin 128 → ℕ → Fin 92 → EReal) (hlp : ∀ b t c, lps b t c ≠ ⊥)
  (hX : ∀ (b : Fin 128) (t : Fin 128) (c : Fin 92), x3 (ix3 t b c) = lps b (128 * (i 1).val + t.val) c)
include hlp hX

theorem runB_vals (h1 : ¬ (Scalar.cmpi .ne (Scalar.extui (Scalar.cmpi .eq (BitVec.ofNat 32 (i 1).val) 0#32) : BitVec 32) 0#32 = 1#1)) (h2 : ¬ (k0_cond2 i = 1#1)) (H : Holds lps (live x2) (128 * (i 1).val) x7 x8 x9 x10 x11) (Hb : Points lps (live x2) (128 * (i 1).val) x12) :
    Holds lps (live x2) (128 * (i 1).val + 128) (kernelRunB (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).1 (kernelRunB (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.1 (kernelRunB (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.1 (kernelRunB (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.1 (kernelRunB (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.1
    ∧ Points lps (live x2) (128 * (i 1).val + 128) (kernelRunB (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.1 := by
  have e2 : View.readAt (Elt Ideal) arg2.view (Rect.unit (s := S1x1x128) ![0, 0, 0] ![1, 1, 128] inb_S1x1x128_S1x1x128_0_0_0).toLoadRect (harg2.unread x2) = x2 :=
    (View.readAt_full arg2.view (harg2.unread x2) inb_S1x1x128_S1x1x128_0_0_0).trans (harg2.read_unread x2)
  have hl := loop_holds 𝒱₀ c none i arg2 harg2 arg3 harg3 arg4 harg4 arg5 harg5 arg6 harg6 arg7 harg7 arg8 harg8 arg9 harg9 arg10 harg10 arg11 harg11 arg12 harg12 (View.readAt (Elt Ideal) arg2.view (Rect.unit (s := S1x1x128) ![0, 0, 0] ![1, 1, 128] inb_S1x1x128_S1x1x128_0_0_0).toLoadRect (harg2.unread x2))
    kernelRunC.sl.v5 kernelRunC.sl.v6 (harg3.unread x3) (harg7.unread x7) (harg8.unread x8) (harg9.unread x9) (harg10.unread x10) (harg11.unread x11) (harg12.unread x12) lps iota_ch iota_row hlp
    (fun b t c => (congrFun (harg3.read_unread x3) (ix3 t b c)).trans (hX b t c)) (Scf.trips (0#32) (Scalar.addi 0#32 128#32) 1#32) (by decide)
    (by rw [e2]; simp only [Memref.IsWhole.read_unread]; exact H)
    (by rw [e2]; simp only [Memref.IsWhole.read_unread]; exact Hb)
  rw [show Scf.trips (0#32) (Scalar.addi 0#32 128#32) 1#32 = 128 from by decide] at hl
  rw [e2] at hl
  unfold kernelRunB
  dsimp only
  rw [e2]
  exact hl

theorem runA_vals (h1 : (Scalar.cmpi .ne (Scalar.extui (Scalar.cmpi .eq (BitVec.ofNat 32 (i 1).val) 0#32) : BitVec 32) 0#32 = 1#1)) (h2 : ¬ (k0_cond2 i = 1#1)) :
    Holds lps (live x2) (128 * (i 1).val + 128) (kernelRunA (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).1 (kernelRunA (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.1 (kernelRunA (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.1 (kernelRunA (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.1 (kernelRunA (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.1
    ∧ Points lps (live x2) (128 * (i 1).val + 128) (kernelRunA (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.1 := by
  have hi := first_zero i h1
  have e2 : View.readAt (Elt Ideal) arg2.view (Rect.unit (s := S1x1x128) ![0, 0, 0] ![1, 1, 128] inb_S1x1x128_S1x1x128_0_0_0).toLoadRect (harg2.unread x2) = x2 :=
    (View.readAt_full arg2.view (harg2.unread x2) inb_S1x1x128_S1x1x128_0_0_0).trans (harg2.read_unread x2)
  have hl := loop_holds 𝒱₀ c none i arg2 harg2 arg3 harg3 arg4 harg4 arg5 harg5 arg6 harg6 arg7 harg7 arg8 harg8 arg9 harg9 arg10 harg10 arg11 harg11 arg12 harg12 (View.readAt (Elt Ideal) arg2.view (Rect.unit (s := S1x1x128) ![0, 0, 0] ![1, 1, 128] inb_S1x1x128_S1x1x128_0_0_0).toLoadRect (harg2.unread x2))
    kernelRunA.sl.v5 kernelRunA.sl.v6 (harg3.unread x3) (arg7.view.writes (Elt Ideal) arg7.view.junk kernelRunA.sl.H7_1) (arg8.view.writes (Elt Ideal) arg8.view.junk kernelRunA.sl.H8_1) (arg9.view.writes (Elt Ideal) arg9.view.junk kernelRunA.sl.H9_1) (arg10.view.writes (Elt Ideal) arg10.view.junk kernelRunA.sl.H10_1) (arg11.view.writes (Elt Ideal) arg11.view.junk kernelRunA.sl.H11_1) (harg12.unread x12) lps iota_ch iota_row hlp
    (fun b t c => (congrFun (harg3.read_unread x3) (ix3 t b c)).trans (hX b t c)) (Scf.trips (0#32) (Scalar.addi 0#32 128#32) 1#32) (by decide)
    (by
      rw [hi, e2]
      have r7 : View.read (Elt Ideal) arg7.view (arg7.view.writes (Elt Ideal) arg7.view.junk kernelRunA.sl.H7_1) = k0_pay1 (F := Ideal) := by
        unfold kernelRunA.sl.H7_1
        exact View.read_writes_full arg7.view _ inb_S10x128_S10x128_0_0 _ []
      have r8 : View.read (Elt Ideal) arg8.view (arg8.view.writes (Elt Ideal) arg8.view.junk kernelRunA.sl.H8_1) = k0_pay2 := by
        unfold kernelRunA.sl.H8_1
        exact View.read_writes_full arg8.view _ inb_S10x128_S10x128_0_0 _ []
      have r9 : View.read (Elt Ideal) arg9.view (arg9.view.writes (Elt Ideal) arg9.view.junk kernelRunA.sl.H9_1) = k0_pay3 := by
        unfold kernelRunA.sl.H9_1
        exact View.read_writes_full arg9.view _ inb_S10x128_S10x128_0_0 _ []
      have r10 : View.read (Elt Ideal) arg10.view (arg10.view.writes (Elt Ideal) arg10.view.junk kernelRunA.sl.H10_1) = k0_pay4 := by
        unfold kernelRunA.sl.H10_1
        exact View.read_writes_full arg10.view _ inb_S10x128_S10x128_0_0 _ []
      have r11 : View.read (Elt Ideal) arg11.view (arg11.view.writes (Elt Ideal) arg11.view.junk kernelRunA.sl.H11_1) = k0_pay5 := by
        unfold kernelRunA.sl.H11_1
        exact View.read_writes_full arg11.view _ inb_S10x128_S10x128_0_0 _ []
      rw [r7, r8, r9, r10, r11]
      exact start_holds lps (live x2))
    (by rw [hi]; exact fun b u i hu => absurd hu (Nat.not_lt_zero _))
  rw [show Scf.trips (0#32) (Scalar.addi 0#32 128#32) 1#32 = 128 from by decide] at hl
  rw [e2] at hl
  unfold kernelRunA
  dsimp only
  simp only [View.writes_append]
  rw [e2]
  exact hl

theorem runC_vals (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) :
    Holds lps (live x2) (128 * (i 1).val + 128) (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.1 (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.1 (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.1 (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.2.1 (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.2.2.1
    ∧ Points lps (live x2) (128 * (i 1).val + 128) (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.2.2.2.1 := by
  have e2 : View.readAt (Elt Ideal) arg2.view (Rect.unit (s := S1x1x128) ![0, 0, 0] ![1, 1, 128] inb_S1x1x128_S1x1x128_0_0_0).toLoadRect (harg2.unread x2) = x2 :=
    (View.readAt_full arg2.view (harg2.unread x2) inb_S1x1x128_S1x1x128_0_0_0).trans (harg2.read_unread x2)
  have hl := loop_holds 𝒱₀ c none i arg2 harg2 arg3 harg3 arg4 harg4 arg5 harg5 arg6 harg6 arg7 harg7 arg8 harg8 arg9 harg9 arg10 harg10 arg11 harg11 arg12 harg12 (View.readAt (Elt Ideal) arg2.view (Rect.unit (s := S1x1x128) ![0, 0, 0] ![1, 1, 128] inb_S1x1x128_S1x1x128_0_0_0).toLoadRect (harg2.unread x2))
    kernelRunC.sl.v5 kernelRunC.sl.v6 (harg3.unread x3) (harg7.unread x7) (harg8.unread x8) (harg9.unread x9) (harg10.unread x10) (harg11.unread x11) (harg12.unread x12) lps iota_ch iota_row hlp
    (fun b t c => (congrFun (harg3.read_unread x3) (ix3 t b c)).trans (hX b t c)) (Scf.trips (0#32) (Scalar.addi 0#32 128#32) 1#32) (by decide)
    (by rw [e2]; simp only [Memref.IsWhole.read_unread]; exact H)
    (by rw [e2]; simp only [Memref.IsWhole.read_unread]; exact Hb)
  rw [show Scf.trips (0#32) (Scalar.addi 0#32 128#32) 1#32 = 128 from by decide] at hl
  rw [e2] at hl
  unfold kernelRunC
  dsimp only
  rw [e2]
  exact hl

theorem runC_sc (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) (b : Fin 128) (k : Fin 10) :
    (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.1 (ix2 k b) = (rowAt (lps b) (live x2 b) 1024).sc k := by
  have e : 128 * (i 1).val + 128 = 1024 := by rw [last_seven i h2]
  have g1 := (runC_vals c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb).1.at e
  exact congrArg (fun r : Row => r.sc k) (g1 b)

theorem runC_ln (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) (b : Fin 128) (k : Fin 10) :
    (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.2.2.1 (ix2 k b) = (rowAt (lps b) (live x2 b) 1024).ln k := by
  have e : 128 * (i 1).val + 128 = 1024 := by rw [last_seven i h2]
  have g1 := (runC_vals c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb).1.at e
  exact congrArg (fun r : Row => r.ln k) (g1 b)

theorem runC_pts (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) :
    Points lps (live x2) 1024 (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.2.2.2.1 := by
  have e : 128 * (i 1).val + 128 = 1024 := by rw [last_seven i h2]
  exact (runC_vals c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb).2.at e

omit hlp hX in
theorem runC_v11 (h1 : ¬ (Scalar.cmpi .ne (Scalar.extui (Scalar.cmpi .eq (BitVec.ofNat 32 (i 1).val) 0#32) : BitVec 32) 0#32 = 1#1)) (h2 : (k0_cond2 i = 1#1)) :
    kernelRunC.sl.v11 (F := Ideal) c i arg2 harg2 arg3 harg3 arg4 harg4 arg5 harg5 arg6 harg6 arg7 harg7 arg8 harg8 arg9 harg9 arg10 harg10 arg11 harg11 arg12 harg12 x2 x3 x7 x8 x9 x10 x11 x12 = (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.1 := by
  unfold kernelRunC
  exact View.readAt_full arg7.view _ inb_S10x128_S10x128_0_0

omit hlp hX in
theorem runC_v20 (h1 : ¬ (Scalar.cmpi .ne (Scalar.extui (Scalar.cmpi .eq (BitVec.ofNat 32 (i 1).val) 0#32) : BitVec 32) 0#32 = 1#1)) (h2 : (k0_cond2 i = 1#1)) :
    kernelRunC.sl.v20 (F := Ideal) c i arg2 harg2 arg3 harg3 arg4 harg4 arg5 harg5 arg6 harg6 arg7 harg7 arg8 harg8 arg9 harg9 arg10 harg10 arg11 harg11 arg12 harg12 x2 x3 x7 x8 x9 x10 x11 x12 = (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.2.2.2.2.2.1 := by
  unfold kernelRunC
  exact View.readAt_full arg11.view _ inb_S10x128_S10x128_0_0

theorem runC_len (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) (b : Fin 128) :
    (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.1 (ix3 0 0 b) = (rowAt (lps b) (live x2 b) 1024).ln 0 := by
  have hsc := runC_sc c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb b
  have hln := runC_ln c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb b
  rw [← runC_v11] at hsc
  rw [← runC_v20] at hln
  refine Eq.trans ?_ ((pay18_apply b (kernelRunC.sl.v11 (F := Ideal) c i arg2 harg2 arg3 harg3 arg4 harg4 arg5 harg5 arg6 harg6 arg7 harg7 arg8 harg8 arg9 harg9 arg10 harg10 arg11 harg11 arg12 harg12 x2 x3 x7 x8 x9 x10 x11 x12) (kernelRunC.sl.v20 (F := Ideal) c i arg2 harg2 arg3 harg3 arg4 harg4 arg5 harg5 arg6 harg6 arg7 harg7 arg8 harg8 arg9 harg9 arg10 harg10 arg11 harg11 arg12 harg12 x2 x3 x7 x8 x9 x10 x11 x12) (fun k => by rw [hsc, hsc]; exact rowAt_sc_sorted _ _ 1024 k)).trans (hln 0))
  unfold kernelRunC
  exact congrFun (View.read_writes_full arg5.view _ inb_S1x1x128_S1x1x128_0_0_0 _ []) (ix3 0 0 b)

theorem runC_best (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) (b : Fin 128) :
    (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).2.2.1 (ix3 0 0 b) = (rowAt (lps b) (live x2 b) 1024).sc 0 := by
  have hsc := runC_sc c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb b
  rw [← runC_v11] at hsc
  refine Eq.trans ?_ ((pay19_apply b (kernelRunC.sl.v11 (F := Ideal) c i arg2 harg2 arg3 harg3 arg4 harg4 arg5 harg5 arg6 harg6 arg7 harg7 arg8 harg8 arg9 harg9 arg10 harg10 arg11 harg11 arg12 harg12 x2 x3 x7 x8 x9 x10 x11 x12) (fun k => by rw [hsc, hsc]; exact rowAt_sc_sorted _ _ 1024 k)).trans (hsc 0))
  unfold kernelRunC
  exact congrFun (View.read_writes_full arg6.view _ inb_S1x1x128_S1x1x128_0_0_0 _ []) (ix3 0 0 b)

theorem runC_tok (h1 : ¬ (Scalar.cmpi .ne (Scalar.extui (Scalar.cmpi .eq (BitVec.ofNat 32 (i 1).val) 0#32) : BitVec 32) 0#32 = 1#1)) (h2 : (k0_cond2 i = 1#1)) (H : Holds lps (live x2) (128 * (i 1).val) x7 x8 x9 x10 x11) (Hb : Points lps (live x2) (128 * (i 1).val) x12) (b : Fin 128) (p : Fin 1024) :
    (kernelRunC (F := Ideal) c i arg2 harg2 arg3 harg3 arg4 harg4 arg5 harg5 arg6 harg6 arg7 harg7 arg8 harg8 arg9 harg9 arg10 harg10 arg11 harg11 arg12 harg12 h1 h2 x2 x3 x7 x8 x9 x10 x11 x12).1 (ix2 p b) = (walk (lps b) (live x2 b) 1024).wd p.val := by
  have g2 := runC_pts c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb
  have hsc := fun b => runC_sc c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb b
  have hln := fun b => runC_ln c i arg2 harg2 arg3 harg3 arg4 harg4 arg5 harg5 arg6 harg6 arg7 harg7 arg8 harg8 arg9 harg9 arg10 harg10 arg11 harg11 arg12 harg12 x2 x3 x7 x8 x9 x10 x11 x12 lps hlp hX h1 h2 H Hb b
  rw [← runC_v11] at hsc
  rw [← runC_v20] at hln
  have hs : ∀ (b : Fin 128) (k : Fin 10), kernelRunC.sl.v11 (F := Ideal) c i arg2 harg2 arg3 harg3 arg4 harg4 arg5 harg5 arg6 harg6 arg7 harg7 arg8 harg8 arg9 harg9 arg10 harg10 arg11 harg11 arg12 harg12 x2 x3 x7 x8 x9 x10 x11 x12 (ix2 k b) ≤ kernelRunC.sl.v11 (F := Ideal) c i arg2 harg2 arg3 harg3 arg4 harg4 arg5 harg5 arg6 harg6 arg7 harg7 arg8 harg8 arg9 harg9 arg10 harg10 arg11 harg11 arg12 harg12 x2 x3 x7 x8 x9 x10 x11 x12 (ix2 0 b) := fun b k => by
    rw [hsc, hsc]; exact rowAt_sc_sorted _ _ 1024 k
  unfold kernelRunC at g2 ⊢
  dsimp only at g2 ⊢
  rw [View.writes_append]
  refine (back_walk 𝒱₀ c none i arg2 harg2 arg3 harg3 arg4 harg4 arg5 harg5 arg6 harg6 arg7 harg7 arg8 harg8 arg9 harg9 arg10 harg10 arg11 harg11 arg12 harg12 h2 _ _ _ lps (live x2) g2 ?_ ?_ ?_ _ (by decide) b).2.2 p
  · intro b
    exact pay9_apply b _ (hs b)
  · intro b
    exact (pay10_apply b _ _ (hs b)).trans (hln b 0)
  · intro p b
    exact congrFun (View.read_writes_full arg4.view _ inb_S1024x128_S1024x128_0_0 _ []) (ix2 p b)

end

end Cert.Proof.KernelIdeal
-- ==== Proof.KernelIdeal.Value.lean ====
/-
  The kernel's run with its values: every scratch buffer at the search's state between the grid's points, the results'
  blocks at the words that the search ends with.
-/
module

public import proofs.«01_k».proof.Proof.KernelIdeal.Vals
public import proofs.«01_k».proof.Proof.KernelIdeal.Frame
public import Idealize.ShloMosaic.Lib.Pipeline.ValueKit.Geometry
public import Idealize.ShloMosaic.Lib.Pipeline.Value

@[expose] public section

set_option maxRecDepth 65536
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf ΦA)
open Cert.Proof.Beam (rowAt walk Row ptrAt)

local notation "𝕄" => MT nD τ sig Unit (Elt Ideal) ℕ (UR sig nD τ) ℕ

variable (m : (ℓ : Loc nD τ sig) → Buf (Elt Ideal) ℓ) (ρ : Dev nD → PrngReg) (c : Dev nD)

/-! ## A line of the batch -/

/-- The log-probabilities of line `B`, frame by frame, as the kernel is handed them. -/
def lineLp (B : Fin 256) (t : ℕ) (ch : Fin 92) : EReal :=
  if h : t < 1024 then (V m c main_v1 : Vec Ideal S1024x256x92 .f32) (ix3 ⟨t, h⟩ B ch) else 0

/-- The length word of line `B`. -/
def lineLen (B : Fin 256) : BitVec 32 :=
  (V m c main_v2 : Vec Ideal S2x1x128 .i32) (ix3 ⟨B.val / 128, by omega⟩ 0 ⟨B.val % 128, by omega⟩)

/-- Whether frame `t` is within line `B`. -/
def lineLive (B : Fin 256) (t : ℕ) : Bool := decide ((t : ℤ) < (lineLen m c B).toInt)

/-- Line `b` of batch block `k`. -/
def row (k : ℕ) (b : Fin 128) : Fin 256 := ⟨(128 * k + b.val) % 256, Nat.mod_lt _ (by decide)⟩

abbrev lpsAt (k : ℕ) (b : Fin 128) : ℕ → Fin 92 → EReal := lineLp m c (row k b)
abbrev liveAt (k : ℕ) (b : Fin 128) : ℕ → Bool := lineLive m c (row k b)

/-- No log-probability is −∞. -/
def LpOk : Prop := ∀ i, (V m c main_v1 : Vec Ideal S1024x256x92 .f32) i ≠ (⊥ : EReal)

theorem lineLp_ne_bot (hlp : LpOk m c) (B : Fin 256) (t : ℕ) (ch : Fin 92) : lineLp m c B t ch ≠ ⊥ := by
  unfold lineLp
  split
  · exact hlp _
  · exact EReal.coe_ne_bot 0

theorem coords_0 : ∀ t : Fin cfg0.N, (grid0.coords t 0).val = t.val / 8 := (by decide +kernel : ∀ t : Fin grid0.N, (grid0.coords t 0).val = t.val / 8)
theorem coords_1 : ∀ t : Fin cfg0.N, (grid0.coords t 1).val = t.val % 8 := (by decide +kernel : ∀ t : Fin grid0.N, (grid0.coords t 1).val = t.val % 8)

theorem idx_0 : ∀ t : Fin cfg0.N, win0_0.index t = ![t.val / 8, 0, 0] := (by decide +kernel : ∀ t : Fin grid0.N, win0_0.index t = ![t.val / 8, 0, 0])
theorem idx_1 : ∀ t : Fin cfg0.N, win0_1.index t = ![t.val % 8, t.val / 8, 0] := (by decide +kernel : ∀ t : Fin grid0.N, win0_1.index t = ![t.val % 8, t.val / 8, 0])
theorem idx_2 : ∀ t : Fin cfg0.N, win0_2.index t = ![0, t.val / 8] := (by decide +kernel : ∀ t : Fin grid0.N, win0_2.index t = ![0, t.val / 8])
theorem idx_3 : ∀ t : Fin cfg0.N, win0_3.index t = ![t.val / 8, 0, 0] := (by decide +kernel : ∀ t : Fin grid0.N, win0_3.index t = ![t.val / 8, 0, 0])
theorem idx_4 : ∀ t : Fin cfg0.N, win0_4.index t = ![t.val / 8, 0, 0] := (by decide +kernel : ∀ t : Fin grid0.N, win0_4.index t = ![t.val / 8, 0, 0])

theorem n_lt (t : Fin cfg0.N) : t.val < 16 := lt_of_lt_of_eq t.isLt N_0

theorem emb_0 (t : Fin cfg0.N) (b : Fin 128) (h1 : t.val / 8 < 2) :
    (win0_0.blk t).view.emb (ix3 0 0 b) = (ix3 ⟨t.val / 8, h1⟩ 0 b : S2x1x128.Idx) := by
  funext a
  refine Fin.ext ?_
  fin_cases a
  all_goals
    blk_simp [idx_0]
    try first | rfl | exact Nat.zero_add _ | exact Nat.add_zero _ | simp

theorem emb_1 (t : Fin cfg0.N) (f b : Fin 128) (ch : Fin 92) (h1 : t.val % 8 * 128 + f.val < 1024) (h2 : t.val / 8 * 128 + b.val < 256) :
    (win0_1.blk t).view.emb (ix3 f b ch) = (ix3 ⟨t.val % 8 * 128 + f.val, h1⟩ ⟨t.val / 8 * 128 + b.val, h2⟩ ch : S1024x256x92.Idx) := by
  funext a
  refine Fin.ext ?_
  fin_cases a
  all_goals
    blk_simp [idx_1]
    try first | rfl | exact Nat.zero_add _ | exact Nat.add_zero _ | simp

theorem emb_2 (t : Fin cfg0.N) (p : Fin 1024) (b : Fin 128) (h2 : t.val / 8 * 128 + b.val < 256) :
    (win0_2.blk t).view.emb (ix2 p b) = (ix2 p ⟨t.val / 8 * 128 + b.val, h2⟩ : S1024x256.Idx) := by
  funext a
  refine Fin.ext ?_
  fin_cases a
  all_goals
    blk_simp [idx_2]
    try first | rfl | exact Nat.zero_add _ | exact Nat.add_zero _ | simp

theorem emb_3 (t : Fin cfg0.N) (b : Fin 128) (h1 : t.val / 8 < 2) :
    (win0_3.blk t).view.emb (ix3 0 0 b) = (ix3 ⟨t.val / 8, h1⟩ 0 b : S2x1x128.Idx) := by
  funext a
  refine Fin.ext ?_
  fin_cases a
  all_goals
    blk_simp [idx_3]
    try first | rfl | exact Nat.zero_add _ | exact Nat.add_zero _ | simp

theorem emb_4 (t : Fin cfg0.N) (b : Fin 128) (h1 : t.val / 8 < 2) :
    (win0_4.blk t).view.emb (ix3 0 0 b) = (ix3 ⟨t.val / 8, h1⟩ 0 b : S2x1x128.Idx) := by
  funext a
  refine Fin.ext ?_
  fin_cases a
  all_goals
    blk_simp [idx_4]
    try first | rfl | exact Nat.zero_add _ | exact Nat.add_zero _ | simp

theorem row_val (t : Fin cfg0.N) (b : Fin 128) : (row (t.val / 8) b).val = t.val / 8 * 128 + b.val := by
  have := n_lt t
  show (128 * (t.val / 8) + b.val) % 256 = _
  omega

/-- The block of log-probabilities at a point. -/
theorem blk_lp (t : Fin cfg0.N) (b f : Fin 128) (ch : Fin 92) :
    (iblk m c 1 t : Vec Ideal S128x128x92 .f32) (ix3 f b ch) = lpsAt m c (t.val / 8) b (128 * (grid0.coords t 1).val + f.val) ch := by
  have ht := n_lt t
  have hc := coords_1 t
  have hr := row_val t b
  have hlt := (row (t.val / 8) b).isLt
  show (iblk m c 1 t : Vec Ideal S128x128x92 .f32) (ix3 f b ch) = lineLp m c _ _ ch
  unfold lineLp
  rw [dif_pos (by omega)]
  blk_simp [iblk]
  rw [emb_1 t f b ch (by omega) (by omega)]
  have e1 : (⟨t.val % 8 * 128 + f.val, by omega⟩ : Fin 1024) = ⟨128 * (grid0.coords t 1).val + f.val, by omega⟩ := Fin.ext (show t.val % 8 * 128 + f.val = 128 * (grid0.coords t 1).val + f.val by omega)
  have e2 : (⟨t.val / 8 * 128 + b.val, by omega⟩ : Fin 256) = row (t.val / 8) b := Fin.ext hr.symm
  rw [e1, e2]

theorem lineLen_row (t : Fin cfg0.N) (b : Fin 128) (h : t.val / 8 < 2) :
    lineLen m c (row (t.val / 8) b) = (V m c main_v2 : Vec Ideal S2x1x128 .i32) (ix3 ⟨t.val / 8, h⟩ 0 b) := by
  have hr := row_val t b
  unfold lineLen
  have e1 : (⟨(row (t.val / 8) b).val / 128, by omega⟩ : Fin 2) = ⟨t.val / 8, h⟩ := Fin.ext (show (row (t.val / 8) b).val / 128 = t.val / 8 by omega)
  have e2 : (⟨(row (t.val / 8) b).val % 128, by omega⟩ : Fin 128) = b := Fin.ext (show (row (t.val / 8) b).val % 128 = b.val by omega)
  rw [e1, e2]

/-- The block of lengths at a point. -/
theorem blk_len (t : Fin cfg0.N) : live (iblk m c 0 t) = liveAt m c (t.val / 8) := by
  have ht := n_lt t
  have e : ∀ b : Fin 128, (iblk m c 0 t : Vec Ideal S1x1x128 .i32) (ix3 0 0 b) = lineLen m c (row (t.val / 8) b) := fun b => by
    rw [lineLen_row m c t b (by omega)]
    blk_simp [iblk]
    rw [emb_0 t b (by omega)]
  funext b n
  show decide ((n : ℤ) < ((iblk m c 0 t : Vec Ideal S1x1x128 .i32) (ix3 0 0 b)).toInt) = decide ((n : ℤ) < (lineLen m c (row (t.val / 8) b)).toInt)
  rw [e]

/-! ## What the scratch holds between the points -/

/-- Before point `n`: within a batch block, the search after the frames of the points before. -/
def Good (n : ℕ) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) : Prop :=
  n % 8 ≠ 0 → Holds (lpsAt m c (n / 8)) (liveAt m c (n / 8)) (128 * (n % 8)) s0 s1 s2 s3 s4 ∧ Points (lpsAt m c (n / 8)) (liveAt m c (n / 8)) (128 * (n % 8)) s5

section
variable (hlp : LpOk m c) (t : Fin cfg0.N) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole)
include hlp

theorem good_next (h : t.val % 8 ≠ 7) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32)
    (g : Holds (lpsAt m c (t.val / 8)) (live (iblk m c 0 t)) (128 * (grid0.coords t 1).val + 128) s0 s1 s2 s3 s4
      ∧ Points (lpsAt m c (t.val / 8)) (live (iblk m c 0 t)) (128 * (grid0.coords t 1).val + 128) s5) :
    Good m c (t.val + 1) s0 s1 s2 s3 s4 s5 := fun h8 => by
  have e1 : (t.val + 1) / 8 = t.val / 8 := by omega
  have e2 : 128 * ((t.val + 1) % 8) = 128 * (grid0.coords t 1).val + 128 := by rw [coords_1]; omega
  rw [blk_len] at g
  rw [e1, e2]
  exact g

theorem good_A (h1 : (Scalar.cmpi .ne (Scalar.extui (Scalar.cmpi .eq (BitVec.ofNat 32 (grid0.coords t 1).val) 0#32) : BitVec 32) 0#32 = 1#1)) (h2 : ¬ (k0_cond2 (grid0.coords t) = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) :
    Good m c (t.val + 1) (kernelRunA (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).1 (kernelRunA (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.1 (kernelRunA (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.1 (kernelRunA (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.1 (kernelRunA (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.1 (kernelRunA (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.2.1 := by
  have h0 := first_zero (grid0.coords t) h1
  rw [coords_1] at h0
  exact good_next m c hlp t (by omega) _ _ _ _ _ _
    (runA_vals c (grid0.coords t) arg2 harg2 arg3 harg3 arg4 harg4 arg5 harg5 arg6 harg6 arg7 harg7 arg8 harg8 arg9 harg9 arg10 harg10 arg11 harg11 arg12 harg12 (iblk m c 0 t) (iblk m c 1 t) s0 s1 s2 s3 s4 s5 (lpsAt m c (t.val / 8)) (fun b t' c' => lineLp_ne_bot m c hlp _ t' c')
      (fun b f ch => blk_lp m c t b f ch) h1 h2)

theorem not_first (h1 : ¬ (Scalar.cmpi .ne (Scalar.extui (Scalar.cmpi .eq (BitVec.ofNat 32 (grid0.coords t 1).val) 0#32) : BitVec 32) 0#32 = 1#1)) : t.val % 8 ≠ 0 := fun h => h1 (by
  have key : ∀ a : Fin 8, a.val = 0 → Scalar.cmpi .ne (Scalar.extui (Scalar.cmpi .eq (BitVec.ofNat 32 a.val) 0#32) : BitVec 32) 0#32 = 1#1 := by decide
  exact key (grid0.coords t 1) (by rw [coords_1]; exact h))

theorem not_last (h2 : ¬ (k0_cond2 (grid0.coords t) = 1#1)) : t.val % 8 ≠ 7 := fun h => h2 (by
  have key : ∀ a : Fin 8, a.val = 7 → Scalar.cmpi .ne (Scalar.extui (Scalar.cmpi .eq (BitVec.ofNat 32 a.val) 7#32) : BitVec 32) 0#32 = 1#1 := by decide
  exact key (grid0.coords t 1) (by rw [coords_1]; exact h))

theorem good_here (h1 : ¬ (Scalar.cmpi .ne (Scalar.extui (Scalar.cmpi .eq (BitVec.ofNat 32 (grid0.coords t 1).val) 0#32) : BitVec 32) 0#32 = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) (hG : Good m c t.val s0 s1 s2 s3 s4 s5) :
    Holds (lpsAt m c (t.val / 8)) (live (iblk m c 0 t)) (128 * (grid0.coords t 1).val) s0 s1 s2 s3 s4
      ∧ Points (lpsAt m c (t.val / 8)) (live (iblk m c 0 t)) (128 * (grid0.coords t 1).val) s5 := by
  rw [blk_len, coords_1]
  exact hG (not_first m c hlp t h1)

theorem good_B (h1 : ¬ (Scalar.cmpi .ne (Scalar.extui (Scalar.cmpi .eq (BitVec.ofNat 32 (grid0.coords t 1).val) 0#32) : BitVec 32) 0#32 = 1#1)) (h2 : ¬ (k0_cond2 (grid0.coords t) = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) (hG : Good m c t.val s0 s1 s2 s3 s4 s5) :
    Good m c (t.val + 1) (kernelRunB (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).1 (kernelRunB (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.1 (kernelRunB (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.1 (kernelRunB (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.1 (kernelRunB (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.1 (kernelRunB (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.2.1 := by
  obtain ⟨g1, g2⟩ := good_here m c hlp t h1 _ _ _ _ _ _ hG
  exact good_next m c hlp t (not_last m c hlp t h2) _ _ _ _ _ _
    (runB_vals c (grid0.coords t) arg2 harg2 arg3 harg3 arg4 harg4 arg5 harg5 arg6 harg6 arg7 harg7 arg8 harg8 arg9 harg9 arg10 harg10 arg11 harg11 arg12 harg12 (iblk m c 0 t) (iblk m c 1 t) s0 s1 s2 s3 s4 s5 (lpsAt m c (t.val / 8)) (fun b t' c' => lineLp_ne_bot m c hlp _ t' c')
      (fun b f ch => blk_lp m c t b f ch) h1 h2 g1 g2)

theorem good_C (h1 : ¬ (Scalar.cmpi .ne (Scalar.extui (Scalar.cmpi .eq (BitVec.ofNat 32 (grid0.coords t 1).val) 0#32) : BitVec 32) 0#32 = 1#1)) (h2 : (k0_cond2 (grid0.coords t) = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) :
    Good m c (t.val + 1) (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.1 (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.1 (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.2.1 (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.2.2.1 (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.2.2.2.1 (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.2.2.2.2.2.2.1 := fun h8 => by
  have h0 := last_seven (grid0.coords t) h2
  rw [coords_1] at h0
  omega

end

/-- The tokens of a batch block, as its last point leaves them. -/
def tokBlk (n : ℕ) : Vec Ideal S1024x128 .i32 := fun i => (walk (lpsAt m c (n / 8) (i 1)) (liveAt m c (n / 8) (i 1)) 1024).wd (i 0).val
/-- Their number. -/
def lenBlk (n : ℕ) : Vec Ideal S1x1x128 .i32 := fun i => (rowAt (lpsAt m c (n / 8) (i 2)) (liveAt m c (n / 8) (i 2)) 1024).ln 0
/-- The best score. -/
def scBlk (n : ℕ) : Vec Ideal S1x1x128 .f32 := fun i => (rowAt (lpsAt m c (n / 8) (i 2)) (liveAt m c (n / 8) (i 2)) 1024).sc 0

theorem exists_ix2 (i : S1024x128.Idx) : ∃ (p : Fin 1024) (b : Fin 128), i = ix2 p b :=
  ⟨i 0, i 1, by funext a; fin_cases a <;> rfl⟩

theorem exists_ix3_unit (i : S1x1x128.Idx) : ∃ b : Fin 128, i = ix3 0 0 b :=
  ⟨i 2, by
    funext a
    fin_cases a
    · exact Subsingleton.elim (α := Fin 1) (i 0) 0
    · exact Subsingleton.elim (α := Fin 1) (i 1) 0
    · rfl⟩

section
variable (hlp : LpOk m c) (t : Fin cfg0.N) (arg2 : Memref sig .tc .vmem S1x1x128 .i32) (harg2 : arg2.IsWhole) (arg3 : Memref sig .tc .vmem S128x128x92 .f32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1x1x128 .f32) (harg6 : arg6.IsWhole) (arg7 : Memref sig .tc .vmem S10x128 .f32) (harg7 : arg7.IsWhole) (arg8 : Memref sig .tc .vmem S10x128 .i32) (harg8 : arg8.IsWhole) (arg9 : Memref sig .tc .vmem S10x128 .i32) (harg9 : arg9.IsWhole) (arg10 : Memref sig .tc .vmem S10x128 .i32) (harg10 : arg10.IsWhole) (arg11 : Memref sig .tc .vmem S10x128 .i32) (harg11 : arg11.IsWhole) (arg12 : Memref sig .tc .vmem S1024x10x128 .i32) (harg12 : arg12.IsWhole)
include hlp

theorem out_tok (h1 : ¬ (Scalar.cmpi .ne (Scalar.extui (Scalar.cmpi .eq (BitVec.ofNat 32 (grid0.coords t 1).val) 0#32) : BitVec 32) 0#32 = 1#1)) (h2 : (k0_cond2 (grid0.coords t) = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) (hG : Good m c t.val s0 s1 s2 s3 s4 s5) :
    (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).1 = tokBlk m c t.val := by
  obtain ⟨g1, g2⟩ := good_here m c hlp t h1 _ _ _ _ _ _ hG
  funext i
  obtain ⟨p, b, rfl⟩ := exists_ix2 i
  rw [runC_tok c (grid0.coords t) arg2 harg2 arg3 harg3 arg4 harg4 arg5 harg5 arg6 harg6 arg7 harg7 arg8 harg8 arg9 harg9 arg10 harg10 arg11 harg11 arg12 harg12 (iblk m c 0 t) (iblk m c 1 t) s0 s1 s2 s3 s4 s5 (lpsAt m c (t.val / 8)) (fun b t' c' => lineLp_ne_bot m c hlp _ t' c')
      (fun b f ch => blk_lp m c t b f ch) h1 h2 g1 g2 b p, blk_len]
  rfl

theorem out_len (h1 : ¬ (Scalar.cmpi .ne (Scalar.extui (Scalar.cmpi .eq (BitVec.ofNat 32 (grid0.coords t 1).val) 0#32) : BitVec 32) 0#32 = 1#1)) (h2 : (k0_cond2 (grid0.coords t) = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) (hG : Good m c t.val s0 s1 s2 s3 s4 s5) :
    (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.1 = lenBlk m c t.val := by
  obtain ⟨g1, g2⟩ := good_here m c hlp t h1 _ _ _ _ _ _ hG
  funext i
  obtain ⟨b, rfl⟩ := exists_ix3_unit i
  rw [runC_len c (grid0.coords t) arg2 harg2 arg3 harg3 arg4 harg4 arg5 harg5 arg6 harg6 arg7 harg7 arg8 harg8 arg9 harg9 arg10 harg10 arg11 harg11 arg12 harg12 (iblk m c 0 t) (iblk m c 1 t) s0 s1 s2 s3 s4 s5 (lpsAt m c (t.val / 8)) (fun b t' c' => lineLp_ne_bot m c hlp _ t' c')
      (fun b f ch => blk_lp m c t b f ch) h1 h2 g1 g2 b, blk_len]
  rfl

theorem out_sc (h1 : ¬ (Scalar.cmpi .ne (Scalar.extui (Scalar.cmpi .eq (BitVec.ofNat 32 (grid0.coords t 1).val) 0#32) : BitVec 32) 0#32 = 1#1)) (h2 : (k0_cond2 (grid0.coords t) = 1#1)) (s0 : Vec Ideal S10x128 .f32) (s1 : Vec Ideal S10x128 .i32) (s2 : Vec Ideal S10x128 .i32) (s3 : Vec Ideal S10x128 .i32) (s4 : Vec Ideal S10x128 .i32) (s5 : Vec Ideal S1024x10x128 .i32) (hG : Good m c t.val s0 s1 s2 s3 s4 s5) :
    (kernelRunC (F := Ideal) c (grid0.coords t) arg2 harg2 arg3 harg3 arg4 harg4 arg5 harg5 arg6 harg6 arg7 harg7 arg8 harg8 arg9 harg9 arg10 harg10 arg11 harg11 arg12 harg12 h1 h2 (iblk m c 0 t) (iblk m c 1 t) s0 s1 s2 s3 s4 s5).2.2.1 = scBlk m c t.val := by
  obtain ⟨g1, g2⟩ := good_here m c hlp t h1 _ _ _ _ _ _ hG
  funext i
  obtain ⟨b, rfl⟩ := exists_ix3_unit i
  rw [runC_best c (grid0.coords t) arg2 harg2 arg3 harg3 arg4 harg4 arg5 harg5 arg6 harg6 arg7 harg7 arg8 harg8 arg9 harg9 arg10 harg10 arg11 harg11 arg12 harg12 (iblk m c 0 t) (iblk m c 1 t) s0 s1 s2 s3 s4 s5 (lpsAt m c (t.val / 8)) (fun b t' c' => lineLp_ne_bot m c hlp _ t' c')
      (fun b f ch => blk_lp m c t b f ch) h1 h2 g1 g2 b, blk_len]
  rfl

end

/-! ## The run -/

/-- The scratch before point `n`. -/
def phi (n : ℕ) : sProp 𝕄 :=
  iprop((∃ s0 : Vec Ideal S10x128 .f32, ∃ s1 : Vec Ideal S10x128 .i32, ∃ s2 : Vec Ideal S10x128 .i32, ∃ s3 : Vec Ideal S10x128 .i32, ∃ s4 : Vec Ideal S10x128 .i32, ∃ s5 : Vec Ideal S1024x10x128 .i32, (⌜Good m c n s0 s1 s2 s3 s4 s5⌝ ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5)) ∗ ∃ r, prngReg c r)

/-- The proof data of the run with its values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tokBlk m c t.val
    | ⟨3, _⟩ => lenBlk m c t.val
    | ⟨4, _⟩ => scBlk m c t.val
  Φ n := phi m c n.val
  q _ := fullShare
  owed _ := 0

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = tokBlk m c t.val := by dsimp only [dats]
theorem after_3 (t : Fin cfg0.N) : (dats m 0 c).after 3 t = lenBlk m c t.val := by dsimp only [dats]
theorem after_4 (t : Fin cfg0.N) : (dats m 0 c).after 4 t = scBlk m c t.val := by dsimp only [dats]
theorem before_0 (t : Fin cfg0.N) (d) : (dats m 0 c).before 0 t d = iblk m c 0 t :=
  before0_0_of m (dats m 0 c) rfl (after_0 m c) t d
theorem before_1 (t : Fin cfg0.N) (d) : (dats m 0 c).before 1 t d = iblk m c 1 t :=
  before0_1_of m (dats m 0 c) rfl (after_1 m c) t d

theorem idle_of (w : Fin 5) (hw : 2 ≤ w.val) (t : Fin cfg0.N) (h2 : ¬ (k0_cond2 (grid0.coords t) = 1#1)) : cfg0.idle w (cfg0.grid.coords t) = true := by
  have : (!(k0_cond2 (grid0.coords t) == 1#1)) = true := by simp [h2]
  fin_cases w
  · simp at hw
  · simp at hw
  all_goals exact this

theorem busy_of (w : Fin 5) (t : Fin cfg0.N) (h2 : (k0_cond2 (grid0.coords t) = 1#1)) : cfg0.idle w (cfg0.grid.coords t) = false := by
  have : (!(k0_cond2 (grid0.coords t) == 1#1)) = false := by simp [h2]
  fin_cases w
  · rfl
  · rfl
  all_goals exact this

theorem keep_2 (t : Fin cfg0.N) (h : t.val % 8 ≠ 7) : (cfg0.win 2).flush t = false := by
  rw [Bool.eq_false_iff]; exact fun e => h ((flush0_2 t).1 e)
theorem keep_3 (t : Fin cfg0.N) (h : t.val % 8 ≠ 7) : (cfg0.win 3).flush t = false := by
  rw [Bool.eq_false_iff]; exact fun e => h ((flush0_3 t).1 e)
theorem keep_4 (t : Fin cfg0.N) (h : t.val % 8 ≠ 7) : (cfg0.win 4).flush t = false := by
  rw [Bool.eq_false_iff]; exact fun e => h ((flush0_4 t).1 e)

/-- The body at each point. -/
theorem body_obligation (hlp : LpOk m c) : BodyObligation (dats m 0 c) (defs₀ (F := Ideal)) 𝒱₀ () Set.univ := fun t => by
  rw [bigSep_W0, bigSep_W0]
  sl_whnfR [defs₀, Defs.onTc]
  rw [show (dats m 0 c).Φ t.succ = phi m c (t.val + 1) from rfl, show (dats m 0 c).Φ t.castSucc = phi m c t.val from rfl,
    show (dats m 0 c).owesAt () t.succ = (dats m 0 c).owesAt () t.castSucc from rfl, after_0, after_1, after_2, after_3, after_4]
  unfold phi
  iintro ⟨⟨⟨%s0, %s1, %s2, %s3, %s4, %s5, %hG, S0, S1, S2, S3, S4, S5⟩, Hp⟩, Ho, ⟨%d0, H2⟩, ⟨%d1, H3⟩, ⟨%d2, H4⟩, ⟨%d3, H5⟩, ⟨%d4, H6⟩⟩
  rw [before_0 m c t d0, before_1 m c t d1]
  by_cases h1 : (Scalar.cmpi .ne (Scalar.extui (Scalar.cmpi .eq (BitVec.ofNat 32 (grid0.coords t 1).val) 0#32) : BitVec 32) 0#32 = 1#1)
  · have h2 := first_not_last (grid0.coords t) h1
    have hl := not_last m c hlp t h2
    try rw [idle_of 2 (by decide) t h2]
    try rw [idle_of 3 (by decide) t h2]
    try rw [idle_of 4 (by decide) t h2]
    rw [keep_2 t hl, keep_3 t hl, keep_4 t hl]
    dsimp only
    iapply ((kernelRunA (F := Ideal) c (grid0.coords t) _ _ _ _ _ _ _ _ _ _ _ _ _ _ _ _ _ _ _ _ _ _ h1 h2 (iblk m c 0 t) (iblk m c 1 t) s0 s1 s2 s3 s4 s5).2.2.2.2.2.2 Set.univ _)
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    iintro ⟨H2, H3, S0, S1, S2, S3, S4, S5⟩
    isplitl [S0 S1 S2 S3 S4 S5 Hp]
    · isplitr [Hp]
      · iexists _; iexists _; iexists _; iexists _; iexists _; iexists _
        isplitr
        rotate_left
        · isplitl [S0]; · iexact S0
          isplitl [S1]; · iexact S1
          isplitl [S2]; · iexact S2
          isplitl [S3]; · iexact S3
          isplitl [S4]; · iexact S4
          iexact S5
        · ipureintro; exact good_A m c hlp t _ _ _ _ _ _ _ _ _ _ _ _ _ _ _ _ _ _ _ _ _ _ h1 h2 s0 s1 s2 s3 s4 s5
      iexact Hp
    isplitl [Ho]; · iexact Ho
    isplitl [H2]; · iexact H2
    isplitl [H3]; · iexact H3
    isplitl [H4]; · iexists _; iexact H4
    isplitl [H5]; · iexists _; iexact H5
    iexists _; iexact H6
  by_cases h2 : (k0_cond2 (grid0.coords t) = 1#1)
  · try rw [busy_of 2 t h2]
    try rw [busy_of 3 t h2]
    try rw [busy_of 4 t h2]
    dsimp only
    iapply ((kernelRunC (F := Ideal) c (grid0.coords t) _ _ _ _ _ _ _ _ _ _ _ _ _ _ _ _ _ _ _ _ _ _ h1 h2 (iblk m c 0 t) (iblk m c 1 t) s0 s1 s2 s3 s4 s5).2.2.2.2.2.2.2.2.2 Set.univ _)
    isplitl [H2]; · iexact H2
    isplitl [H3]; · iexact H3
    isplitl [H4]; · iexists _; iexact H4
    isplitl [H5]; · iexists _; iexact H5
    isplitl [H6]; · iexists _; iexact H6
    isplitl [S0]; · iexact S0
    isplitl [S1]; · iexact S1
    isplitl [S2]; · iexact S2
    isplitl [S3]; · iexact S3
    isplitl [S4]; · iexact S4
    isplitl [S5]; · iexact S5
    iintro ⟨H2, H3, H4, H5, H6, S0, S1, S2, S3, S4, S5⟩
    isplitl [S0 S1 S2 S3 S4 S5 Hp]
    · isplitr [Hp]
      · iexists _; iexists _; iexists _; iexists _; iexists _; iexists _
        isplitr
        rotate_left
        · isplitl [S0]; · iexact S0
          isplitl [S1]; · iexact S1
          isplitl [S2]; · iexact S2
          isplitl [S3]; · iexact S3
          isplitl [S4]; · iexact S4
          iexact S5
        · ipureintro; exact good_C m c hlp t _ _ _ _ _ _ _ _ _ _ _ _ _ _ _ _ _ _ _ _ _ _ h1 h2 s0 s1 s2 s3 s4 s5
      iexact Hp
    isplitl [Ho]; · iexact Ho
    isplitl [H2]; · iexact H2
    isplitl [H3]; · iexact H3
    rw [← out_tok m c hlp t _ _ _ _ _ _ _ _ _ _ _ _ _ _ _ _ _ _ _ _ _ _ h1 h2 s0 s1 s2 s3 s4 s5 hG, ← out_len m c hlp t _ _ _ _ _ _ _ _ _ _ _ _ _ _ _ _ _ _ _ _ _ _ h1 h2 s0 s1 s2 s3 s4 s5 hG, ← out_sc m c hlp t _ _ _ _ _ _ _ _ _ _ _ _ _ _ _ _ _ _ _ _ _ _ h1 h2 s0 s1 s2 s3 s4 s5 hG]
    isplitl [H4]; · iexact H4
    isplitl [H5]; · iexact H5
    iexact H6
  · have hl := not_last m c hlp t h2
    try rw [idle_of 2 (by decide) t h2]
    try rw [idle_of 3 (by decide) t h2]
    try rw [idle_of 4 (by decide) t h2]
    rw [keep_2 t hl, keep_3 t hl, keep_4 t hl]
    dsimp only
    iapply ((kernelRunB (F := Ideal) c (grid0.coords t) _ _ _ _ _ _ _ _ _ _ _ _ _ _ _ _ _ _ _ _ _ _ h1 h2 (iblk m c 0 t) (iblk m c 1 t) s0 s1 s2 s3 s4 s5).2.2.2.2.2.2 Set.univ _)
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    iintro ⟨H2, H3, S0, S1, S2, S3, S4, S5⟩
    isplitl [S0 S1 S2 S3 S4 S5 Hp]
    · isplitr [Hp]
      · iexists _; iexists _; iexists _; iexists _; iexists _; iexists _
        isplitr
        rotate_left
        · isplitl [S0]; · iexact S0
          isplitl [S1]; · iexact S1
          isplitl [S2]; · iexact S2
          isplitl [S3]; · iexact S3
          isplitl [S4]; · iexact S4
          iexact S5
        · ipureintro; exact good_B m c hlp t _ _ _ _ _ _ _ _ _ _ _ _ _ _ _ _ _ _ _ _ _ _ h1 h2 s0 s1 s2 s3 s4 s5 hG
      iexact Hp
    isplitl [Ho]; · iexact Ho
    isplitl [H2]; · iexact H2
    isplitl [H3]; · iexact H3
    isplitl [H4]; · iexists _; iexact H4
    isplitl [H5]; · iexists _; iexact H5
    iexists _; iexact H6

theorem phi_in : ΦA spec0 c ⊢ (dats m 0 c).Φ 0 := by
  rw [show (dats m 0 c).Φ 0 = phi m c 0 from rfl]
  unfold Pipeline.ΦA phi
  rw [scopedRest0_owns]
  iintro ⟨⟨⟨%s0, S0⟩, ⟨%s1, S1⟩, ⟨%s2, S2⟩, ⟨%s3, S3⟩, ⟨%s4, S4⟩, ⟨%s5, S5⟩⟩, Hp⟩
  isplitr [Hp]
  · iexists s0; iexists s1; iexists s2; iexists s3; iexists s4; iexists s5
    isplitr
    rotate_left
    · isplitl [S0]; · iexact S0
      isplitl [S1]; · iexact S1
      isplitl [S2]; · iexact S2
      isplitl [S3]; · iexact S3
      isplitl [S4]; · iexact S4
      iexact S5
    · ipureintro; exact fun h => absurd rfl h
  iexact Hp

theorem phi_out : (dats m 0 c).Φ (Fin.last cfg0.N) ⊢ ΦA spec0 c := by
  rw [show (dats m 0 c).Φ (Fin.last cfg0.N) = phi m c cfg0.N from rfl]
  unfold Pipeline.ΦA phi
  rw [scopedRest0_owns]
  iintro ⟨⟨%s0, %s1, %s2, %s3, %s4, %s5, %hG, S0, S1, S2, S3, S4, S5⟩, Hp⟩
  isplitr [Hp]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hp

set_option backward.isDefEq.respectTransparency.types false in
/-- Every fair execution ends, each array at what the points wrote back. -/
theorem run_main (hlp : ∀ c, LpOk m c) : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ 𝒱₀ m ρ main
    (hbody := fun c => (body_obligation m c (hlp c)).loose) (hshare := fun c => (dats m 0 c).share_full fun _ => rfl)
    (howed := fun _ _ => rfl) (V₀ := V0 m) (opss := [hostOps1]) sfx_sub sfx_fresh sfx_keeps (hmain m 𝒱₀)
    (hA := fun _ _ => rfl) (hin := fun c => phi_in m c) (hout := fun c => phi_out m c) (Q' := _)

end Cert.Proof.KernelIdeal

end
-- ==== Proof.KernelIdeal.Out.lean ====
/-
  The kernel's results after its run: every array at the words that the search of each line ends with.
-/
module

public import proofs.«01_k».proof.Proof.KernelIdeal.Value
public import Idealize.ShloMosaic.Lib.StableHlo.RunClose
public import Idealize.ShloMosaic.Lib.StableHlo.RunRead

@[expose] public section

set_option maxRecDepth 65536
set_option maxHeartbeats 4000000

noncomputable section

namespace Cert.Proof.KernelIdeal

open Cert.KernelIdeal Cert.KernelIdeal.Gen

open Idealize.ShloMosaic Idealize.ShloMosaic.TcCoe Idealize.ShloMosaic.Tactic Idealize.ShloMosaic.StableHlo
open Idealize.SL.Sem
open Idealize.ShloMosaic.Pipeline (Dat)
open Cert.Proof.Beam (rowAt walk Row)

variable (m : (ℓ : Loc nD τ sig) → Buf (Elt Ideal) ℓ) (ρ : Dev nD → PrngReg) (c : Dev nD)

/-- The token words, position by line. -/
def tokArr : Vec Ideal S1024x256 .i32 := fun i => (walk (lineLp m c (i 1)) (lineLive m c (i 1)) 1024).wd (i 0).val

/-- The line a block's lane is. -/
def lineOf (i : S2x1x128.Idx) : Fin 256 := row (i 0).val (i 2)

def lenArr : Vec Ideal S2x1x128 .i32 := fun i => (rowAt (lineLp m c (lineOf i)) (lineLive m c (lineOf i)) 1024).ln 0

def scArr : Vec Ideal S2x1x128 .f32 := fun i => (rowAt (lineLp m c (lineOf i)) (lineLive m c (lineOf i)) 1024).sc 0

theorem arr_tok : (dats m 0 c).arrAt 2 cfg0.N = tokArr m c := by
  refine (dats m 0 c).arrAt_eq_of_covers 2 _ (by decide +kernel) fun t hf y => ?_
  obtain ⟨p, b, rfl⟩ := exists_ix2 y
  have hr := row_val t b
  have hlt := (row (t.val / 8) b).isLt
  blk_simp
  rw [after_2, emb_2 t p b (by omega)]
  have e : (⟨t.val / 8 * 128 + b.val, by omega⟩ : Fin 256) = row (t.val / 8) b := Fin.ext hr.symm
  rw [e]
  rfl

theorem arr_len : (dats m 0 c).arrAt 3 cfg0.N = lenArr m c := by
  refine (dats m 0 c).arrAt_eq_of_covers 3 _ (by decide +kernel) fun t hf y => ?_
  obtain ⟨b, rfl⟩ := exists_ix3_unit y
  have ht := n_lt t
  blk_simp
  rw [after_3, emb_3 t b (by omega)]
  rfl

theorem arr_sc : (dats m 0 c).arrAt 4 cfg0.N = scArr m c := by
  refine (dats m 0 c).arrAt_eq_of_covers 4 _ (by decide +kernel) fun t hf y => ?_
  obtain ⟨b, rfl⟩ := exists_ix3_unit y
  have ht := n_lt t
  blk_simp
  rw [after_4, emb_4 t b (by omega)]
  rfl

/-! ## The results, after the last host operations -/

theorem exit_tok : Pipeline.withArrays spec0 c (V0 m c) (fun w => (dats m 0 c).arrAt w cfg0.N) (Proc.devRef .tc main_v3_0) = tokArr m c :=
  (Pipeline.withArrays_arr spec0 (by decide) c (V0 m c) _ 2).trans (arr_tok m c)
theorem exit_len : Pipeline.withArrays spec0 c (V0 m c) (fun w => (dats m 0 c).arrAt w cfg0.N) (Proc.devRef .tc main_v3_1) = lenArr m c :=
  (Pipeline.withArrays_arr spec0 (by decide) c (V0 m c) _ 3).trans (arr_len m c)
theorem exit_sc : Pipeline.withArrays spec0 c (V0 m c) (fun w => (dats m 0 c).arrAt w cfg0.N) (Proc.devRef .tc main_v3_2) = scArr m c :=
  (Pipeline.withArrays_arr spec0 (by decide) c (V0 m c) _ 4).trans (arr_sc m c)

theorem last_tok (B : Fin 256) (p : Fin 1024) :
    (Pipeline.afterTail₀ cfgs (dats m) 0 (V0 m) [hostOps1] c main_v4 : IVec S256x1024 32) (ix2 B p)
      = (walk (lineLp m c B) (lineLive m c B) 1024).wd p.val := by
  have h := exit_tok m c
  unfold Pipeline.afterTail₀
  change (StableHlo.after [hostOps1].flatten (Pipeline.withArrays spec0 c (V0 m c) (fun w => (dats m 0 c).arrAt w cfg0.N)) (Proc.devRef .tc main_v4) : IVec S256x1024 32) (ix2 B p) = _
  generalize Pipeline.withArrays spec0 c (V0 m c) (fun w => (dats m 0 c).arrAt w cfg0.N) = W at h ⊢
  have hw : StableHlo.after [hostOps1].flatten W (Proc.devRef .tc main_v4) = transpose S256x1024 [1, 0] (W (Proc.devRef .tc main_v3_0)) transposes_S1024x256_S256x1024_1_0 := by
    simp only [hostOps1, List.flatten_cons, List.flatten_nil, List.append_nil]
    after_results_entrywise [cast_eq]
  rw [hw, h]
  rfl

theorem lineOf_val (B : Fin 256) (h1 : B.val / 128 < 2) (h2 : B.val % 128 < 128) : lineOf (ix3 ⟨B.val / 128, h1⟩ 0 ⟨B.val % 128, h2⟩) = B := by
  refine Fin.ext ?_
  show (128 * (B.val / 128) + B.val % 128) % 256 = B.val
  have := B.isLt
  omega

theorem last_len (B : Fin 256) :
    (Pipeline.afterTail₀ cfgs (dats m) 0 (V0 m) [hostOps1] c main_v5 : IVec S256 32) (ix1 B)
      = (rowAt (lineLp m c B) (lineLive m c B) 1024).ln 0 := by
  have h := exit_len m c
  unfold Pipeline.afterTail₀
  change (StableHlo.after [hostOps1].flatten (Pipeline.withArrays spec0 c (V0 m c) (fun w => (dats m 0 c).arrAt w cfg0.N)) (Proc.devRef .tc main_v5) : IVec S256 32) (ix1 B) = _
  generalize Pipeline.withArrays spec0 c (V0 m c) (fun w => (dats m 0 c).arrAt w cfg0.N) = W at h ⊢
  have hw : StableHlo.after [hostOps1].flatten W (Proc.devRef .tc main_v5) = shapeCast S256 (W (Proc.devRef .tc main_v3_1)) shapeCasts_S2x1x128_S256 := by
    simp only [hostOps1, List.flatten_cons, List.flatten_nil, List.append_nil]
    after_results_entrywise [cast_eq]
  rw [hw, h]
  have hl : ∀ (h1 : B.val / 128 < 2) (h2 : B.val % 128 < 128), lenArr m c (ix3 ⟨B.val / 128, h1⟩ 0 ⟨B.val % 128, h2⟩) = (rowAt (lineLp m c B) (lineLive m c B) 1024).ln 0 := by
    intro h1 h2
    unfold lenArr
    rw [lineOf_val]
  generalize lenArr m c = z at hl ⊢
  change Vec Ideal S2x1x128 .i32 at z
  pointwise []
  exact hl _ _

theorem last_sc (B : Fin 256) :
    (Pipeline.afterTail₀ cfgs (dats m) 0 (V0 m) [hostOps1] c main_v6 : FVec Ideal S256 .f32) (ix1 B)
      = (rowAt (lineLp m c B) (lineLive m c B) 1024).sc 0 := by
  have h := exit_sc m c
  unfold Pipeline.afterTail₀
  change (StableHlo.after [hostOps1].flatten (Pipeline.withArrays spec0 c (V0 m c) (fun w => (dats m 0 c).arrAt w cfg0.N)) (Proc.devRef .tc main_v6) : FVec Ideal S256 .f32) (ix1 B) = _
  generalize Pipeline.withArrays spec0 c (V0 m c) (fun w => (dats m 0 c).arrAt w cfg0.N) = W at h ⊢
  have hw : StableHlo.after [hostOps1].flatten W (Proc.devRef .tc main_v6) = shapeCast S256 (W (Proc.devRef .tc main_v3_2)) shapeCasts_S2x1x128_S256 := by
    simp only [hostOps1, List.flatten_cons, List.flatten_nil, List.append_nil]
    after_results_entrywise [cast_eq]
  rw [hw, h]
  have hl : ∀ (h1 : B.val / 128 < 2) (h2 : B.val % 128 < 128), scArr m c (ix3 ⟨B.val / 128, h1⟩ 0 ⟨B.val % 128, h2⟩) = (rowAt (lineLp m c B) (lineLive m c B) 1024).sc 0 := by
    intro h1 h2
    unfold scArr
    rw [lineOf_val]
  generalize scArr m c = z at hl ⊢
  change Vec Ideal S2x1x128 .f32 at z
  pointwise []
  exact hl _ _

/-! ## What the kernel is handed -/

theorem lineLen_val (B : Fin 256) : lineLen m c B = (m ((c.tc : Thread nD τ).loc main_arg1) : IVec S256 32) (ix1 B) := by
  unfold lineLen
  have hw : V m c main_v2 = shapeCast S2x1x128 (m ((c.tc : Thread nD τ).loc main_arg1)) shapeCasts_S256_S2x1x128 := by
    show StableHlo.after [hostOps0, hostOps0_1].flatten (fun b => m (c, b)) (Proc.devRef .tc main_v2) = _
    simp only [hostOps0, hostOps0_1, List.flatten_cons, List.flatten_nil, List.append_nil, List.cons_append, List.nil_append]
    after_results_entrywise [cast_eq]
  rw [hw]
  generalize (m ((c.tc : Thread nD τ).loc main_arg1) : IVec S256 32) = z
  change IVec S256 32 at z
  pointwise []

end Cert.Proof.KernelIdeal

end
-- ==== Proof.LogDefs.lean ====
/-
  The log-probabilities of the logits, as both programs compute them.
-/
module

public import proofs.«01_k».proof.Proof.KernelIdeal.Out

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic Idealize.ShloMosaic.StableHlo

/-- The greatest logit of every line and frame. -/
def greatest (x : FVec Ideal S256x1024x92 .f32) : FVec Ideal S256x1024 .f32 :=
  maximumf (broadcastInDim S256x1024 ![] bcast_S_S256x1024 (constant S_ .f32 0xFF800000#32))
    (Host.reduce FloatOps.maximumf x (constant S_ .f32 0xFF800000#32) reducesTo_S256x1024x92_S256x1024_d2 h_S_)

/-- The logits less the greatest. -/
def shifted (x : FVec Ideal S256x1024x92 .f32) : FVec Ideal S256x1024x92 .f32 :=
  subf x (broadcastInDim S256x1024x92 ![0, 1, 2] bcast_S256x1024x1_S256x1024x92_0_1_2
    (broadcastInDim S256x1024x1 ![0, 1] bcast_S256x1024_S256x1024x1_0_1 (greatest x)))

/-- The sum of their exponentials. -/
def mass (x : FVec Ideal S256x1024x92 .f32) : FVec Ideal S256x1024 .f32 :=
  Host.reduceAdd (Host.exp (shifted x)) (constant S_ .f32 0x00000000#32) reducesTo_S256x1024x92_S256x1024_d2 h_S_

/-- The log-probabilities, line by frame. -/
def logProbs (x : FVec Ideal S256x1024x92 .f32) : FVec Ideal S256x1024x92 .f32 :=
  subf (shifted x) (broadcastInDim S256x1024x92 ![0, 1, 2] bcast_S256x1024x1_S256x1024x92_0_1_2
    (Host.log (broadcastInDim S256x1024x1 ![0, 1] bcast_S256x1024_S256x1024x1_0_1 (mass x))))

/-- The table, frame by line. -/
def table (x : FVec Ideal S256x1024x92 .f32) : FVec Ideal S1024x256x92 .f32 :=
  transpose S1024x256x92 [1, 0, 2] (logProbs x) transposes_S256x1024x92_S1024x256x92_1_0_2

end Cert.Proof

end
-- ==== Proof.LogProbs.lean ====
/-
  Of finite logits, no log-probability is −∞.
-/
module

public import proofs.«01_k».proof.Proof.LogDefs

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic Idealize.ShloMosaic.StableHlo

/-! ## Of finite logits, no log-probability is −∞ -/

theorem pinf_eq : (FloatOps.ofBits (F := Ideal) .f32 0x7F800000#32 : EReal) = ⊤ := by
  show Ideal.ofBits .f32 0x7F800000#32 = ⊤
  simp [Ideal.ofBits, Ideal.ieee]

theorem sum_ne_top {κ : Type} (s : Finset κ) (f : κ → EReal) (h : ∀ k, f k ≠ ⊤) : ∑ k ∈ s, f k ≠ ⊤ :=
  Finset.sum_induction f (· ≠ ⊤) (fun _ _ ha hb => EReal.add_ne_top ha hb) EReal.zero_ne_top (fun k _ => h k)

theorem log_ne_top (x : EReal) (h : x ≠ ⊤) : Ideal.log x ≠ ⊤ := by
  induction x with
  | bot => exact bot_ne_top
  | top => exact absurd rfl h
  | coe r =>
    rw [Ideal.log_coe]
    split
    · exact bot_ne_top
    · exact EReal.coe_ne_top _

theorem exp_ne_top (x : EReal) (h : x ≠ ⊤) : Ideal.exp x ≠ ⊤ := by
  induction x with
  | bot => exact EReal.zero_ne_top
  | top => exact absurd rfl h
  | coe r => exact EReal.coe_ne_top _

theorem sub_ne_bot {x y : EReal} (hx : x ≠ ⊥) (hy : y ≠ ⊤) : x - y ≠ ⊥ := by
  rw [sub_eq_add_neg]
  exact EReal.add_ne_bot_iff.mpr ⟨hx, fun e => hy (EReal.neg_eq_bot_iff.mp e)⟩

theorem sub_ne_top {x y : EReal} (hx : x ≠ ⊤) (hy : y ≠ ⊥) : x - y ≠ ⊤ := by
  rw [sub_eq_add_neg]
  exact EReal.add_ne_top hx fun e => hy (EReal.neg_eq_top_iff.mp e)

/-- The greatest of a nonempty set of finite values is finite. -/
theorem fold_max_finite {ι : Type} [DecidableEq ι] (f : ι → EReal) (hb : ∀ i, f i ≠ ⊥) (ht : ∀ i, f i ≠ ⊤) (s : Finset ι) :
    s.fold max (⊥ : EReal) f ≠ ⊤ ∧ ∀ i ∈ s, s.fold max (⊥ : EReal) f ≠ ⊥ := by
  induction s using Finset.induction_on with
  | empty => exact ⟨bot_ne_top, fun k hk => absurd hk (Finset.notMem_empty k)⟩
  | insert a s ha ih =>
    rw [Finset.fold_insert ha]
    refine ⟨fun e => ?_, fun _ _ e => hb a (le_bot_iff.mp (e ▸ le_max_left _ _))⟩
    rcases max_choice (f a) (s.fold max (⊥ : EReal) f) with g | g
    · exact ht _ (g.symm.trans e)
    · exact ih.1 (g.symm.trans e)

/-- So a maximum taken along axes, from −∞, is finite wherever some index reduces there. -/
theorem reduce_max_finite {s t u : Shape} {axes : List (Fin s.rank)} (x : FVec Ideal s .f32) (z : FVec Ideal u .f32)
    (h : s.ReducesTo axes t) (hu : 0 < u.numel) (hz : (z (Shape.Idx.first hu) : EReal) = ⊥)
    (hb : ∀ i, (x i : EReal) ≠ ⊥) (ht : ∀ i, (x i : EReal) ≠ ⊤) (j : t.Idx) (i : s.Idx) (hi : h.drop i = j) :
    (Host.reduce (FloatOps.maximumf (F := Ideal) (φ := .f32)) x z h hu j : EReal) ≠ ⊥
      ∧ (Host.reduce (FloatOps.maximumf (F := Ideal) (φ := .f32)) x z h hu j : EReal) ≠ ⊤ := by
  classical
  have e : (Host.reduce (FloatOps.maximumf (F := Ideal) (φ := .f32)) x z h hu j : EReal)
      = (Finset.univ.filter fun i => h.drop i = j).fold max (z (Shape.Idx.first hu) : EReal) x :=
    Host.reduce_eq_fold (α := EReal) max x z h hu j
  rw [e, hz]
  have g := fold_max_finite (fun i => (x i : EReal)) hb ht (Finset.univ.filter fun i => h.drop i = j)
  exact ⟨g.2 i (Finset.mem_filter.mpr ⟨Finset.mem_univ i, hi⟩), g.1⟩

/-- The constant −∞ is −∞ everywhere. -/
theorem const_bot {u : Shape} (k : u.Idx) : (constant (F := Ideal) u .f32 0xFF800000#32 k : EReal) = ⊥ := KernelIdeal.ninf_eq

/-- The greater of −∞ and a finite value is finite. -/
theorem max_floor {t : Shape} (a b : FVec Ideal t .f32) (j : t.Idx) (ha : (a j : EReal) = ⊥)
    (hb : (b j : EReal) ≠ ⊥ ∧ (b j : EReal) ≠ ⊤) : (maximumf a b j : EReal) ≠ ⊥ ∧ (maximumf a b j : EReal) ≠ ⊤ := by
  have e : (maximumf a b j : EReal) = b j := by
    show max (a j : EReal) (b j) = b j
    rw [ha, max_eq_right bot_le]
  rw [e]
  exact hb

/-- A sum along axes, from a value below +∞, stays below it. -/
theorem reduce_add_ne_top {s t u : Shape} {axes : List (Fin s.rank)} (x : FVec Ideal s .f32) (z : FVec Ideal u .f32)
    (h : s.ReducesTo axes t) (hu : 0 < u.numel) (hz : (z (Shape.Idx.first hu) : EReal) ≠ ⊤)
    (ht : ∀ i, (x i : EReal) ≠ ⊤) (j : t.Idx) : (Host.reduceAdd x z h hu j : EReal) ≠ ⊤ :=
  EReal.add_ne_top hz (sum_ne_top (Finset.univ.filter fun i => h.drop i = j) (fun i => (x i : EReal)) ht)

/-- A broadcast reads one of its operand's elements. -/
theorem broadcast_reads {s t : Shape} {α : Type} (dims : Fin s.rank → Fin t.rank) (h : s.BroadcastsInDim t dims) (x : s.Idx → α)
    (j : t.Idx) : ∃ k, broadcastInDim t dims h x j = x k := ⟨_, rfl⟩

/-- So does a transposition. -/
theorem transpose_reads {s t : Shape} {α : Type} (perm : List (Fin s.rank)) (x : s.Idx → α) (h : s.Transposes perm t)
    (j : t.Idx) : ∃ k, transpose t perm x h j = x k := ⟨_, rfl⟩

/-- Every line and frame has a logit. -/
theorem drop_hit (j : S256x1024.Idx) : ∃ i : S256x1024x92.Idx, reducesTo_S256x1024x92_S256x1024_d2.drop i = j := by
  refine ⟨ix3 (j 0) (j 1) 0, ?_⟩
  funext a
  fin_cases a <;> rfl

section
variable (x : FVec Ideal S256x1024x92 .f32) (hb : ∀ i, (x i : EReal) ≠ ⊥) (ht : ∀ i, (x i : EReal) ≠ ⊤)
include hb ht

theorem greatest_finite (j : S256x1024.Idx) : (greatest x j : EReal) ≠ ⊥ ∧ (greatest x j : EReal) ≠ ⊤ := by
  obtain ⟨i, hi⟩ := drop_hit j
  unfold greatest
  refine max_floor _ _ j ?_ (reduce_max_finite x _ _ _ (const_bot _) hb ht j i hi)
  obtain ⟨k, hk⟩ := broadcast_reads ![] bcast_S_S256x1024 (constant (F := Ideal) S_ .f32 0xFF800000#32) j
  exact hk.trans (const_bot k)

theorem shifted_finite (i : S256x1024x92.Idx) : (shifted x i : EReal) ≠ ⊥ ∧ (shifted x i : EReal) ≠ ⊤ := by
  obtain ⟨k, hk⟩ := broadcast_reads ![0, 1, 2] bcast_S256x1024x1_S256x1024x92_0_1_2
    (broadcastInDim S256x1024x1 ![0, 1] bcast_S256x1024_S256x1024x1_0_1 (greatest x)) i
  obtain ⟨l, hl⟩ := broadcast_reads ![0, 1] bcast_S256x1024_S256x1024x1_0_1 (greatest x) k
  have h := greatest_finite x hb ht l
  have e : (shifted x i : EReal) = (x i : EReal) - greatest x l := congrArg (fun y : EReal => (x i : EReal) - y) (hk.trans hl)
  rw [e]
  exact ⟨sub_ne_bot (hb _) h.2, sub_ne_top (ht _) h.1⟩

theorem mass_ne_top (j : S256x1024.Idx) : (mass x j : EReal) ≠ ⊤ := by
  refine reduce_add_ne_top _ _ _ _ ?_ (fun i => exp_ne_top _ (shifted_finite x hb ht i).2) j
  have hz : (FloatOps.ofBits (F := Ideal) .f32 0x00000000#32 : EReal) = 0 := Ideal.ofBits_zero .f32
  exact fun e => EReal.zero_ne_top (hz.symm.trans e)

theorem logProbs_ne_bot (i : S256x1024x92.Idx) : (logProbs x i : EReal) ≠ ⊥ := by
  obtain ⟨k, hk⟩ := broadcast_reads ![0, 1, 2] bcast_S256x1024x1_S256x1024x92_0_1_2
    (Host.log (broadcastInDim S256x1024x1 ![0, 1] bcast_S256x1024_S256x1024x1_0_1 (mass x))) i
  obtain ⟨l, hl⟩ := broadcast_reads ![0, 1] bcast_S256x1024_S256x1024x1_0_1 (mass x) k
  have e : (logProbs x i : EReal) = (shifted x i : EReal) - Ideal.log (mass x l) :=
    congrArg (fun y : EReal => (shifted x i : EReal) - y) (hk.trans (congrArg Ideal.log hl))
  rw [e]
  exact sub_ne_bot (shifted_finite x hb ht i).1 (log_ne_top _ (mass_ne_top x hb ht l))

theorem table_ne_bot (i : S1024x256x92.Idx) : (table x i : EReal) ≠ ⊥ := by
  obtain ⟨k, hk⟩ := transpose_reads [1, 0, 2] (logProbs x) transposes_S256x1024x92_S1024x256x92_1_0_2 i
  exact fun e => logProbs_ne_bot x hb ht k (hk.symm.trans e)

end

end Cert.Proof

end
-- ==== Proof.ReferenceIdeal.Step.lean ====
/-
  One frame of the reference, read batch row by batch row: what each named value of a trip is, in terms of the beam
  search's hypotheses.
-/
module

public import proofs.«01_k».proof.Proof.Gen.ReferenceIdeal.Run
public import proofs.«01_k».proof.Proof.Beam.Run
public import proofs.«01_k».proof.Proof.KernelIdeal.Grid

@[expose] public section

set_option maxRecDepth 65536
noncomputable section

namespace Cert.Proof.ReferenceIdeal

open Cert.ReferenceIdeal Cert.ReferenceIdeal.Gen Cert.ReferenceIdeal.Value
open Idealize.ShloMosaic Idealize.ShloMosaic.TcCoe
open Cert.Proof.Beam
open Cert.Proof.KernelIdeal (ofBool_and ofBool_or select_ofBool cmpi_eq_ofBool cmpi_ne_ofBool cmpi_sgt_ofBool
  cmpi_slt_ofBool ninf_eq)

/-! ## Folds over a fiber -/

theorem fold_fiber {ι κ α : Type} [Fintype ι] [Fintype κ] (op : α → α → α) [Std.Commutative op] [Std.Associative op]
    (b : α) (f : ι → α) (P : ι → Prop) [DecidablePred P] (e : κ → ι) (he : Function.Injective e)
    (h : ∀ x, P x ↔ ∃ k, e k = x) :
    Finset.fold op b f (Finset.univ.filter P) = Finset.fold op b (fun k => f (e k)) Finset.univ := by
  classical
  have hs : Finset.univ.filter P = Finset.univ.map ⟨e, he⟩ := by
    ext x
    simp only [Finset.mem_filter, Finset.mem_univ, true_and, Finset.mem_map, Function.Embedding.coeFn_mk]
    exact h x
  rw [hs, Finset.fold_map]
  rfl

/-- A sum with one term. -/
theorem fold_single {κ : Type} [Fintype κ] [DecidableEq κ] (f : κ → BitVec 32) (a : κ) (h : ∀ k, k ≠ a → f k = 0#32) :
    Finset.fold IntOp.addi 0#32 f Finset.univ = f a := by
  have key : ∀ s : Finset κ, Finset.fold IntOp.addi 0#32 f s = if a ∈ s then f a else 0#32 := by
    intro s
    induction s using Finset.induction_on with
    | empty => rfl
    | insert k s hk ih =>
      rw [Finset.fold_insert hk, ih]
      by_cases hka : k = a
      · subst hka
        rw [if_neg hk, if_pos (Finset.mem_insert_self _ _)]
        exact BitVec.add_zero _
      · rw [h k hka]
        have : a ∈ insert k s ↔ a ∈ s := by
          rw [Finset.mem_insert]; exact ⟨fun e => e.resolve_left fun e => hka e.symm, Or.inr⟩
        simp only [this]
        exact BitVec.zero_add _
  rw [key, if_pos (Finset.mem_univ _)]

/-- A disjunction. -/
theorem fold_any {κ : Type} [Fintype κ] (p : κ → Prop) [DecidablePred p] [Decidable (∃ k, p k)] :
    Finset.fold IntOp.ori 0#1 (fun k => BitVec.ofBool (decide (p k))) Finset.univ = BitVec.ofBool (decide (∃ k, p k)) := by
  classical
  have key : ∀ s : Finset κ, Finset.fold IntOp.ori 0#1 (fun k => BitVec.ofBool (decide (p k))) s
      = BitVec.ofBool (decide (∃ k ∈ s, p k)) := by
    intro s
    induction s using Finset.induction_on with
    | empty => rw [Finset.fold_empty, decide_eq_false (by rintro ⟨k, hk, -⟩; exact absurd hk (Finset.notMem_empty k))]; rfl
    | insert k s hk ih =>
      rw [Finset.fold_insert hk, ih, ofBool_or]
      refine congrArg BitVec.ofBool (decide_eq_decide.mpr ?_)
      constructor
      · rintro (h | ⟨d, hd, h⟩)
        · exact ⟨k, Finset.mem_insert_self _ _, h⟩
        · exact ⟨d, Finset.mem_insert_of_mem hd, h⟩
      · rintro ⟨d, hd, h⟩
        rcases Finset.mem_insert.mp hd with rfl | hd
        · exact Or.inl h
        · exact Or.inr ⟨d, hd, h⟩
  rw [key]
  refine congrArg BitVec.ofBool (decide_eq_decide.mpr ?_)
  exact ⟨fun ⟨k, _, h⟩ => ⟨k, h⟩, fun ⟨k, h⟩ => ⟨k, Finset.mem_univ _, h⟩⟩

theorem fold_max {κ : Type} [Fintype κ] (f : κ → EReal) :
    Finset.fold max (⊥ : EReal) f Finset.univ = Finset.univ.sup f := rfl

/-! ## The fibers of the trip's reductions -/

section fibers
variable (B : Fin 256) (i : Fin 10)

theorem fib_frames (x : S256x10x1024.Idx) : reducesTo_S256x10x1024_S256x10_d2.drop x = ix2 B i ↔ ∃ p : Fin 1024, ix3 B i p = x := by
  constructor
  · intro h
    have h0 := congrArg Fin.val (congrFun h 0)
    have h1 := congrArg Fin.val (congrFun h 1)
    refine ⟨x 2, funext fun a => ?_⟩
    fin_cases a
    · exact Fin.ext h0.symm
    · exact Fin.ext h1.symm
    · rfl
  · rintro ⟨p, rfl⟩
    funext a
    fin_cases a <;> rfl

theorem fib_chars (x : S256x10x92.Idx) : reducesTo_S256x10x92_S256x10_d2.drop x = ix2 B i ↔ ∃ p : Fin 92, ix3 B i p = x := by
  constructor
  · intro h
    have h0 := congrArg Fin.val (congrFun h 0)
    have h1 := congrArg Fin.val (congrFun h 1)
    refine ⟨x 2, funext fun a => ?_⟩
    fin_cases a
    · exact Fin.ext h0.symm
    · exact Fin.ext h1.symm
    · rfl
  · rintro ⟨p, rfl⟩
    funext a
    fin_cases a <;> rfl

theorem fib_slots (x : S256x10x10.Idx) : reducesTo_S256x10x10_S256x10_d2.drop x = ix2 B i ↔ ∃ p : Fin 10, ix3 B i p = x := by
  constructor
  · intro h
    have h0 := congrArg Fin.val (congrFun h 0)
    have h1 := congrArg Fin.val (congrFun h 1)
    refine ⟨x 2, funext fun a => ?_⟩
    fin_cases a
    · exact Fin.ext h0.symm
    · exact Fin.ext h1.symm
    · rfl
  · rintro ⟨p, rfl⟩
    funext a
    fin_cases a <;> rfl

theorem fib_same (c : Fin 92) (x : S256x10x92x10.Idx) :
    reducesTo_S256x10x92x10_S256x10x92_d3.drop x = ix3 B i c ↔ ∃ j : Fin 10, ix4 B i c j = x := by
  constructor
  · intro h
    have h0 := congrArg Fin.val (congrFun h 0)
    have h1 := congrArg Fin.val (congrFun h 1)
    have h2 := congrArg Fin.val (congrFun h 2)
    refine ⟨x 3, funext fun a => ?_⟩
    fin_cases a
    · exact Fin.ext h0.symm
    · exact Fin.ext h1.symm
    · exact Fin.ext h2.symm
    · rfl
  · rintro ⟨p, rfl⟩
    funext a
    fin_cases a <;> rfl

theorem fib_gone (x : S256x10x92x10.Idx) :
    reducesTo_S256x10x92x10_S256x10_d1_2.drop x = ix2 B i ↔ ∃ k : Fin 10 × Fin 92, ix4 B k.1 k.2 i = x := by
  constructor
  · intro h
    have h0 := congrArg Fin.val (congrFun h 0)
    have h1 := congrArg Fin.val (congrFun h 1)
    refine ⟨(x 1, x 2), funext fun a => ?_⟩
    fin_cases a
    · exact Fin.ext h0.symm
    · rfl
    · rfl
    · exact Fin.ext h1.symm
  · rintro ⟨p, rfl⟩
    funext a
    fin_cases a <;> rfl

theorem fib_words (p : Fin 1024) (x : S256x10x10x1024.Idx) :
    reducesTo_S256x10x10x1024_S256x10x1024_d2.drop x = ix3 B i p ↔ ∃ k : Fin 10, ix4 B i k p = x := by
  constructor
  · intro h
    have h0 := congrArg Fin.val (congrFun h 0)
    have h1 := congrArg Fin.val (congrFun h 1)
    have h2 := congrArg Fin.val (congrFun h 2)
    refine ⟨x 2, funext fun a => ?_⟩
    fin_cases a
    · exact Fin.ext h0.symm
    · exact Fin.ext h1.symm
    · rfl
    · exact Fin.ext h2.symm
  · rintro ⟨p, rfl⟩
    funext a
    fin_cases a <;> rfl

end fibers

/-! ## The state of a trip -/

/-- The buffers that no trip writes. -/
structure Fixed (X : Valuation τ sig (Elt Ideal)) : Prop where
  frame : ∀ B i p, (X (Proc.devRef .tc main_v17_1) : IVec S256x10x1024 32) (ix3 B i p) = BitVec.ofNat 32 p.val
  chars : ∀ B i c, (X (Proc.devRef .tc main_v17_2) : IVec S256x10x92 32) (ix3 B i c) = ch c
  chars1 : ∀ B i c, (X (Proc.devRef .tc main_v17_3) : IVec S256x10x92 32) (ix3 B i c) = ch c + 1#32
  cands : ∀ B q, (X (Proc.devRef .tc main_v17_4) : IVec S256x920 32) (ix2 B q) = BitVec.ofNat 32 q.val

/-- Batch row `B` holds the hypotheses `S`, their words `q`. -/
structure Holds (X : Valuation τ sig (Elt Ideal)) (B : Fin 256) (S : Row) (q : Fin 10 → ℕ → BitVec 32) : Prop where
  sq : ∀ i (p : Fin 1024), (X (Proc.devRef .tc main_v17_8) : IVec S256x10x1024 32) (ix3 B i p) = q i p.val
  ln : ∀ i, (X (Proc.devRef .tc main_v17_9) : IVec S256x10 32) (ix2 B i) = S.ln i
  sc : ∀ i, (X (Proc.devRef .tc main_v17_10) : FVec Ideal S256x10 .f32) (ix2 B i) = S.sc i
  h1 : ∀ i, (X (Proc.devRef .tc main_v17_11) : IVec S256x10 32) (ix2 B i) = S.h1 i
  h2 : ∀ i, (X (Proc.devRef .tc main_v17_12) : IVec S256x10 32) (ix2 B i) = S.h2 i
  lt : ∀ i, S.lt i = q i ((S.ln i).toNat - 1)
  le : ∀ i, (S.ln i).toNat ≤ 1024

variable {X : Valuation τ sig (Elt Ideal)} {B : Fin 256} {S : Row} {q : Fin 10 → ℕ → BitVec 32}

theorem last_val (hF : Fixed X) (H : Holds X B S q) (i : Fin 10) (hp : S.ln i ≠ 0#32) :
    Finset.fold IntOp.addi 0#32 (fun p : Fin 1024 => if BitVec.ofNat 32 p.val = S.ln i - 1#32 then q i p.val else 0#32) Finset.univ
      = S.lt i := by
  have h0 : (S.ln i).toNat ≠ 0 := fun e => hp (BitVec.eq_of_toNat_eq e)
  have hl := H.le i
  have hm : (S.ln i - 1#32).toNat = (S.ln i).toNat - 1 := by
    rw [BitVec.toNat_sub]; have := (S.ln i).isLt; simp; omega
  rw [fold_single _ (⟨(S.ln i).toNat - 1, by omega⟩ : Fin 1024), if_pos, H.lt]
  · apply BitVec.eq_of_toNat_eq
    rw [hm, BitVec.toNat_ofNat]
    show ((S.ln i).toNat - 1) % 2 ^ 32 = _
    omega
  · intro k hk
    rw [if_neg]
    intro e
    apply hk
    have := congrArg BitVec.toNat e
    rw [hm, BitVec.toNat_ofNat] at this
    apply Fin.ext
    have := k.isLt
    simp only
    omega

theorem appends_val (hF : Fixed X) (H : Holds X B S q) (i : Fin 10) (c : Fin 92) :
    res_main_while0b_v54 X (ix3 B i c) = BitVec.ofBool (decide (app S i c)) := by
  unfold res_main_while0b_v54
  have e2 := hF.chars
  have e9 := H.ln
  have e1 := hF.frame
  have e8 := H.sq
  have hlast := last_val hF H i
  have hle := H.le i
  generalize (X (Proc.devRef .tc main_v17_2) : IVec S256x10x92 32) = y2 at *
  change IVec S256x10x92 32 at y2
  generalize (X (Proc.devRef .tc main_v17_9) : IVec S256x10 32) = y9 at *
  change IVec S256x10 32 at y9
  generalize (X (Proc.devRef .tc main_v17_1) : IVec S256x10x1024 32) = y1 at *
  change IVec S256x10x1024 32 at y1
  generalize (X (Proc.devRef .tc main_v17_8) : IVec S256x10x1024 32) = y8 at *
  change IVec S256x10x1024 32 at y8
  pointwise []
  erw [fold_fiber _ _ _ _ (fun p : Fin 1024 => ix3 B i p) (fun a b h => congrFun h 2) (fib_frames B i)]
  simp only [cmpi_eq_ofBool, cmpi_ne_ofBool, cmpi_sgt_ofBool, select_ofBool]
  have hf : (fun p : Fin 1024 => if y1 (ix3 B i p) = IntOp.subi (y9 (ix2 ((ix3 B i p : S256x10x1024.Idx) 0) ((ix3 B i p : S256x10x1024.Idx) 1))) 1#32
      then y8 (ix3 B i p) else 0#32) = fun p : Fin 1024 => if BitVec.ofNat 32 p.val = S.ln i - 1#32 then q i p.val else 0#32 := by
    funext p
    rw [e1, e8]
    have : y9 (ix2 ((ix3 B i p : S256x10x1024.Idx) 0) ((ix3 B i p : S256x10x1024.Idx) 1)) = S.ln i := e9 i
    rw [this]; rfl
  have h9 : y9 (ix2 B i) = S.ln i := e9 i
  have h2 : y2 (ix3 B i c) = ch c := e2 B i c
  rw [hf, h9, h2]
  have hz : (0#32).toInt < (S.ln i).toInt ↔ S.ln i ≠ 0#32 := by
    rw [BitVec.toInt_eq_toNat_of_lt (x := S.ln i) (by omega), show (0#32).toInt = 0 from rfl]
    constructor
    · intro h e; rw [e] at h; exact absurd h (by decide)
    · intro h
      have : (S.ln i).toNat ≠ 0 := fun e => h (BitVec.eq_of_toNat_eq e)
      omega
  rw [ofBool_and]
  have hn : ∀ p : Prop, ∀ [Decidable p], ~~~ BitVec.ofBool (decide p) = BitVec.ofBool (decide (¬ p)) := by
    intro p _
    by_cases hp : p <;> simp only [hp] <;> rfl
  rw [hn, ofBool_and]
  refine congrArg BitVec.ofBool (decide_eq_decide.mpr ?_)
  unfold app
  rw [ne_eq, ch_eq_91, hz]
  refine and_congr Iff.rfl ?_
  by_cases hp : S.ln i = 0#32
  · simp [hp]
  · rw [hlast hp]; simp [hp]

/-- The scores of the candidates before the merges. -/
theorem sums_val (hF : Fixed X) (H : Holds X B S q) (t : Fin 1024) (lp : Fin 92 → EReal)
    (ht : (X (Proc.devRef .tc main_v17_7) : IVec S_ 32) ix0 = BitVec.ofNat 32 t.val)
    (hlp : ∀ c, (X (Proc.devRef .tc main_v17_0) : FVec Ideal S1024x256x92 .f32) (ix3 t B c) = lp c) (i : Fin 10) (c : Fin 92) :
    (res_main_while0b_v57 X : FVec Ideal S256x10x92 .f32) (ix3 B i c) = S.sc i + lp c := by
  unfold res_main_while0b_v57
  have e10 := H.sc
  generalize (X (Proc.devRef .tc main_v17_10) : FVec Ideal S256x10 .f32) = y10 at *
  change FVec Ideal S256x10 .f32 at y10
  generalize (X (Proc.devRef .tc main_v17_0) : FVec Ideal S1024x256x92 .f32) = y0 at *
  change FVec Ideal S1024x256x92 .f32 at y0
  generalize (X (Proc.devRef .tc main_v17_7) : IVec S_ 32) = y7 at *
  change IVec S_ 32 at y7
  have hst0 : ((((![select (cmpi .slt y7 (constantI S_ 32 0#32)) (addi (id y7) (constantI S_ 32 1024#32)) y7, constantI S_ 32 0#32, constantI S_ 32 0#32] : Fin 3 → (⟨S_, .i32⟩ : BufTy).Contents (Elt Ideal))) 0 (Shape.Idx.first h_S_)) : BitVec 32).toInt = t.val := by
    have hix : (Shape.Idx.first h_S_ : S_.Idx) = ix0 := by funext a; exact a.elim0
    show (Scalar.select (IntOp.cmpi .slt (y7 (Shape.Idx.first h_S_)) 0#32) (IntOp.addi (y7 (Shape.Idx.first h_S_)) 1024#32) (y7 (Shape.Idx.first h_S_)) : BitVec 32).toInt = _
    rw [hix, ht, cmpi_slt_ofBool, select_ofBool]
    have hlt := t.isLt
    have hn : (BitVec.ofNat 32 t.val).toNat = t.val := by rw [BitVec.toNat_ofNat]; omega
    have hi : (BitVec.ofNat 32 t.val).toInt = t.val := by rw [BitVec.toInt_eq_toNat_of_lt (by omega), hn]
    rw [if_neg (by rw [hi, show (0#32).toInt = 0 from rfl]; omega), hi]
  have hst1 : ((((![select (cmpi .slt y7 (constantI S_ 32 0#32)) (addi (id y7) (constantI S_ 32 1024#32)) y7, constantI S_ 32 0#32, constantI S_ 32 0#32] : Fin 3 → (⟨S_, .i32⟩ : BufTy).Contents (Elt Ideal))) 1 (Shape.Idx.first h_S_)) : BitVec 32).toInt = 0 := rfl
  have hst2 : ((((![select (cmpi .slt y7 (constantI S_ 32 0#32)) (addi (id y7) (constantI S_ 32 1024#32)) y7, constantI S_ 32 0#32, constantI S_ 32 0#32] : Fin 3 → (⟨S_, .i32⟩ : BufTy).Contents (Elt Ideal))) 2 (Shape.Idx.first h_S_)) : BitVec 32).toInt = 0 := rfl
  generalize hg : (fun k : Fin 3 => (((![select (cmpi .slt y7 (constantI S_ 32 0#32)) (addi (id y7) (constantI S_ 32 1024#32)) y7, constantI S_ 32 0#32, constantI S_ 32 0#32] : Fin 3 → (⟨S_, .i32⟩ : BufTy).Contents (Elt Ideal))) k (Shape.Idx.first h_S_)).toInt) = st
  have g0 : st 0 = t.val := by rw [← hg]; exact hst0
  have g1 : st 1 = 0 := by rw [← hg]; exact hst1
  have g2 : st 2 = 0 := by rw [← hg]; exact hst2
  clear hg hst0 hst1 hst2
  pointwise []
  rw [e10]
  refine congrArg (S.sc i + ·) ?_
  rw [← hlp c]
  refine congrArg y0 (funext fun a => Fin.ext ?_)
  have hlt := t.isLt
  fin_cases a
  · show Host.clampedStart S1024x256x92 S1x256x92 rfl st 0 = t.val
    unfold Host.clampedStart
    rw [g0]; simp; omega
  · show Host.clampedStart S1024x256x92 S1x256x92 rfl st 1 + B.val = B.val
    unfold Host.clampedStart
    rw [g1]; simp
  · show Host.clampedStart S1024x256x92 S1x256x92 rfl st 2 + c.val = c.val
    unfold Host.clampedStart
    rw [g2]; simp

theorem hash1_val (hF : Fixed X) (H : Holds X B S q) (i : Fin 10) (c : Fin 92) :
    (res_main_while0b_v67 X : IVec S256x10x92 32) (ix3 B i c) = k1 S i c := by
  unfold res_main_while0b_v67
  have ha := appends_val hF H i c
  have e3 := hF.chars1
  have e11 := H.h1
  generalize (res_main_while0b_v54 X : IVec S256x10x92 1) = y54 at *
  change IVec S256x10x92 1 at y54
  generalize (X (Proc.devRef .tc main_v17_3) : IVec S256x10x92 32) = y3 at *
  change IVec S256x10x92 32 at y3
  generalize (X (Proc.devRef .tc main_v17_11) : IVec S256x10 32) = y11 at *
  change IVec S256x10 32 at y11
  pointwise []
  rw [ha, e3, e11, select_ofBool]
  rfl

theorem hash2_val (hF : Fixed X) (H : Holds X B S q) (i : Fin 10) (c : Fin 92) :
    (res_main_while0b_v77 X : IVec S256x10x92 32) (ix3 B i c) = k2 S i c := by
  unfold res_main_while0b_v77
  have ha := appends_val hF H i c
  have e3 := hF.chars1
  have e12 := H.h2
  generalize (res_main_while0b_v54 X : IVec S256x10x92 1) = y54 at *
  change IVec S256x10x92 1 at y54
  generalize (X (Proc.devRef .tc main_v17_3) : IVec S256x10x92 32) = y3 at *
  change IVec S256x10x92 32 at y3
  generalize (X (Proc.devRef .tc main_v17_12) : IVec S256x10 32) = y12 at *
  change IVec S256x10 32 at y12
  pointwise []
  rw [ha, e3, e12, select_ofBool]
  rfl

theorem same_val (hF : Fixed X) (H : Holds X B S q) (i : Fin 10) (c : Fin 92) (j : Fin 10) :
    (res_main_while0b_v91 X : IVec S256x10x92x10 1) (ix4 B i c j) = BitVec.ofBool (decide (same S i c j)) := by
  unfold res_main_while0b_v91
  have ha := appends_val hF H i c
  have hh1 := hash1_val hF H i c
  have hh2 := hash2_val hF H i c
  have e11 := H.h1
  have e12 := H.h2
  generalize (res_main_while0b_v54 X : IVec S256x10x92 1) = y54 at *
  change IVec S256x10x92 1 at y54
  generalize (res_main_while0b_v67 X : IVec S256x10x92 32) = y67 at *
  change IVec S256x10x92 32 at y67
  generalize (res_main_while0b_v77 X : IVec S256x10x92 32) = y77 at *
  change IVec S256x10x92 32 at y77
  generalize (X (Proc.devRef .tc main_v17_11) : IVec S256x10 32) = y11 at *
  change IVec S256x10 32 at y11
  generalize (X (Proc.devRef .tc main_v17_12) : IVec S256x10 32) = y12 at *
  change IVec S256x10 32 at y12
  pointwise []
  rw [ha, hh1, hh2, e11, e12, cmpi_eq_ofBool, cmpi_eq_ofBool, ofBool_and, ofBool_and]
  refine congrArg BitVec.ofBool (decide_eq_decide.mpr ?_)
  unfold same
  exact and_assoc

/-- What a kept hypothesis scores. -/
theorem keep_val (hF : Fixed X) (H : Holds X B S q) (lp : Fin 92 → EReal)
    (hs : ∀ i c, (res_main_while0b_v57 X : FVec Ideal S256x10x92 .f32) (ix3 B i c) = S.sc i + lp c) (i : Fin 10) :
    (res_main_while0b_v59 X : FVec Ideal S256x10 .f32) (ix2 B i) = keep S lp i := by
  unfold res_main_while0b_v59 res_main_while0b_v34
  have ha := appends_val hF H i
  generalize (res_main_while0b_v54 X : IVec S256x10x92 1) = y54 at *
  change IVec S256x10x92 1 at y54
  generalize (res_main_while0b_v57 X : FVec Ideal S256x10x92 .f32) = y57 at *
  change FVec Ideal S256x10x92 .f32 at y57
  pointwise []
  erw [fold_fiber _ _ _ _ (fun p : Fin 92 => ix3 B i p) (fun a b h => congrFun h 2) (fib_chars B i)]
  rw [ninf_eq]
  unfold keep
  rw [← fold_max]
  refine congrArg (fun f => Finset.fold max (⊥ : EReal) f Finset.univ) (funext fun c => ?_)
  rw [hs, ha, select_ofBool]

/-- The scores of the candidates after the merges, negated. -/
theorem score_val (hF : Fixed X) (H : Holds X B S q) (lp : Fin 92 → EReal)
    (hs : ∀ i c, (res_main_while0b_v57 X : FVec Ideal S256x10x92 .f32) (ix3 B i c) = S.sc i + lp c) (p : Fin 920) :
    (res_main_while0b_v108 X : FVec Ideal S256x920 .f32) (ix2 B p) = (-(score S lp (slot p) (chr p)) : EReal) := by
  unfold res_main_while0b_v108 res_main_while0b_v34
  have ha := appends_val hF H
  have hk := keep_val hF H lp hs
  have e2 := hF.chars
  have hm := same_val hF H
  generalize (res_main_while0b_v54 X : IVec S256x10x92 1) = y54 at *
  change IVec S256x10x92 1 at y54
  generalize (res_main_while0b_v57 X : FVec Ideal S256x10x92 .f32) = y57 at *
  change FVec Ideal S256x10x92 .f32 at y57
  generalize (res_main_while0b_v59 X : FVec Ideal S256x10 .f32) = y59 at *
  change FVec Ideal S256x10 .f32 at y59
  generalize (res_main_while0b_v91 X : IVec S256x10x92x10 1) = y91 at *
  change IVec S256x10x92x10 1 at y91
  generalize (X (Proc.devRef .tc main_v17_2) : IVec S256x10x92 32) = y2 at *
  change IVec S256x10x92 32 at y2
  pointwise []
  change (-(_ : EReal)) = _
  refine congrArg (fun x : EReal => -x) ?_
  change Scalar.select (y54 (ix3 B (slot p) (chr p))) (max (y57 (ix3 B (slot p) (chr p))) _) (Scalar.select (IntOp.cmpi .eq (y2 (ix3 B (slot p) (chr p))) 91#32) (Scalar.select _ _ (y59 (ix2 B (slot p)))) _) = _
  erw [fold_fiber _ _ _ _ (fun j : Fin 10 => ix4 B (slot p) (chr p) j) (fun a b h => congrFun h 3) (fib_same B (slot p) (chr p)),
    fold_fiber _ _ _ _ (fun k : Fin 10 × Fin 92 => ix4 B k.1 k.2 (slot p)) (fun a b h => Prod.ext (congrFun h 1) (congrFun h 2)) (fib_gone B (slot p))]
  rw [ninf_eq, hs, ha, select_ofBool, e2, cmpi_eq_ofBool, select_ofBool]
  have hg : (fun k : Fin 10 × Fin 92 => y91 (ix4 B k.1 k.2 (slot p))) = fun k : Fin 10 × Fin 92 => BitVec.ofBool (decide (same S k.1 k.2 (slot p))) := by
    funext k; rw [hm]
  rw [hg, fold_any, select_ofBool, hk]
  unfold score
  have hgo : (∃ k : Fin 10 × Fin 92, same S k.1 k.2 (slot p)) ↔ gone S (slot p) :=
    ⟨fun ⟨k, h⟩ => ⟨k.1, k.2, h⟩, fun ⟨i, c, h⟩ => ⟨(i, c), h⟩⟩
  simp only [hgo, ch_eq_91]
  rw [← fold_max]
  congr 2
  refine congrArg (fun f => Finset.fold max (⊥ : EReal) f Finset.univ) (funext fun j => ?_)
  rw [hm, select_ofBool]
  exact congrArg (fun x => if same S (slot p) (chr p) j then x else ⊥) (hk j)

end Cert.Proof.ReferenceIdeal

end
-- ==== Proof.ReferenceIdeal.Next.lean ====
/-
  One frame of the reference: the sorted candidates are the search's order, and the carried buffers after a trip are the
  hypotheses after the frame.
-/
module

public import proofs.«01_k».proof.Proof.ReferenceIdeal.Step

@[expose] public section

set_option maxRecDepth 65536
noncomputable section

namespace Cert.Proof.ReferenceIdeal

open Cert.ReferenceIdeal Cert.ReferenceIdeal.Gen Cert.ReferenceIdeal.Value
open Idealize.ShloMosaic Idealize.ShloMosaic.TcCoe
open Cert.Proof.Beam
open Cert.Proof.KernelIdeal (ofBool_and ofBool_or select_ofBool cmpi_eq_ofBool cmpi_ne_ofBool cmpi_sgt_ofBool
  cmpi_slt_ofBool ninf_eq)

/-! ## The order -/

theorem cmpi_ult_ofBool (x y : BitVec 32) : IntOp.cmpi .ult x y = BitVec.ofBool (decide (x.toNat < y.toNat)) := by
  unfold IntOp.cmpi; rw [← BitVec.ult_eq_decide]

theorem canon_eq (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32)) (FloatOps.ofBits (F := Ideal) .f32 0x00000000#32) x) = x := by
  show Scalar.select (BitVec.ofBool (decide (x ≠ x))) _ (Scalar.select (BitVec.ofBool (decide (x = (FloatOps.ofBits (F := Ideal) .f32 0x00000000#32 : EReal)))) _ x) = x
  rw [select_ofBool, select_ofBool, if_neg (fun h => h rfl)]
  split
  · rename_i h; exact h.symm
  · rfl

/-- The comparator on two candidates. -/
theorem comparator_val (x y : EReal) (a a' b b' w w' : BitVec 32) :
    comparator_f32_i32_i32_i32_d1 (F := Ideal) (x, a, b, w) (y, a', b', w')
      = BitVec.ofBool (decide (x < y ∨ x = y ∧ (a.toNat < a'.toNat ∨ a = a' ∧ (b.toNat < b'.toNat ∨ b = b' ∧ w.toInt < w'.toInt)))) := by
  unfold comparator_f32_i32_i32_i32_d1
  dsimp only
  rw [canon_eq, canon_eq, cmpi_slt_ofBool, cmpi_ult_ofBool a a', cmpi_eq_ofBool a a', cmpi_ult_ofBool b b',
    cmpi_eq_ofBool b b', ofBool_and, ofBool_or, ofBool_and, ofBool_or]
  show IntOp.ori (BitVec.ofBool (decide (x < y))) (IntOp.andi (BitVec.ofBool (decide (x = y))) _) = _
  rw [ofBool_and, ofBool_or]

theorem neg_toInt (p : Fin 920) : (-(BitVec.ofNat 32 p.val)).toInt = -(p.val : ℤ) := by
  have hn : (BitVec.ofNat 32 p.val).toInt = p.val := by
    have h : (BitVec.ofNat 32 p.val).toNat = p.val := by rw [BitVec.toNat_ofNat]; have := p.isLt; omega
    rw [BitVec.toInt_eq_toNat_of_lt (by have := p.isLt; omega), h]
  have := p.isLt
  rw [BitVec.toInt_neg, hn, Int.bmod_eq_of_le] <;> omega

/-- Being before, by the keys' parts. -/
theorem before_iff (S : Row) (lp : Fin 92 → EReal) (p r : Fin 920) : before S lp p r = decide (
    -(score S lp (slot p) (chr p)) < -(score S lp (slot r) (chr r)) ∨ -(score S lp (slot p) (chr p)) = -(score S lp (slot r) (chr r)) ∧
      ((k2 S (slot p) (chr p)).toNat < (k2 S (slot r) (chr r)).toNat ∨ k2 S (slot p) (chr p) = k2 S (slot r) (chr r) ∧
        ((k1 S (slot p) (chr p)).toNat < (k1 S (slot r) (chr r)).toNat ∨ k1 S (slot p) (chr p) = k1 S (slot r) (chr r) ∧
          (-(BitVec.ofNat 32 p.val)).toInt < (-(BitVec.ofNat 32 r.val)).toInt))) := by
  unfold before
  refine decide_eq_decide.mpr ?_
  unfold key
  rw [Prod.Lex.toLex_lt_toLex, Prod.Lex.toLex_lt_toLex, Prod.Lex.toLex_lt_toLex, neg_toInt, neg_toInt]
  have h1 := p.isLt
  have h2 := r.isLt
  have hw : 919 - p.val < 919 - r.val ↔ -(p.val : ℤ) < -(r.val : ℤ) := by omega
  simp only [hw, BitVec.toNat_inj]

theorem along_ix2 (B : Fin 256) (p r : Fin 920) : Shape.Idx.along (s := S256x920) (ix2 B p) 1 r = ix2 B r := by
  funext a
  fin_cases a
  · rfl
  · rfl

/-- A sorted operand, read at a batch row. -/
theorem sortBy_val {ι α : Type} (cmp : ι → ι → BitVec 1) (rows : S256x920.Idx → ι) (x : S256x920.Idx → α) (B : Fin 256)
    (f : Fin 920 → Fin 920 → Bool) (hf : ∀ p r, (cmp (rows (ix2 B p)) (rows (ix2 B r)) == 1#1) = f p r) (p : Fin 920) :
    Host.sortBy S256x920 1 cmp rows x (ix2 B p) = x (ix2 B (sortedFrom f p)) := by
  unfold Host.sortBy
  rw [dif_pos (by decide)]
  dsimp only
  have hg : (fun k k' : Fin 920 => cmp (rows (Shape.Idx.along (s := S256x920) (ix2 B p) 1 k)) (rows (Shape.Idx.along (s := S256x920) (ix2 B p) 1 k')) == 1#1) = f := by
    funext k k'
    rw [along_ix2, along_ix2, hf]
  refine Eq.trans (congrArg x (along_ix2 B p (sortedFrom (fun k k' : Fin 920 => cmp (rows (Shape.Idx.along (s := S256x920) (ix2 B p) 1 k))
    (rows (Shape.Idx.along (s := S256x920) (ix2 B p) 1 k')) == 1#1) p))) ?_
  rw [hg]

variable {X : Valuation τ sig (Elt Ideal)} {B : Fin 256} {S : Row} {q : Fin 10 → ℕ → BitVec 32}

section
variable (hF : Fixed X) (H : Holds X B S q) (lp : Fin 92 → EReal)
  (hs : ∀ i c, (res_main_while0b_v57 X : FVec Ideal S256x10x92 .f32) (ix3 B i c) = S.sc i + lp c)

theorem flat1_val (hF : Fixed X) (H : Holds X B S q) (p : Fin 920) : (res_main_while0b_v110 X : IVec S256x920 32) (ix2 B p) = k1 S (slot p) (chr p) := by
  unfold res_main_while0b_v110
  have h := hash1_val hF H
  generalize (res_main_while0b_v67 X : IVec S256x10x92 32) = y at *
  change IVec S256x10x92 32 at y
  pointwise []
  exact h _ _

theorem flat2_val (hF : Fixed X) (H : Holds X B S q) (p : Fin 920) : (res_main_while0b_v109 X : IVec S256x920 32) (ix2 B p) = k2 S (slot p) (chr p) := by
  unfold res_main_while0b_v109
  have h := hash2_val hF H
  generalize (res_main_while0b_v77 X : IVec S256x10x92 32) = y at *
  change IVec S256x10x92 32 at y
  pointwise []
  exact h _ _

theorem last_key_val (hF : Fixed X) (p : Fin 920) : (res_main_while0b_v111 X : IVec S256x920 32) (ix2 B p) = -(BitVec.ofNat 32 p.val) := by
  unfold res_main_while0b_v111
  have h := hF.cands
  generalize (X (Proc.devRef .tc main_v17_4) : IVec S256x920 32) = y at *
  change IVec S256x920 32 at y
  pointwise []
  rw [h]

theorem ofBool_beq (b : Bool) : (BitVec.ofBool b == 1#1) = b := by cases b <;> rfl

/-- An operand of the trip's sort, read at a batch row: the operand at the search's order. -/
theorem sorted_val (hF : Fixed X) (H : Holds X B S q) (lp : Fin 92 → EReal)
    (hs : ∀ i c, (res_main_while0b_v57 X : FVec Ideal S256x10x92 .f32) (ix3 B i c) = S.sc i + lp c) {α : Type} (x : S256x920.Idx → α) (p : Fin 920) :
    Host.sortBy S256x920 1 (comparator_f32_i32_i32_i32_d1 (F := Ideal)) (fun j => ((res_main_while0b_v108 X : FVec Ideal S256x920 .f32) j,
      (res_main_while0b_v109 X : IVec S256x920 32) j, (res_main_while0b_v110 X : IVec S256x920 32) j,
      (res_main_while0b_v111 X : IVec S256x920 32) j)) x (ix2 B p) = x (ix2 B (order S lp p)) := by
  rw [order_eq]
  refine sortBy_val _ _ x B (before S lp) (fun p r => ?_) p
  rw [score_val hF H lp hs, score_val hF H lp hs, flat1_val hF H, flat1_val hF H, flat2_val hF H, flat2_val hF H,
    last_key_val hF, last_key_val hF, comparator_val, before_iff]
  exact ofBool_beq _

/-! ## The picks -/

theorem cast_pick (S : Row) (lp : Fin 92 → EReal) (i : Fin 10) (h : i.val < 920) : order S lp ⟨i.val, h⟩ = pick S lp i := rfl

theorem word_val (hF : Fixed X) (H : Holds X B S q) (lp : Fin 92 → EReal)
    (hs : ∀ i c, (res_main_while0b_v57 X : FVec Ideal S256x10x92 .f32) (ix3 B i c) = S.sc i + lp c) (i : Fin 10) :
    (res_main_while0b_v118 X : IVec S256x10 32) (ix2 B i) = BitVec.ofNat 32 (pick S lp i).val := by
  unfold res_main_while0b_v118
  rw [Host.sort4_eq_sortBy]
  dsimp only
  have h := sorted_val hF H lp hs (res_main_while0b_v111 X : IVec S256x920 32)
  have hk := last_key_val hF (B := B)
  generalize (res_main_while0b_v108 X : FVec Ideal S256x920 .f32) = y108 at *
  change FVec Ideal S256x920 .f32 at y108
  generalize (res_main_while0b_v109 X : IVec S256x920 32) = y109 at *
  change IVec S256x920 32 at y109
  generalize (res_main_while0b_v110 X : IVec S256x920 32) = y110 at *
  change IVec S256x920 32 at y110
  generalize (res_main_while0b_v111 X : IVec S256x920 32) = y111 at *
  change IVec S256x920 32 at y111
  pointwise []
  rw [h, hk]
  exact BitVec.neg_neg

theorem div_words : ∀ p : Fin 920, IntOp.divsi .host (BitVec.ofNat 32 p.val) 92#32 = BitVec.ofNat 32 (p.val / 92) := by decide +kernel
theorem rem_words : ∀ p : Fin 920, IntOp.remsi .host (BitVec.ofNat 32 p.val) 92#32 = BitVec.ofNat 32 (p.val % 92) := by decide +kernel

theorem parent_val (hF : Fixed X) (H : Holds X B S q) (lp : Fin 92 → EReal)
    (hs : ∀ i c, (res_main_while0b_v57 X : FVec Ideal S256x10x92 .f32) (ix3 B i c) = S.sc i + lp c) (i : Fin 10) :
    (res_main_while0b_v120 X : IVec S256x10 32) (ix2 B i) = BitVec.ofNat 32 (par S lp i).val := by
  unfold res_main_while0b_v120
  have h := word_val hF H lp hs i
  generalize (res_main_while0b_v118 X : IVec S256x10 32) = y at *
  change IVec S256x10 32 at y
  pointwise []
  rw [h]
  exact div_words _

theorem token_val (hF : Fixed X) (H : Holds X B S q) (lp : Fin 92 → EReal)
    (hs : ∀ i c, (res_main_while0b_v57 X : FVec Ideal S256x10x92 .f32) (ix3 B i c) = S.sc i + lp c) (i : Fin 10) :
    (res_main_while0b_v122 X : IVec S256x10 32) (ix2 B i) = ch (tok S lp i) := by
  unfold res_main_while0b_v122
  have h := word_val hF H lp hs i
  generalize (res_main_while0b_v118 X : IVec S256x10 32) = y at *
  change IVec S256x10 32 at y
  pointwise []
  rw [h]
  exact rem_words _

theorem slot_word (a k : Fin 10) : (BitVec.ofNat 32 a.val = BitVec.ofNat 32 k.val) ↔ k = a := by
  revert a k; decide +kernel

theorem parent_len_val (hF : Fixed X) (H : Holds X B S q) (lp : Fin 92 → EReal)
    (hs : ∀ i c, (res_main_while0b_v57 X : FVec Ideal S256x10x92 .f32) (ix3 B i c) = S.sc i + lp c) (i : Fin 10) :
    (res_main_while0b_v142 X : IVec S256x10 32) (ix2 B i) = S.ln (par S lp i) := by
  unfold res_main_while0b_v142
  have h := parent_val hF H lp hs i
  have e9 := H.ln
  have hio : ∀ x : S256x10x10.Idx, iotaInDim S256x10x10 32 2 x = BitVec.ofNat 32 (x 2).val := fun x => rfl
  generalize iotaInDim S256x10x10 32 2 = io at *
  generalize (res_main_while0b_v120 X : IVec S256x10 32) = y120 at *
  change IVec S256x10 32 at y120
  generalize (X (Proc.devRef .tc main_v17_9) : IVec S256x10 32) = y9 at *
  change IVec S256x10 32 at y9
  erw [Host.reduce_eq_fold (α := BitVec 32) IntOp.addi]
  erw [fold_fiber _ _ _ _ (fun k : Fin 10 => ix3 B i k) (fun a b h => congrFun h 2) (fib_slots B i)]
  have hz : constantI S_ 32 0#32 (Shape.Idx.first h_S_) = 0#32 := rfl
  rw [hz, fold_single _ (par S lp i)]
  · pointwise []
    rw [hio, h, e9]
    show Scalar.select (IntOp.cmpi .eq (BitVec.ofNat 32 (par S lp i).val) (BitVec.ofNat 32 (par S lp i).val)) _ _ = _
    rw [cmpi_eq_ofBool, select_ofBool, if_pos rfl]
  · intro k hk
    pointwise []
    rw [hio, h]
    show Scalar.select (IntOp.cmpi .eq (BitVec.ofNat 32 (par S lp i).val) (BitVec.ofNat 32 k.val)) _ _ = _
    rw [cmpi_eq_ofBool, select_ofBool, if_neg (fun e => hk ((slot_word _ _).mp e))]

end

theorem valid_val (t : ℕ) (ht : t < 1024) (len : BitVec 32)
    (h7 : (X (Proc.devRef .tc main_v17_7) : IVec S_ 32) ix0 = BitVec.ofNat 32 t)
    (h5 : (X (Proc.devRef .tc main_v17_5) : IVec S256 32) (ix1 B) = len) :
    (res_main_while0b_v160 X : IVec S256 1) (ix1 B) = BitVec.ofBool (decide ((t : ℤ) < len.toInt)) := by
  unfold res_main_while0b_v160
  generalize (X (Proc.devRef .tc main_v17_7) : IVec S_ 32) = y7 at *
  change IVec S_ 32 at y7
  generalize (X (Proc.devRef .tc main_v17_5) : IVec S256 32) = y5 at *
  change IVec S256 32 at y5
  dsimp only [id]
  pointwise []
  rw [h7, h5, cmpi_slt_ofBool]
  have hn : (BitVec.ofNat 32 t).toNat = t := by rw [BitVec.toNat_ofNat]; omega
  rw [BitVec.toInt_eq_toNat_of_lt (x := BitVec.ofNat 32 t) (by omega), hn]

theorem select_bool {α : Type} (v : Bool) (x y : α) : Scalar.select (BitVec.ofBool v) x y = if v then x else y := by
  cases v <;> rfl

/-! ## The carried buffers after a trip -/

section
variable (hF : Fixed X) (H : Holds X B S q) (lp : Fin 92 → EReal)
  (hs : ∀ i c, (res_main_while0b_v57 X : FVec Ideal S256x10x92 .f32) (ix3 B i c) = S.sc i + lp c)
  (v : Bool) (hv : (res_main_while0b_v160 X : IVec S256 1) (ix1 B) = BitVec.ofBool v) (i : Fin 10)
include hF H hs hv

theorem next_ln : (step_main_v17_9 X : IVec S256x10 32) (ix2 B i) = (vstep v S lp).ln i := by
  unfold step_main_v17_9 res_main_while0b_v162
  have h142 := parent_len_val hF H lp hs i
  have h122 := token_val hF H lp hs i
  have e9 := H.ln i
  generalize (res_main_while0b_v160 X : IVec S256 1) = y160 at *
  change IVec S256 1 at y160
  generalize (res_main_while0b_v142 X : IVec S256x10 32) = y142 at *
  change IVec S256x10 32 at y142
  generalize (res_main_while0b_v122 X : IVec S256x10 32) = y122 at *
  change IVec S256x10 32 at y122
  generalize (X (Proc.devRef .tc main_v17_9) : IVec S256x10 32) = y9 at *
  change IVec S256x10 32 at y9
  dsimp only [id]
  pointwise []
  rw [hv, h142, h122, e9, select_bool, cmpi_ne_ofBool]
  unfold vstep
  cases v
  · rfl
  · show IntOp.addi _ _ = S.ln (par S lp i) + (if tok S lp i = 91 then 0#32 else 1#32)
    refine congrArg (S.ln (par S lp i) + ·) ?_
    by_cases h : tok S lp i = 91
    · rw [if_pos h, decide_eq_false (fun e => e ((ch_eq_91 _).mpr h))]; rfl
    · rw [if_neg h, decide_eq_true (p := ch (tok S lp i) ≠ 91#32) (fun e => h ((ch_eq_91 _).mp e))]; rfl

theorem next_sc : (step_main_v17_10 X : FVec Ideal S256x10 .f32) (ix2 B i) = (vstep v S lp).sc i := by
  unfold step_main_v17_10 res_main_while0b_v162
  rw [Host.sort4_eq_sortBy]
  dsimp only
  have h := sorted_val hF H lp hs (res_main_while0b_v108 X : FVec Ideal S256x920 .f32)
  have hk := score_val hF H lp hs
  have e10 := H.sc i
  generalize (res_main_while0b_v160 X : IVec S256 1) = y160 at *
  change IVec S256 1 at y160
  generalize (res_main_while0b_v108 X : FVec Ideal S256x920 .f32) = y108 at *
  change FVec Ideal S256x920 .f32 at y108
  generalize (res_main_while0b_v109 X : IVec S256x920 32) = y109 at *
  change IVec S256x920 32 at y109
  generalize (res_main_while0b_v110 X : IVec S256x920 32) = y110 at *
  change IVec S256x920 32 at y110
  generalize (res_main_while0b_v111 X : IVec S256x920 32) = y111 at *
  change IVec S256x920 32 at y111
  generalize (X (Proc.devRef .tc main_v17_10) : FVec Ideal S256x10 .f32) = y10 at *
  change FVec Ideal S256x10 .f32 at y10
  dsimp only [id]
  pointwise []
  rw [h, hk, hv, e10, select_bool]
  unfold vstep
  cases v
  · rfl
  · show (-(-(_ : EReal))) = _
    rw [neg_neg]
    rfl

theorem next_h1 : (step_main_v17_11 X : IVec S256x10 32) (ix2 B i) = (vstep v S lp).h1 i := by
  unfold step_main_v17_11 res_main_while0b_v162
  rw [Host.sort4_eq_sortBy]
  dsimp only
  have h := sorted_val hF H lp hs (res_main_while0b_v110 X : IVec S256x920 32)
  have hk := flat1_val hF H
  have e11 := H.h1 i
  generalize (res_main_while0b_v160 X : IVec S256 1) = y160 at *
  change IVec S256 1 at y160
  generalize (res_main_while0b_v108 X : FVec Ideal S256x920 .f32) = y108 at *
  change FVec Ideal S256x920 .f32 at y108
  generalize (res_main_while0b_v109 X : IVec S256x920 32) = y109 at *
  change IVec S256x920 32 at y109
  generalize (res_main_while0b_v110 X : IVec S256x920 32) = y110 at *
  change IVec S256x920 32 at y110
  generalize (res_main_while0b_v111 X : IVec S256x920 32) = y111 at *
  change IVec S256x920 32 at y111
  generalize (X (Proc.devRef .tc main_v17_11) : IVec S256x10 32) = y11 at *
  change IVec S256x10 32 at y11
  dsimp only [id]
  pointwise []
  rw [h, hk, hv, e11, select_bool]
  unfold vstep
  cases v <;> rfl

theorem next_h2 : (step_main_v17_12 X : IVec S256x10 32) (ix2 B i) = (vstep v S lp).h2 i := by
  unfold step_main_v17_12 res_main_while0b_v162
  rw [Host.sort4_eq_sortBy]
  dsimp only
  have h := sorted_val hF H lp hs (res_main_while0b_v109 X : IVec S256x920 32)
  have hk := flat2_val hF H
  have e12 := H.h2 i
  generalize (res_main_while0b_v160 X : IVec S256 1) = y160 at *
  change IVec S256 1 at y160
  generalize (res_main_while0b_v108 X : FVec Ideal S256x920 .f32) = y108 at *
  change FVec Ideal S256x920 .f32 at y108
  generalize (res_main_while0b_v109 X : IVec S256x920 32) = y109 at *
  change IVec S256x920 32 at y109
  generalize (res_main_while0b_v110 X : IVec S256x920 32) = y110 at *
  change IVec S256x920 32 at y110
  generalize (res_main_while0b_v111 X : IVec S256x920 32) = y111 at *
  change IVec S256x920 32 at y111
  generalize (X (Proc.devRef .tc main_v17_12) : IVec S256x10 32) = y12 at *
  change IVec S256x10 32 at y12
  dsimp only [id]
  pointwise []
  rw [h, hk, hv, e12, select_bool]
  unfold vstep
  cases v <;> rfl

theorem next_sq (p : Fin 1024) : (step_main_v17_8 X : IVec S256x10x1024 32) (ix3 B i p)
    = if v then (if tok S lp i ≠ 91 ∧ p.val = (S.ln (par S lp i)).toNat then ch (tok S lp i) else q (par S lp i) p.val)
      else q i p.val := by
  unfold step_main_v17_8
  have h120 := parent_val hF H lp hs i
  have h142 := parent_len_val hF H lp hs i
  have h122 := token_val hF H lp hs i
  have e8 := H.sq
  have e1 := hF.frame B i p
  have hio : ∀ x : S256x10x10.Idx, iotaInDim S256x10x10 32 2 x = BitVec.ofNat 32 (x 2).val := fun x => rfl
  generalize iotaInDim S256x10x10 32 2 = io at *
  generalize (res_main_while0b_v160 X : IVec S256 1) = y160 at *
  change IVec S256 1 at y160
  generalize (res_main_while0b_v120 X : IVec S256x10 32) = y120 at *
  change IVec S256x10 32 at y120
  generalize (res_main_while0b_v142 X : IVec S256x10 32) = y142 at *
  change IVec S256x10 32 at y142
  generalize (res_main_while0b_v122 X : IVec S256x10 32) = y122 at *
  change IVec S256x10 32 at y122
  generalize (X (Proc.devRef .tc main_v17_8) : IVec S256x10x1024 32) = y8 at *
  change IVec S256x10x1024 32 at y8
  generalize (X (Proc.devRef .tc main_v17_1) : IVec S256x10x1024 32) = y1 at *
  change IVec S256x10x1024 32 at y1
  dsimp only [id]
  pointwise []
  erw [Host.reduce_eq_fold (α := BitVec 32) IntOp.addi]
  erw [fold_fiber _ _ _ _ (fun k : Fin 10 => ix4 B i k p) (fun a b h => congrFun h 2) (fib_words B i p)]
  have hz : constantI S_ 32 0#32 (Shape.Idx.first h_S_) = 0#32 := rfl
  rw [hz, fold_single _ (par S lp i)]
  · pointwise []
    rw [hv, h122, h142, e1, e8, e8, hio, h120, select_bool, cmpi_ne_ofBool]
    have hone : ∀ z : BitVec 32, Scalar.select (IntOp.cmpi .eq (BitVec.ofNat 32 (par S lp i).val) (BitVec.ofNat 32 (par S lp i).val)) z 0#32 = z := by
      intro z
      rw [cmpi_eq_ofBool, select_ofBool, if_pos rfl]
    erw [hone]
    rw [cmpi_eq_ofBool, ofBool_and, select_ofBool]
    have hc : (ch (tok S lp i) ≠ 91#32 ∧ BitVec.ofNat 32 p.val = S.ln (par S lp i)) ↔ (tok S lp i ≠ 91 ∧ p.val = (S.ln (par S lp i)).toNat) := by
      refine and_congr (not_congr (ch_eq_91 _)) ?_
      have hn : (BitVec.ofNat 32 p.val).toNat = p.val := by rw [BitVec.toNat_ofNat]; have := p.isLt; omega
      rw [← BitVec.toNat_inj, hn]
    simp only [hc]
  · intro k hk
    pointwise []
    rw [hio, h120]
    show Scalar.select (IntOp.cmpi .eq (BitVec.ofNat 32 (par S lp i).val) (BitVec.ofNat 32 k.val)) _ 0#32 = _
    rw [cmpi_eq_ofBool, select_ofBool, if_neg (fun e => hk ((slot_word _ _).mp e))]

end

end Cert.Proof.ReferenceIdeal

end
-- ==== Proof.ReferenceIdeal.Iter.lean ====
/-
  The reference over all frames: the carried buffers hold the search's hypotheses after every trip, and the results are
  read off the first of them.
-/
module

public import proofs.«01_k».proof.Proof.ReferenceIdeal.Next

@[expose] public section

set_option maxRecDepth 65536
noncomputable section

namespace Cert.Proof.ReferenceIdeal

open Cert.ReferenceIdeal Cert.ReferenceIdeal.Gen Cert.ReferenceIdeal.Value
open Idealize.ShloMosaic Idealize.ShloMosaic.TcCoe Idealize.ShloMosaic.Tactic Idealize.ShloMosaic.StableHlo
open Cert.Proof.Beam
open Cert.Proof.KernelIdeal (ofBool_and ofBool_or select_ofBool cmpi_eq_ofBool cmpi_ne_ofBool cmpi_sgt_ofBool
  cmpi_slt_ofBool ninf_eq)

/-- The log-probabilities of line `B`, frame by frame, out of a table of them. -/
def tblLp (A : FVec Ideal S1024x256x92 .f32) (B : Fin 256) (t : ℕ) (c : Fin 92) : EReal :=
  if h : t < 1024 then A (ix3 ⟨t, h⟩ B c) else 0

/-- Whether frame `t` is within line `B`, out of the lengths. -/
def tblLive (L : IVec S256 32) (B : Fin 256) (t : ℕ) : Bool := decide ((t : ℤ) < (L (ix1 B)).toInt)

/-- What the buffers hold after `t` trips. -/
structure Inv (A : FVec Ideal S1024x256x92 .f32) (L : IVec S256 32) (t : ℕ) (X : Valuation τ sig (Elt Ideal)) : Prop where
  fixed : Fixed X
  lp : (X (Proc.devRef .tc main_v17_0) : FVec Ideal S1024x256x92 .f32) = A
  len : (X (Proc.devRef .tc main_v17_5) : IVec S256 32) = L
  now : (X (Proc.devRef .tc main_v17_7) : IVec S_ 32) ix0 = BitVec.ofNat 32 t
  rows : ∀ B, Holds X B (rowAt (tblLp A B) (tblLive L B) t) (seqAt (tblLp A B) (tblLive L B) t)

theorem next_now (X : Valuation τ sig (Elt Ideal)) (t : ℕ) (h : (X (Proc.devRef .tc main_v17_7) : IVec S_ 32) ix0 = BitVec.ofNat 32 t) :
    (step_main_v17_7 X : IVec S_ 32) ix0 = BitVec.ofNat 32 (t + 1) := by
  show IntOp.addi ((X (Proc.devRef .tc main_v17_7) : IVec S_ 32) ix0) 1#32 = _
  rw [h, BitVec.ofNat_add]
  rfl

theorem inv_next {A : FVec Ideal S1024x256x92 .f32} {L : IVec S256 32} {t : ℕ} {X : Valuation τ sig (Elt Ideal)}
    (ht : t < 1024) (h : Inv A L t X) : Inv A L (t + 1) (STEP X) where
  fixed := ⟨by rw [STEP_main_v17_1]; exact h.fixed.frame, by rw [STEP_main_v17_2]; exact h.fixed.chars,
    by rw [STEP_main_v17_3]; exact h.fixed.chars1, by rw [STEP_main_v17_4]; exact h.fixed.cands⟩
  lp := by rw [STEP_main_v17_0]; exact h.lp
  len := by rw [STEP_main_v17_5]; exact h.len
  now := by rw [STEP_main_v17_7]; exact next_now X t h.now
  rows B := by
    have H := h.rows B
    have hv : (res_main_while0b_v160 X : IVec S256 1) (ix1 B) = BitVec.ofBool (tblLive L B t) :=
      valid_val t ht _ h.now (congrFun h.len (ix1 B))
    have hs : ∀ i c, (res_main_while0b_v57 X : FVec Ideal S256x10x92 .f32) (ix3 B i c)
        = (rowAt (tblLp A B) (tblLive L B) t).sc i + tblLp A B t c := fun i c =>
      sums_val h.fixed H ⟨t, ht⟩ _ h.now (fun c => by
        unfold tblLp
        rw [dif_pos ht]
        exact congrFun h.lp _) i c
    refine ⟨fun i p => ?_, fun i => ?_, fun i => ?_, fun i => ?_, fun i => ?_, fun i => ?_, fun i => ?_⟩
    · rw [STEP_main_v17_8]; exact next_sq h.fixed H _ hs _ hv i p
    · rw [STEP_main_v17_9]; exact next_ln h.fixed H _ hs _ hv i
    · rw [STEP_main_v17_10]; exact next_sc h.fixed H _ hs _ hv i
    · rw [STEP_main_v17_11]; exact next_h1 h.fixed H _ hs _ hv i
    · rw [STEP_main_v17_12]; exact next_h2 h.fixed H _ hs _ hv i
    · exact rowAt_lt _ _ (t + 1) (by omega) i
    · exact (rowAt_ln_le _ _ (t + 1) (by omega) i).trans (by omega)

theorem inv_iter {A : FVec Ideal S1024x256x92 .f32} {L : IVec S256 32} {X : Valuation τ sig (Elt Ideal)} (h : Inv A L 0 X)
    (t : ℕ) (ht : t ≤ 1024) : Inv A L t (STEP^[t] X) := by
  induction t with
  | zero => exact h
  | succ t ih =>
    rw [Function.iterate_succ_apply']
    exact inv_next (by omega) (ih (by omega))

end Cert.Proof.ReferenceIdeal

end
-- ==== Proof.ReferenceIdeal.Entry.lean ====
/-
  Where the reference's search starts: what the buffers hold before the first trip.
-/
module

public import proofs.«01_k».proof.Proof.ReferenceIdeal.Iter

@[expose] public section

set_option maxRecDepth 65536
noncomputable section

namespace Cert.Proof.ReferenceIdeal

open Cert.ReferenceIdeal Cert.ReferenceIdeal.Gen Cert.ReferenceIdeal.Value
open Idealize.ShloMosaic Idealize.ShloMosaic.TcCoe Idealize.ShloMosaic.Tactic Idealize.ShloMosaic.StableHlo
open Cert.Proof.Beam
open Cert.Proof.KernelIdeal (ofBool_and ofBool_or select_ofBool cmpi_eq_ofBool cmpi_ne_ofBool cmpi_sgt_ofBool
  cmpi_slt_ofBool ninf_eq)

/-! ## Where the search starts -/

section
variable (m : (ℓ : Loc nD τ sig) → Buf (Elt Ideal) ℓ) (c : Dev nD)

/-- The table of log-probabilities the loop starts with. -/
def refLp : FVec Ideal S1024x256x92 .f32 := entryContents preI m c (Proc.devRef .tc main_v17_0)

/-- The lengths the loop starts with. -/
def refLen : IVec S256 32 := m ((c.tc : Thread nD τ).loc main_arg1)

set_option maxHeartbeats 4000000

theorem entry_1 : (entryContents preI m c (Proc.devRef .tc main_v17_1) : IVec S256x10x1024 32) = iotaInDim S256x10x1024 32 2 := by
  simp only [entryContents, afterL_cons, afterL_nil]
  after_reads_simp
  rfl
theorem entry_2 : (entryContents preI m c (Proc.devRef .tc main_v17_2) : IVec S256x10x92 32) = iotaInDim S256x10x92 32 2 := by
  simp only [entryContents, afterL_cons, afterL_nil]
  after_reads_simp
  rfl
theorem entry_3 : (entryContents preI m c (Proc.devRef .tc main_v17_3) : IVec S256x10x92 32) = fun i => BitVec.ofNat 32 (i 2).val + 1#32 := by
  simp only [entryContents, afterL_cons, afterL_nil]
  after_reads_simp
  rfl
theorem entry_4 : (entryContents preI m c (Proc.devRef .tc main_v17_4) : IVec S256x920 32) = iotaInDim S256x920 32 1 := by
  simp only [entryContents, afterL_cons, afterL_nil]
  after_reads_simp
  rfl
theorem entry_5 : (entryContents preI m c (Proc.devRef .tc main_v17_5) : IVec S256 32) = refLen m c := by
  simp only [entryContents, afterL_cons, afterL_nil]
  after_reads_simp
  rfl
theorem entry_7 : (entryContents preI m c (Proc.devRef .tc main_v17_7) : IVec S_ 32) = fun _ => 0#32 := by
  simp only [entryContents, afterL_cons, afterL_nil]
  after_reads_simp
  rfl
theorem entry_8 : (entryContents preI m c (Proc.devRef .tc main_v17_8) : IVec S256x10x1024 32) = fun _ => 0#32 := by
  simp only [entryContents, afterL_cons, afterL_nil]
  after_reads_simp
  rfl
theorem entry_9 : (entryContents preI m c (Proc.devRef .tc main_v17_9) : IVec S256x10 32) = fun _ => 0#32 := by
  simp only [entryContents, afterL_cons, afterL_nil]
  after_reads_simp
  rfl
theorem entry_10 : (entryContents preI m c (Proc.devRef .tc main_v17_10) : FVec Ideal S256x10 .f32)
    = fun i => Scalar.select (IntOp.cmpi .eq (BitVec.ofNat 32 (i 1).val) 0#32) (FloatOps.ofBits (F := Ideal) .f32 0x00000000#32) (FloatOps.ofBits (F := Ideal) .f32 0xFF800000#32) := by
  simp only [entryContents, afterL_cons, afterL_nil]
  after_reads_simp
  rfl
theorem entry_11 : (entryContents preI m c (Proc.devRef .tc main_v17_11) : IVec S256x10 32) = fun _ => 1#32 := by
  simp only [entryContents, afterL_cons, afterL_nil]
  after_reads_simp
  rfl
theorem entry_12 : (entryContents preI m c (Proc.devRef .tc main_v17_12) : IVec S256x10 32) = fun _ => 1#32 := by
  simp only [entryContents, afterL_cons, afterL_nil]
  after_reads_simp
  rfl

theorem inv_entry : Inv (refLp m c) (refLen m c) 0 (entryContents preI m c) where
  fixed := ⟨fun B i p => congrFun (entry_1 m c) _, fun B i x => congrFun (entry_2 m c) _, fun B i x => congrFun (entry_3 m c) _,
    fun B q => congrFun (entry_4 m c) _⟩
  lp := rfl
  len := entry_5 m c
  now := congrFun (entry_7 m c) _
  rows B := by
    refine ⟨fun i p => congrFun (entry_8 m c) _, fun i => congrFun (entry_9 m c) _, fun i => ?_, fun i => congrFun (entry_11 m c) _,
      fun i => congrFun (entry_12 m c) _, fun i => rfl, fun i => Nat.zero_le _⟩
    refine (congrFun (entry_10 m c) (ix2 B i)).trans ?_
    show Scalar.select (IntOp.cmpi .eq (BitVec.ofNat 32 i.val) (BitVec.ofNat 32 (0 : Fin 10).val)) _ _ = (if i = 0 then (0 : EReal) else ⊥)
    have hb : (FloatOps.ofBits (F := Ideal) .f32 0xFF800000#32 : EReal) = ⊥ := ninf_eq
    rw [cmpi_eq_ofBool, select_ofBool, hb]
    by_cases h : i = 0
    · rw [if_pos h, if_pos (by rw [h])]
      exact Ideal.ofBits_zero .f32
    · rw [if_neg h, if_neg (fun e => h ((slot_word _ _).mp e).symm)]

end

end Cert.Proof.ReferenceIdeal

end
-- ==== Proof.Tables.lean ====
/-
  Both programs search the same table of log-probabilities.
-/
module

public import proofs.«01_k».proof.Proof.KernelIdeal.Out
public import proofs.«01_k».proof.Proof.ReferenceIdeal.Entry
public import proofs.«01_k».proof.Proof.LogDefs

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic Idealize.ShloMosaic.StableHlo

theorem kernel_table (m : (ℓ : Loc nD τ sig) → Buf (Elt Ideal) ℓ) (c : Dev nD) :
    (V m c main_v1 : FVec Ideal S1024x256x92 .f32) = table (m ((c.tc : Thread nD τ).loc main_arg0)) := by
  show StableHlo.after [hostOps0, hostOps0_1].flatten (fun b => m (c, b)) (Proc.devRef .tc main_v1) = _
  simp only [hostOps0, hostOps0_1, List.flatten_cons, List.flatten_nil, List.append_nil, List.cons_append, List.nil_append]
  after_reads_simp
  simp only [TRef.ofBuf_toBuf]
  unfold table logProbs mass shifted greatest
  rfl

theorem reference_table (m : (ℓ : Loc Cert.ReferenceIdeal.nD Cert.ReferenceIdeal.τ Cert.ReferenceIdeal.sig) → Buf (Elt Ideal) ℓ)
    (c : Dev Cert.ReferenceIdeal.nD) :
    ReferenceIdeal.refLp m c = table (m ((c.tc : Thread Cert.ReferenceIdeal.nD Cert.ReferenceIdeal.τ).loc Cert.ReferenceIdeal.main_arg0)) := by
  unfold ReferenceIdeal.refLp
  simp only [entryContents, afterL_cons, afterL_nil]
  after_reads_simp
  simp only [TRef.ofBuf_toBuf]
  unfold table logProbs mass shifted greatest
  rfl

end Cert.Proof

end
-- ==== Proof.ReferenceIdeal.Ends.lean ====
/-
  The reference's results, read off the first hypothesis after the last frame.
-/
module

public import proofs.«01_k».proof.Proof.ReferenceIdeal.Iter

@[expose] public section

set_option maxRecDepth 65536
noncomputable section

namespace Cert.Proof.ReferenceIdeal

open Cert.ReferenceIdeal Cert.ReferenceIdeal.Gen Cert.ReferenceIdeal.Value
open Idealize.ShloMosaic Idealize.ShloMosaic.TcCoe Idealize.ShloMosaic.Tactic Idealize.ShloMosaic.StableHlo
open Cert.Proof.Beam
open Cert.Proof.KernelIdeal (ofBool_and ofBool_or select_ofBool cmpi_eq_ofBool cmpi_ne_ofBool cmpi_sgt_ofBool
  cmpi_slt_ofBool ninf_eq)

variable {A : FVec Ideal S1024x256x92 .f32} {L : IVec S256 32} {Y : Valuation τ sig (Elt Ideal)}

/-! ## The results -/

theorem out_len_val (hI : Inv A L 1024 Y) (B : Fin 256) : (out_main_v21 (Y) : IVec S256 32) (ix1 B)
    = (rowAt (tblLp A B) (tblLive L B) 1024).ln 0 := by
  have h := (hI.rows B).ln 0
  unfold out_main_v21
  generalize (Y (Proc.devRef .tc main_v17_9) : IVec S256x10 32) = y at *
  change IVec S256x10 32 at y
  pointwise []
  exact h

theorem out_sc_val (hI : Inv A L 1024 Y) (B : Fin 256) : (out_main_v23 (Y) : FVec Ideal S256 .f32) (ix1 B)
    = (rowAt (tblLp A B) (tblLive L B) 1024).sc 0 := by
  have h := (hI.rows B).sc 0
  unfold out_main_v23
  generalize (Y (Proc.devRef .tc main_v17_10) : FVec Ideal S256x10 .f32) = y at *
  change FVec Ideal S256x10 .f32 at y
  pointwise []
  exact h

theorem out_tok_val (hI : Inv A L 1024 Y) (B : Fin 256) (p : Fin 1024) : (out_main_v29 (Y) : IVec S256x1024 32) (ix2 B p)
    = (walk (tblLp A B) (tblLive L B) 1024).wd p.val := by
  have h9 := (hI.rows B).ln 0
  have h8 := (hI.rows B).sq 0 p
  rw [walk_end _ _ p.val p.isLt]
  have hle := rowAt_ln_le (tblLp A B) (tblLive L B) 1024 (le_refl _) 0
  unfold out_main_v29
  generalize (Y (Proc.devRef .tc main_v17_9) : IVec S256x10 32) = y9 at *
  change IVec S256x10 32 at y9
  generalize (Y (Proc.devRef .tc main_v17_8) : IVec S256x10x1024 32) = y8 at *
  change IVec S256x10x1024 32 at y8
  have hio : ∀ x : S256x1024.Idx, iotaInDim S256x1024 32 1 x = BitVec.ofNat 32 (x 1).val := fun x => rfl
  generalize iotaInDim S256x1024 32 1 = io at *
  pointwise []
  rw [hio]
  have g9 : y9 (ix2 B 0) = _ := h9
  have g8 : y8 (ix3 B 0 p) = _ := h8
  generalize rowAt (tblLp A B) (tblLive L B) 1024 = S at *
  show Scalar.select (IntOp.cmpi .slt (BitVec.ofNat 32 p.val) (y9 (ix2 B 0))) (y8 (ix3 B 0 p)) _ = _
  rw [g9, g8, cmpi_slt_ofBool, select_ofBool]
  have hn : (BitVec.ofNat 32 p.val).toNat = p.val := by rw [BitVec.toNat_ofNat]; have := p.isLt; omega
  have e1 : (BitVec.ofNat 32 p.val).toInt = p.val := by
    rw [BitVec.toInt_eq_toNat_of_lt (by have := p.isLt; omega), hn]
  have e2 : (S.ln 0).toInt = (S.ln 0).toNat := BitVec.toInt_eq_toNat_of_lt (by omega)
  rw [e1, e2]
  simp only [Nat.cast_lt]

end Cert.Proof.ReferenceIdeal

end
-- ==== Proof.Same.lean ====
/-
  The value claim: of finite logits the kernel and the reference end with the same three arrays, both being what the
  search of each line ends with.
-/
module

public import proofs.«01_k».proof.Defs
public import proofs.«01_k».proof.Proof.LogProbs
public import proofs.«01_k».proof.Proof.Tables
public import proofs.«01_k».proof.Proof.ReferenceIdeal.Ends

@[expose] public section

set_option maxRecDepth 65536
set_option maxHeartbeats 2000000

noncomputable section

namespace Cert.Proof

open Idealize.ShloMosaic Idealize.ShloMosaic.TcCoe Idealize.ShloMosaic.StableHlo Idealize.SL.Sem
open Idealize.ShloMosaic.Tactic

/-- The precondition's one side condition. -/
theorem preFacts : Cert.Pre_finite.Facts := ⟨by decide⟩

/-- A value whose absolute value is below +∞ is finite. -/
theorem finite_of_abs (x : EReal) (h : max x (-x) < ⊤) : x ≠ ⊥ ∧ x ≠ ⊤ := by
  refine ⟨?_, ?_⟩
  · rintro rfl
    rw [EReal.neg_bot, max_eq_right bot_le] at h
    exact lt_irrefl _ h
  · rintro rfl
    exact lt_irrefl _ (lt_of_le_of_lt (le_max_left _ _) h)

/-- The comparison word of `finite` at an index is the comparison of the value there. -/
theorem abs_lt_of_word (x y : EReal) (hy : y = ⊤) (h : BitVec.ofBool (decide (max x (-x) < y)) = 1#1) : max x (-x) < ⊤ := by
  subst hy
  by_contra hn
  rw [decide_eq_false hn] at h
  exact absurd h (by decide)

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The logits the kernel is given. -/
abbrev logits (c : Dev Cert.KernelIdeal.nD) : FVec Ideal Cert.KernelIdeal.S256x1024x92 .f32 :=
  m ((c.tc : Thread Cert.KernelIdeal.nD Cert.KernelIdeal.τ).loc Cert.KernelIdeal.main_arg0)

theorem finite_logits (h : Cert.Pre_KernelIdeal_finite (hPre_finite := preFacts) m) (c : Dev Cert.KernelIdeal.nD)
    (i : Cert.KernelIdeal.S256x1024x92.Idx) : (logits m c i : EReal) ≠ ⊥ ∧ (logits m c i : EReal) ≠ ⊤ := by
  have e := congrFun (h c) i
  exact finite_of_abs _ (abs_lt_of_word _ _ pinf_eq e)

theorem lp_ok (h : Cert.Pre_KernelIdeal_finite (hPre_finite := preFacts) m) (c : Dev Cert.KernelIdeal.nD) : KernelIdeal.LpOk m c := by
  intro i
  rw [kernel_table m c]
  exact table_ne_bot _ (fun i => (finite_logits m h c i).1) (fun i => (finite_logits m h c i).2) i

variable (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))

include h0 in
/-- The two programs search the same log-probabilities of each line. -/
theorem same_lp (B : Fin 256) : ReferenceIdeal.tblLp (ReferenceIdeal.refLp m' c) B = KernelIdeal.lineLp m c B := by
  have e : (ReferenceIdeal.refLp m' c : FVec Ideal Cert.KernelIdeal.S1024x256x92 .f32) = Cert.KernelIdeal.Gen.V m c Cert.KernelIdeal.main_v1 :=
    (reference_table m' c).trans ((congrArg table h0).trans (kernel_table m c).symm)
  funext t ch
  unfold ReferenceIdeal.tblLp KernelIdeal.lineLp
  rw [e]

include h1 in
/-- And the same frames of each line. -/
theorem same_live (B : Fin 256) : ReferenceIdeal.tblLive (ReferenceIdeal.refLen m' c) B = KernelIdeal.lineLive m c B := by
  have e : ReferenceIdeal.refLen m' c (ix1 B) = KernelIdeal.lineLen m c B :=
    (congrFun h1 (ix1 B)).trans (KernelIdeal.lineLen_val m c B).symm
  funext t
  unfold ReferenceIdeal.tblLive KernelIdeal.lineLive
  rw [e]

/-- What the reference's loop ends with. -/
abbrev lastRef : Valuation Cert.ReferenceIdeal.τ Cert.ReferenceIdeal.sig (Elt Ideal) :=
  Cert.ReferenceIdeal.Value.STEP^[1024] (entryContents Cert.ReferenceIdeal.Value.preI m' c)

/-- What the kernel's results hold at the end. -/
abbrev lastKer (b : Ref Cert.KernelIdeal.sig .tc) :=
  Pipeline.afterTail₀ Cert.KernelIdeal.cfgs (KernelIdeal.dats m) 0 (Cert.KernelIdeal.Gen.V0 m) [Cert.KernelIdeal.Gen.hostOps1] c b

theorem inv_last : ReferenceIdeal.Inv (ReferenceIdeal.refLp m' c) (ReferenceIdeal.refLen m' c) 1024 (lastRef m' c) :=
  ReferenceIdeal.inv_iter (ReferenceIdeal.inv_entry m' c) 1024 le_rfl

include h0 h1

theorem same_tok : (Cert.ReferenceIdeal.Value.out_main_v29 (lastRef m' c) : IVec Cert.ReferenceIdeal.S256x1024 32)
    = (lastKer m c Cert.KernelIdeal.main_v4 : IVec Cert.KernelIdeal.S256x1024 32) := by
  funext i
  have e : i = ix2 (i 0) (i 1) := by
    funext a
    fin_cases a <;> rfl
  rw [e]
  refine (ReferenceIdeal.out_tok_val (inv_last m' c) (i 0) (i 1)).trans (Eq.trans ?_ (KernelIdeal.last_tok m c (i 0) (i 1)).symm)
  rw [same_lp m m' c h0 (i 0), same_live m m' c h1 (i 0)]

theorem same_len : (Cert.ReferenceIdeal.Value.out_main_v21 (lastRef m' c) : IVec Cert.ReferenceIdeal.S256 32)
    = (lastKer m c Cert.KernelIdeal.main_v5 : IVec Cert.KernelIdeal.S256 32) := by
  funext i
  have e : i = ix1 (i 0) := by
    funext a
    fin_cases a <;> rfl
  rw [e]
  refine (ReferenceIdeal.out_len_val (inv_last m' c) (i 0)).trans (Eq.trans ?_ (KernelIdeal.last_len m c (i 0)).symm)
  rw [same_lp m m' c h0 (i 0), same_live m m' c h1 (i 0)]

theorem same_sc : (Cert.ReferenceIdeal.Value.out_main_v23 (lastRef m' c) : FVec Ideal Cert.ReferenceIdeal.S256 .f32)
    = (lastKer m c Cert.KernelIdeal.main_v6 : FVec Ideal Cert.KernelIdeal.S256 .f32) := by
  funext i
  have e : i = ix1 (i 0) := by
    funext a
    fin_cases a <;> rfl
  rw [e]
  refine (ReferenceIdeal.out_sc_val (inv_last m' c) (i 0)).trans (Eq.trans ?_ (KernelIdeal.last_sc m c (i 0)).symm)
  rw [same_lp m m' c h0 (i 0), same_live m m' c h1 (i 0)]

end

/-- Of finite logits, both programs run and end with the same results. -/
theorem value : Cert.algebraic_KernelIdeal_ReferenceIdeal_pre_finite (hKernelIdeal := Cert.KernelIdeal.Gen.facts)
    (hReferenceIdeal := Cert.ReferenceIdeal.Gen.facts) (hPre_finite := preFacts) := by
  intro m g m' g' hm hargs
  refine ⟨fun c => lastKer m c Cert.KernelIdeal.main_v4, fun c => lastKer m c Cert.KernelIdeal.main_v5,
    fun c => lastKer m c Cert.KernelIdeal.main_v6, ?_, ?_⟩
  · refine (θ_run _ _ _).mono (fun r h c => ?_) (KernelIdeal.run_main m g (lp_ok m hm))
    exact ⟨(h.1 c).2 Cert.KernelIdeal.main_v4 (Pipeline.mem_restRefs_of Cert.KernelIdeal.main_v4 (by decide) (by decide)),
      (h.1 c).2 Cert.KernelIdeal.main_v5 (Pipeline.mem_restRefs_of Cert.KernelIdeal.main_v5 (by decide) (by decide)),
      (h.1 c).2 Cert.KernelIdeal.main_v6 (Pipeline.mem_restRefs_of Cert.KernelIdeal.main_v6 (by decide) (by decide)),
      ((h.1 c).2 Cert.KernelIdeal.main_arg0 (Pipeline.mem_restRefs_of Cert.KernelIdeal.main_arg0 (by decide) (by decide))).trans
        (Cert.KernelIdeal.Gen.W_main_arg0 m (KernelIdeal.dats m) c),
      ((h.1 c).2 Cert.KernelIdeal.main_arg1 (Pipeline.mem_restRefs_of Cert.KernelIdeal.main_arg1 (by decide) (by decide))).trans
        (Cert.KernelIdeal.Gen.W_main_arg1 m (KernelIdeal.dats m) c)⟩
  · refine (θ_run _ _ _).mono (fun r h c => ?_) (Cert.ReferenceIdeal.Value.run m' g')
    obtain ⟨ht, hl, hs, ha0, ha1⟩ := h c
    exact ⟨ht.trans (same_tok m m' c (hargs c).1 (hargs c).2), hl.trans (same_len m m' c (hargs c).1 (hargs c).2),
      hs.trans (same_sc m m' c (hargs c).1 (hargs c).2), ha0, ha1⟩

end Cert.Proof

end
-- ==== Proof.lean ====
/- The certificate: the frames of the kernel at words and at the extended reals, the frame of the reference, the
   one rewrite of the idealization (the mask constant named as minus infinity), and the value claim: of finite logits
   the kernel and the reference end with the same results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Frame
public import proofs.«01_k».proof.Proof.KernelIdeal.Frame
public import proofs.«01_k».proof.Proof.ReferenceIdeal.Frame
public import proofs.«01_k».proof.Proof.Same

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, preFacts,
  fun m g _ => Cert.Proof.Kernel.frameF m g,
  fun m g _ => Cert.Proof.KernelIdeal.frameF m g,
  fun m g _ => Cert.Proof.KernelIdeal.frameF m g,
  fun m g _ => Cert.Proof.ReferenceIdeal.frameF m g,
  fun m g _ => Cert.Proof.ReferenceIdeal.frameF m g,
  IdealRules.named_const.statement _ _ .f32 _ ⊥ rfl,
  value⟩

end Cert.Proof

end
